-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_all_finite [hPre_all_finite : Cert.Pre_all_finite.Facts] (m : (ℓ : Loc Cert.ScanIdeal.nD Cert.ScanIdeal.τ Cert.ScanIdeal.sig) → Buf (Elt Ideal) ℓ) : Prop :=
  ∀ c : Dev Cert.ScanIdeal.nD,
    (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.2.1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.2.2.1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.2.2.2.1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.2.2.2.2.1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.2.2.2.2.2.1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.2.2.2.2.2.2.1 = (fun _ => 1#1)
    ∧ (Cert.Pre_all_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))).2.2.2.2.2.2.2.2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_all_finite [hPre_all_finite : Cert.Pre_all_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.2.1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.2.2.1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.2.2.2.1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.2.2.2.2.1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.2.2.2.2.2.1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.2.2.2.2.2.2.1 = (fun _ => 1#1)
    ∧ (Cert.Pre_all_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))).2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_mix_finite [hPre_mix_finite : Cert.Pre_mix_finite.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_mix_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11)) (m ((c.tc : Thread Cert.MixOutIdeal.nD Cert.MixOutIdeal.τ).loc Cert.MixOutIdeal.main_arg12))).1 = (fun _ => 1#1)
    ∧ (Cert.Pre_mix_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11)) (m ((c.tc : Thread Cert.MixOutIdeal.nD Cert.MixOutIdeal.τ).loc Cert.MixOutIdeal.main_arg12))).2 = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_mix_finite [hPre_mix_finite : Cert.Pre_mix_finite.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_mix_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10)) (m ((c.tc : Thread Cert.MixOutRefIdeal.nD Cert.MixOutRefIdeal.τ).loc Cert.MixOutRefIdeal.main_arg11)) (m ((c.tc : Thread Cert.MixOutRefIdeal.nD Cert.MixOutRefIdeal.τ).loc Cert.MixOutRefIdeal.main_arg12))).1 = (fun _ => 1#1)
    ∧ (Cert.Pre_mix_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10)) (m ((c.tc : Thread Cert.MixOutRefIdeal.nD Cert.MixOutRefIdeal.τ).loc Cert.MixOutRefIdeal.main_arg11)) (m ((c.tc : Thread Cert.MixOutRefIdeal.nD Cert.MixOutRefIdeal.τ).loc Cert.MixOutRefIdeal.main_arg12))).2 = (fun _ => 1#1)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanIdeal_pre_all_finite [hScanIdeal : Cert.ScanIdeal.Facts] [hPre_all_finite : Cert.Pre_all_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_all_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8))
      ∧ r.2.sem = fun _ => 0)

def quiescent_ScanRefIdeal_pre_all_finite [hScanRefIdeal : Cert.ScanRefIdeal.Facts] [hPre_all_finite : Cert.Pre_all_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_all_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12))
      ∧ r.2.sem = fun _ => 0)

def quiescent_MixOutIdeal_pre_mix_finite [hMixOutIdeal : Cert.MixOutIdeal.Facts] [hPre_mix_finite : Cert.Pre_mix_finite.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_mix_finite m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12))
      ∧ r.2.sem = fun _ => 0)

def quiescent_MixOutRefIdeal_pre_mix_finite [hMixOutRefIdeal : Cert.MixOutRefIdeal.Facts] [hPre_mix_finite : Cert.Pre_mix_finite.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_mix_finite m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12))
      ∧ r.2.sem = fun _ => 0)

def preserves_Scan_ScanIdeal : Prop :=
  True

def algebraic_ScanIdeal_ScanRefIdeal_pre_all_finite [hScanIdeal : Cert.ScanIdeal.Facts] [hScanRefIdeal : Cert.ScanRefIdeal.Facts] [hPre_all_finite : Cert.Pre_all_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_all_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v60) = v0 c
          ∧ r.2.mem ((c.tc : Thread Cert.ScanRefIdeal.nD Cert.ScanRefIdeal.τ).loc Cert.ScanRefIdeal.main_v65) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v33) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v15) = v1 c
          ∧ r.2.mem ((c.tc : Thread Cert.InprojRefIdeal.nD Cert.InprojRefIdeal.τ).loc Cert.InprojRefIdeal.main_v17) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_v16) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v3)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v3) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v37) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_MixOut_MixOutIdeal : Prop :=
  True

def algebraic_MixOutIdeal_MixOutRefIdeal_pre_mix_finite [hMixOutIdeal : Cert.MixOutIdeal.Facts] [hMixOutRefIdeal : Cert.MixOutRefIdeal.Facts] [hPre_mix_finite : Cert.Pre_mix_finite.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_mix_finite m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)
      ∧ m' ((c.tc : Thread Cert.MixOutRefIdeal.nD Cert.MixOutRefIdeal.τ).loc Cert.MixOutRefIdeal.main_arg12) = m ((c.tc : Thread Cert.MixOutIdeal.nD Cert.MixOutIdeal.τ).loc Cert.MixOutIdeal.main_arg12)) →
    ∃ (v0 : (c : Dev Cert.MixOutIdeal.nD) → Buf (Elt Ideal) ((c.tc : Thread Cert.MixOutIdeal.nD Cert.MixOutIdeal.τ).loc Cert.MixOutIdeal.main_v17)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v17) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v51) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11)
          ∧ r.2.mem ((c.tc : Thread Cert.MixOutRefIdeal.nD Cert.MixOutRefIdeal.τ).loc Cert.MixOutRefIdeal.main_arg12) = m' ((c.tc : Thread Cert.MixOutRefIdeal.nD Cert.MixOutRefIdeal.τ).loc Cert.MixOutRefIdeal.main_arg12))

def Claim : Prop :=
  ∃ (hScan : Cert.Scan.Facts) (hScanIdeal : Cert.ScanIdeal.Facts) (hScanRefIdeal : Cert.ScanRefIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hInproj : Cert.Inproj.Facts) (hInprojIdeal : Cert.InprojIdeal.Facts) (hInprojRefIdeal : Cert.InprojRefIdeal.Facts) (hMemKv : Cert.MemKv.Facts) (hMemKvIdeal : Cert.MemKvIdeal.Facts) (hMemKvRefIdeal : Cert.MemKvRefIdeal.Facts) (hXattn : Cert.Xattn.Facts) (hXattnIdeal : Cert.XattnIdeal.Facts) (hXattnRefIdeal : Cert.XattnRefIdeal.Facts) (hMixOut : Cert.MixOut.Facts) (hMixOutIdeal : Cert.MixOutIdeal.Facts) (hMixOutRefIdeal : Cert.MixOutRefIdeal.Facts) (hPre_all_finite : Cert.Pre_all_finite.Facts) (hPre_mix_finite : Cert.Pre_mix_finite.Facts),
    quiescent_Scan (hScan := hScan)
    ∧ quiescent_ScanIdeal (hScanIdeal := hScanIdeal)
    ∧ quiescent_ScanIdeal_pre_all_finite (hScanIdeal := hScanIdeal) (hPre_all_finite := hPre_all_finite)
    ∧ quiescent_ScanRefIdeal (hScanRefIdeal := hScanRefIdeal)
    ∧ quiescent_ScanRefIdeal_pre_all_finite (hScanRefIdeal := hScanRefIdeal) (hPre_all_finite := hPre_all_finite)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Inproj (hInproj := hInproj)
    ∧ quiescent_InprojIdeal (hInprojIdeal := hInprojIdeal)
    ∧ quiescent_InprojRefIdeal (hInprojRefIdeal := hInprojRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Xattn (hXattn := hXattn)
    ∧ quiescent_XattnIdeal (hXattnIdeal := hXattnIdeal)
    ∧ quiescent_XattnRefIdeal (hXattnRefIdeal := hXattnRefIdeal)
    ∧ quiescent_MixOut (hMixOut := hMixOut)
    ∧ quiescent_MixOutIdeal (hMixOutIdeal := hMixOutIdeal)
    ∧ quiescent_MixOutIdeal_pre_mix_finite (hMixOutIdeal := hMixOutIdeal) (hPre_mix_finite := hPre_mix_finite)
    ∧ quiescent_MixOutRefIdeal (hMixOutRefIdeal := hMixOutRefIdeal)
    ∧ quiescent_MixOutRefIdeal_pre_mix_finite (hMixOutRefIdeal := hMixOutRefIdeal) (hPre_mix_finite := hPre_mix_finite)
    ∧ preserves_Scan_ScanIdeal
    ∧ algebraic_ScanIdeal_ScanRefIdeal_pre_all_finite (hScanIdeal := hScanIdeal) (hScanRefIdeal := hScanRefIdeal) (hPre_all_finite := hPre_all_finite)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Inproj_InprojIdeal
    ∧ algebraic_InprojIdeal_InprojRefIdeal (hInprojIdeal := hInprojIdeal) (hInprojRefIdeal := hInprojRefIdeal)
    ∧ preserves_MemKv_MemKvIdeal
    ∧ algebraic_MemKvIdeal_MemKvRefIdeal (hMemKvIdeal := hMemKvIdeal) (hMemKvRefIdeal := hMemKvRefIdeal)
    ∧ preserves_Xattn_XattnIdeal
    ∧ algebraic_XattnIdeal_XattnRefIdeal (hXattnIdeal := hXattnIdeal) (hXattnRefIdeal := hXattnRefIdeal)
    ∧ preserves_MixOut_MixOutIdeal
    ∧ algebraic_MixOutIdeal_MixOutRefIdeal_pre_mix_finite (hMixOutIdeal := hMixOutIdeal) (hMixOutRefIdeal := hMixOutRefIdeal) (hPre_mix_finite := hPre_mix_finite)
-- ==== Pre_all_finite.lean ====
abbrev S4x8192x384 : Shape := ⟨3, ![4, 8192, 384]⟩
abbrev S_ : Shape := ⟨0, ![]⟩

class Facts : Prop where
  bcast_S_S4x8192x384 : S_.BroadcastsInDim S4x8192x384 (![] : Fin 0 → Fin S4x8192x384.rank)

variable [Facts]

def fn_part1 {F : FTy → Type} [FloatOps F] (main_arg6 : FVec F S4x8192x384 .f32) (main_arg7 : FVec F S4x8192x384 .f32) (main_arg8 : FVec F S4x8192x384 .f32) (main_v2 : IVec S4x8192x384 1) (main_v5 : IVec S4x8192x384 1) (main_v8 : IVec S4x8192x384 1) (main_v11 : IVec S4x8192x384 1) (main_v14 : IVec S4x8192x384 1) (main_v17 : IVec S4x8192x384 1) : IVec S4x8192x384 1 × IVec S4x8192x384 1 × IVec S4x8192x384 1 × IVec S4x8192x384 1 × IVec S4x8192x384 1 × IVec S4x8192x384 1 × IVec S4x8192x384 1 × IVec S4x8192x384 1 × IVec S4x8192x384 1 :=
  let main_v18 : FVec F S4x8192x384 .f32 := Host.absf main_arg6
  let main_cst_5 : FVec F S_ .f32 := constant S_ .f32 0x7F800000#32
  let main_v19 : FVec F S4x8192x384 .f32 := broadcastInDim S4x8192x384 ![] bcast_S_S4x8192x384 main_cst_5
  let main_v20 : IVec S4x8192x384 1 := cmpf .olt main_v18 main_v19
  let main_v21 : FVec F S4x8192x384 .f32 := Host.absf main_arg7
  let main_cst_6 : FVec F S_ .f32 := constant S_ .f32 0x7F800000#32
  let main_v22 : FVec F S4x8192x384 .f32 := broadcastInDim S4x8192x384 ![] bcast_S_S4x8192x384 main_cst_6
  let main_v23 : IVec S4x8192x384 1 := cmpf .olt main_v21 main_v22
  let main_v24 : FVec F S4x8192x384 .f32 := Host.absf main_arg8
  let main_cst_7 : FVec F S_ .f32 := constant S_ .f32 0x7F800000#32
  let main_v25 : FVec F S4x8192x384 .f32 := broadcastInDim S4x8192x384 ![] bcast_S_S4x8192x384 main_cst_7
  let main_v26 : IVec S4x8192x384 1 := cmpf .olt main_v24 main_v25
  (main_v2, main_v5, main_v8, main_v11, main_v14, main_v17, main_v20, main_v23, main_v26)

def fn {F : FTy → Type} [FloatOps F] (main_arg0 : FVec F S4x8192x384 .f32) (main_arg1 : FVec F S4x8192x384 .f32) (main_arg2 : FVec F S4x8192x384 .f32) (main_arg3 : FVec F S4x8192x384 .f32) (main_arg4 : FVec F S4x8192x384 .f32) (main_arg5 : FVec F S4x8192x384 .f32) (main_arg6 : FVec F S4x8192x384 .f32) (main_arg7 : FVec F S4x8192x384 .f32) (main_arg8 : FVec F S4x8192x384 .f32) : IVec S4x8192x384 1 × IVec S4x8192x384 1 × IVec S4x8192x384 1 × IVec S4x8192x384 1 × IVec S4x8192x384 1 × IVec S4x8192x384 1 × IVec S4x8192x384 1 × IVec S4x8192x384 1 × IVec S4x8192x384 1 :=
  let main_v0 : FVec F S4x8192x384 .f32 := Host.absf main_arg0
  let main_cst : FVec F S_ .f32 := constant S_ .f32 0x7F800000#32
  let main_v1 : FVec F S4x8192x384 .f32 := broadcastInDim S4x8192x384 ![] bcast_S_S4x8192x384 main_cst
  let main_v2 : IVec S4x8192x384 1 := cmpf .olt main_v0 main_v1
  let main_v3 : FVec F S4x8192x384 .f32 := Host.absf main_arg1
  let main_cst_0 : FVec F S_ .f32 := constant S_ .f32 0x7F800000#32
  let main_v4 : FVec F S4x8192x384 .f32 := broadcastInDim S4x8192x384 ![] bcast_S_S4x8192x384 main_cst_0
  let main_v5 : IVec S4x8192x384 1 := cmpf .olt main_v3 main_v4
  let main_v6 : FVec F S4x8192x384 .f32 := Host.absf main_arg2
  let main_cst_1 : FVec F S_ .f32 := constant S_ .f32 0x7F800000#32
  let main_v7 : FVec F S4x8192x384 .f32 := broadcastInDim S4x8192x384 ![] bcast_S_S4x8192x384 main_cst_1
  let main_v8 : IVec S4x8192x384 1 := cmpf .olt main_v6 main_v7
  let main_v9 : FVec F S4x8192x384 .f32 := Host.absf main_arg3
  let main_cst_2 : FVec F S_ .f32 := constant S_ .f32 0x7F800000#32
  let main_v10 : FVec F S4x8192x384 .f32 := broadcastInDim S4x8192x384 ![] bcast_S_S4x8192x384 main_cst_2
  let main_v11 : IVec S4x8192x384 1 := cmpf .olt main_v9 main_v10
  let main_v12 : FVec F S4x8192x384 .f32 := Host.absf main_arg4
  let main_cst_3 : FVec F S_ .f32 := constant S_ .f32 0x7F800000#32
  let main_v13 : FVec F S4x8192x384 .f32 := broadcastInDim S4x8192x384 ![] bcast_S_S4x8192x384 main_cst_3
  let main_v14 : IVec S4x8192x384 1 := cmpf .olt main_v12 main_v13
  let main_v15 : FVec F S4x8192x384 .f32 := Host.absf main_arg5
  let main_cst_4 : FVec F S_ .f32 := constant S_ .f32 0x7F800000#32
  let main_v16 : FVec F S4x8192x384 .f32 := broadcastInDim S4x8192x384 ![] bcast_S_S4x8192x384 main_cst_4
  let main_v17 : IVec S4x8192x384 1 := cmpf .olt main_v15 main_v16
  fn_part1 (F := F) main_arg6 main_arg7 main_arg8 main_v2 main_v5 main_v8 main_v11 main_v14 main_v17
-- ==== Pre_mix_finite.lean ====
abbrev S32768x1024 : Shape := ⟨2, ![32768, 1024]⟩
abbrev S32768x256 : Shape := ⟨2, ![32768, 256]⟩
abbrev S32768x384 : Shape := ⟨2, ![32768, 384]⟩
abbrev S32768x1664 : Shape := ⟨2, ![32768, 1664]⟩
abbrev S384 : Shape := ⟨1, ![384]⟩
abbrev S64 : Shape := ⟨1, ![64]⟩
abbrev S1024x1024 : Shape := ⟨2, ![1024, 1024]⟩
abbrev S_ : Shape := ⟨0, ![]⟩

class Facts : Prop where
  bcast_S_S32768x384 : S_.BroadcastsInDim S32768x384 (![] : Fin 0 → Fin S32768x384.rank)

variable [Facts]

def fn {F : FTy → Type} [FloatOps F] (main_arg0 : FVec F S32768x1024 .f32) (main_arg1 : FVec F S32768x256 .f32) (main_arg2 : FVec F S32768x384 .f32) (main_arg3 : FVec F S32768x384 .f32) (main_arg4 : FVec F S32768x384 .f32) (main_arg5 : FVec F S32768x384 .f32) (main_arg6 : FVec F S32768x384 .f32) (main_arg7 : FVec F S32768x384 .f32) (main_arg8 : FVec F S32768x1664 .f32) (main_arg9 : FVec F S384 .f32) (main_arg10 : FVec F S384 .f32) (main_arg11 : FVec F S64 .f32) (main_arg12 : FVec F S1024x1024 .f32) : IVec S32768x384 1 × IVec S32768x384 1 :=
  let main_v0 : FVec F S32768x384 .f32 := addf main_arg2 main_arg3
  let main_v1 : FVec F S32768x384 .f32 := Host.absf main_v0
  let main_cst : FVec F S_ .f32 := constant S_ .f32 0x7F800000#32
  let main_v2 : FVec F S32768x384 .f32 := broadcastInDim S32768x384 ![] bcast_S_S32768x384 main_cst
  let main_v3 : IVec S32768x384 1 := cmpf .olt main_v1 main_v2
  let main_v4 : FVec F S32768x384 .f32 := addf main_arg6 main_arg7
  let main_v5 : FVec F S32768x384 .f32 := Host.absf main_v4
  let main_cst_0 : FVec F S_ .f32 := constant S_ .f32 0x7F800000#32
  let main_v6 : FVec F S32768x384 .f32 := broadcastInDim S32768x384 ![] bcast_S_S32768x384 main_cst_0
  let main_v7 : IVec S32768x384 1 := cmpf .olt main_v5 main_v6
  (main_v3, main_v7)
-- ==== Scan.lean ====
abbrev S4x8192x384 : Shape := ⟨3, ![4, 8192, 384]⟩
abbrev S1x64x384 : Shape := ⟨3, ![1, 64, 384]⟩
abbrev S2x3x128x128 : Shape := ⟨4, ![2, 3, 128, 128]⟩
abbrev S1x128 : Shape := ⟨2, ![1, 128]⟩
abbrev S1x64x128 : Shape := ⟨3, ![1, 64, 128]⟩
abbrev S64x128 : Shape := ⟨2, ![64, 128]⟩
abbrev S1x1x128x128 : Shape := ⟨4, ![1, 1, 128, 128]⟩
abbrev S128x128 : Shape := ⟨2, ![128, 128]⟩
abbrev S64x64 : Shape := ⟨2, ![64, 64]⟩
abbrev S256x128 : Shape := ⟨2, ![256, 128]⟩
abbrev S256x256 : Shape := ⟨2, ![256, 256]⟩
abbrev S128x256 : Shape := ⟨2, ![128, 256]⟩

abbrev nBuf : Space → Nat
  | .hbm => 11
  | .vmem => 29
  | .smem => 0
  | _ => 0

abbrev bufTy : (tb : Table) → Fin (tcTables nBuf tb) → BufTy
  | .hbm, ⟨0, _⟩ => ⟨S4x8192x384, .f32⟩
  | .hbm, ⟨1, _⟩ => ⟨S4x8192x384, .f32⟩
  | .hbm, ⟨2, _⟩ => ⟨S4x8192x384, .f32⟩
  | .hbm, ⟨3, _⟩ => ⟨S4x8192x384, .f32⟩
  | .hbm, ⟨4, _⟩ => ⟨S4x8192x384, .f32⟩
  | .hbm, ⟨5, _⟩ => ⟨S4x8192x384, .f32⟩
  | .hbm, ⟨6, _⟩ => ⟨S4x8192x384, .f32⟩
  | .hbm, ⟨7, _⟩ => ⟨S4x8192x384, .f32⟩
  | .hbm, ⟨8, _⟩ => ⟨S4x8192x384, .f32⟩
  | .hbm, ⟨9, _⟩ => ⟨S4x8192x384, .f32⟩
  | .hbm, ⟨10, _⟩ => ⟨S4x8192x384, .f32⟩
  | .local _ .vmem, ⟨0, _⟩ => ⟨S1x64x384, .f32⟩
  | .local _ .vmem, ⟨1, _⟩ => ⟨S1x64x384, .f32⟩
  | .local _ .vmem, ⟨2, _⟩ => ⟨S1x64x384, .f32⟩
  | .local _ .vmem, ⟨3, _⟩ => ⟨S1x64x384, .f32⟩
  | .local _ .vmem, ⟨4, _⟩ => ⟨S1x64x384, .f32⟩
  | .local _ .vmem, ⟨5, _⟩ => ⟨S1x64x384, .f32⟩
  | .local _ .vmem, ⟨6, _⟩ => ⟨S1x64x384, .f32⟩
  | .local _ .vmem, ⟨7, _⟩ => ⟨S1x64x384, .f32⟩
  | .local _ .vmem, ⟨8, _⟩ => ⟨S1x64x384, .f32⟩
  | .local _ .vmem, ⟨9, _⟩ => ⟨S1x64x384, .f32⟩
  | .local _ .vmem, ⟨10, _⟩ => ⟨S1x64x384, .f32⟩
  | .local _ .vmem, ⟨11, _⟩ => ⟨S1x64x384, .f32⟩
  | .local _ .vmem, ⟨12, _⟩ => ⟨S1x64x384, .f32⟩
  | .local _ .vmem, ⟨13, _⟩ => ⟨S1x64x384, .f32⟩
  | .local _ .vmem, ⟨14, _⟩ => ⟨S1x64x384, .f32⟩
  | .local _ .vmem, ⟨15, _⟩ => ⟨S1x64x384, .f32⟩
  | .local _ .vmem, ⟨16, _⟩ => ⟨S1x64x384, .f32⟩
  | .local _ .vmem, ⟨17, _⟩ => ⟨S1x64x384, .f32⟩
  | .local _ .vmem, ⟨18, _⟩ => ⟨S1x64x384, .f32⟩
  | .local _ .vmem, ⟨19, _⟩ => ⟨S1x64x384, .f32⟩
  | .local _ .vmem, ⟨20, _⟩ => ⟨S1x64x384, .f32⟩
  | .local _ .vmem, ⟨21, _⟩ => ⟨S1x64x384, .f32⟩
  | .local _ .vmem, ⟨22, _⟩ => ⟨S1x64x384, .f32⟩
  | .local _ .vmem, ⟨23, _⟩ => ⟨S1x64x384, .f32⟩
  | .local _ .vmem, ⟨24, _⟩ => ⟨S1x64x384, .f32⟩
  | .local _ .vmem, ⟨25, _⟩ => ⟨S1x64x384, .f32⟩
  | .local _ .vmem, ⟨26, _⟩ => ⟨S1x64x384, .f32⟩
  | .local _ .vmem, ⟨27, _⟩ => ⟨S1x64x384, .f32⟩
  | .local _ .vmem, ⟨28, _⟩ => ⟨S2x3x128x128, .f32⟩
  | _, _ => ⟨S4x8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.subi c127_i32 arg1
  let c0_i32 : BitVec 32 := 0#32
  let c0_i32_0 : BitVec 32 := 0#32
  ![arg0.toNat, v0.toNat, c0_i32.toNat]

abbrev stage0_0 : Fin 2 → Memref sig .tc .vmem S1x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ScanRefIdeal.lean ====
abbrev S4x8192x384 : Shape := ⟨3, ![4, 8192, 384]⟩
abbrev S_ : Shape := ⟨0, ![]⟩
abbrev S2x4x6x64x64 : Shape := ⟨5, ![2, 4, 6, 64, 64]⟩
abbrev S4x8192x6x64 : Shape := ⟨4, ![4, 8192, 6, 64]⟩
abbrev S8192x4x6x64 : Shape := ⟨4, ![8192, 4, 6, 64]⟩
abbrev S8192x1x4x6x64 : Shape := ⟨5, ![8192, 1, 4, 6, 64]⟩
abbrev S8192x2x4x6x64 : Shape := ⟨5, ![8192, 2, 4, 6, 64]⟩
abbrev S1x2x4x6x64 : Shape := ⟨5, ![1, 2, 4, 6, 64]⟩
abbrev S2x4x6x64 : Shape := ⟨4, ![2, 4, 6, 64]⟩
abbrev S2x4x6x1x64 : Shape := ⟨5, ![2, 4, 6, 1, 64]⟩
abbrev S2x4x6x64x1 : Shape := ⟨5, ![2, 4, 6, 64, 1]⟩

abbrev nBuf : Space → Nat
  | .hbm => 149
  | .vmem => 0
  | .smem => 0
  | _ => 0

abbrev hbmTy0_0 (i : Nat) : BufTy := match i % 128 with
  | 0 => ⟨S4x8192x384, .f32⟩
  | 1 => ⟨S4x8192x384, .f32⟩
  | 2 => ⟨S4x8192x384, .f32⟩
  | 3 => ⟨S4x8192x384, .f32⟩
  | 4 => ⟨S4x8192x384, .f32⟩
  | 5 => ⟨S4x8192x384, .f32⟩
  | 6 => ⟨S4x8192x384, .f32⟩
  | 7 => ⟨S4x8192x384, .f32⟩
  | 8 => ⟨S4x8192x384, .f32⟩
  | 9 => ⟨S_, .f32⟩
  | 10 => ⟨S2x4x6x64x64, .f32⟩
  | 11 => ⟨S4x8192x6x64, .f32⟩
  | 12 => ⟨S8192x4x6x64, .f32⟩
  | 13 => ⟨S4x8192x6x64, .f32⟩
  | 14 => ⟨S8192x4x6x64, .f32⟩
  | 15 => ⟨S8192x4x6x64, .f32⟩
  | 16 => ⟨S8192x1x4x6x64, .f32⟩
  | 17 => ⟨S8192x1x4x6x64, .f32⟩
  | 18 => ⟨S8192x2x4x6x64, .f32⟩
  | 19 => ⟨S4x8192x384, .f32⟩
  | 20 => ⟨S4x8192x384, .f32⟩
  | 21 => ⟨S4x8192x6x64, .f32⟩
  | 22 => ⟨S8192x4x6x64, .f32⟩
  | 23 => ⟨S4x8192x6x64, .f32⟩
  | 24 => ⟨S8192x4x6x64, .f32⟩
  | 25 => ⟨S8192x4x6x64, .f32⟩
  | 26 => ⟨S8192x1x4x6x64, .f32⟩
  | 27 => ⟨S8192x1x4x6x64, .f32⟩
  | 28 => ⟨S8192x2x4x6x64, .f32⟩
  | 29 => ⟨S4x8192x6x64, .f32⟩
  | 30 => ⟨S8192x4x6x64, .f32⟩
  | 31 => ⟨S4x8192x6x64, .f32⟩
  | 32 => ⟨S8192x4x6x64, .f32⟩
  | 33 => ⟨S8192x4x6x64, .f32⟩
  | 34 => ⟨S8192x1x4x6x64, .f32⟩
  | 35 => ⟨S8192x1x4x6x64, .f32⟩
  | 36 => ⟨S8192x2x4x6x64, .f32⟩
  | 37 => ⟨S4x8192x6x64, .f32⟩
  | 38 => ⟨S8192x4x6x64, .f32⟩
  | 39 => ⟨S4x8192x6x64, .f32⟩
  | 40 => ⟨S8192x4x6x64, .f32⟩
  | 41 => ⟨S8192x4x6x64, .f32⟩
  | 42 => ⟨S8192x1x4x6x64, .f32⟩
  | 43 => ⟨S8192x1x4x6x64, .f32⟩
  | 44 => ⟨S8192x2x4x6x64, .f32⟩
  | 45 => ⟨S4x8192x384, .f32⟩
  | 46 => ⟨S4x8192x384, .f32⟩
  | 47 => ⟨S4x8192x6x64, .f32⟩
  | 48 => ⟨S8192x4x6x64, .f32⟩
  | 49 => ⟨S4x8192x6x64, .f32⟩
  | 50 => ⟨S8192x4x6x64, .f32⟩
  | 51 => ⟨S8192x4x6x64, .f32⟩
  | 52 => ⟨S8192x1x4x6x64, .f32⟩
  | 53 => ⟨S8192x1x4x6x64, .f32⟩
  | 54 => ⟨S8192x2x4x6x64, .f32⟩
  | 55 => ⟨S4x8192x384, .f32⟩
  | 56 => ⟨S4x8192x384, .f32⟩
  | 57 => ⟨S4x8192x6x64, .f32⟩
  | 58 => ⟨S8192x4x6x64, .f32⟩
  | 59 => ⟨S4x8192x6x64, .f32⟩
  | 60 => ⟨S8192x4x6x64, .f32⟩
  | 61 => ⟨S8192x4x6x64, .f32⟩
  | 62 => ⟨S8192x1x4x6x64, .f32⟩
  | 63 => ⟨S8192x1x4x6x64, .f32⟩
  | 64 => ⟨S8192x2x4x6x64, .f32⟩
  | 65 => ⟨S_, .f32⟩
  | 66 => ⟨S8192x2x4x6x64, .f32⟩
  | 67 => ⟨S_, .i32⟩
  | 68 => ⟨S8192x2x4x6x64, .f32⟩
  | 69 => ⟨S8192x2x4x6x64, .f32⟩
  | 70 => ⟨S8192x2x4x6x64, .f32⟩
  | 71 => ⟨S8192x2x4x6x64, .f32⟩
  | 72 => ⟨S8192x2x4x6x64, .f32⟩
  | 73 => ⟨S8192x2x4x6x64, .f32⟩
  | 74 => ⟨S_, .i32⟩
  | 75 => ⟨S2x4x6x64x64, .f32⟩
  | 76 => ⟨S8192x2x4x6x64, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x2x4x6x64, .f32⟩
  | 84 => ⟨S2x4x6x64, .f32⟩
  | 85 => ⟨S_, .i32⟩
  | 86 => ⟨S_, .i32⟩
  | 87 => ⟨S_, .i32⟩
  | 88 => ⟨S_, .i32⟩
  | 89 => ⟨S1x2x4x6x64, .f32⟩
  | 90 => ⟨S2x4x6x64, .f32⟩
  | 91 => ⟨S_, .i32⟩
  | 92 => ⟨S_, .i32⟩
  | 93 => ⟨S_, .i32⟩
  | 94 => ⟨S_, .i32⟩
  | 95 => ⟨S1x2x4x6x64, .f32⟩
  | 96 => ⟨S2x4x6x64, .f32⟩
  | 97 => ⟨S_, .i32⟩
  | 98 => ⟨S_, .i32⟩
  | 99 => ⟨S_, .i32⟩
  | 100 => ⟨S_, .i32⟩
  | 101 => ⟨S1x2x4x6x64, .f32⟩
  | 102 => ⟨S2x4x6x64, .f32⟩
  | 103 => ⟨S_, .i32⟩
  | 104 => ⟨S_, .i32⟩
  | 105 => ⟨S_, .i32⟩
  | 106 => ⟨S_, .i32⟩
  | 107 => ⟨S1x2x4x6x64, .f32⟩
  | 108 => ⟨S2x4x6x64, .f32⟩
  | 109 => ⟨S_, .i32⟩
  | 110 => ⟨S_, .i32⟩
  | 111 => ⟨S_, .i32⟩
  | 112 => ⟨S_, .i32⟩
  | 113 => ⟨S1x2x4x6x64, .f32⟩
  | 114 => ⟨S2x4x6x64, .f32⟩
  | 115 => ⟨S2x4x6x64, .f32⟩
  | 116 => ⟨S2x4x6x1x64, .f32⟩
  | 117 => ⟨S2x4x6x64x64, .f32⟩
  | 118 => ⟨S2x4x6x64x64, .f32⟩
  | 119 => ⟨S2x4x6x64x1, .f32⟩
  | 120 => ⟨S2x4x6x1x64, .f32⟩
  | 121 => ⟨S2x4x6x64x64, .f32⟩
  | 122 => ⟨S2x4x6x64x64, .f32⟩
  | 123 => ⟨S2x4x6x64x64, .f32⟩
  | 124 => ⟨S2x4x6x64x64, .f32⟩
  | 125 => ⟨S2x4x6x64x1, .f32⟩
  | 126 => ⟨S2x4x6x1x64, .f32⟩
  | 127 => ⟨S2x4x6x64x64, .f32⟩
  | _ => ⟨S4x8192x384, .f32⟩

abbrev hbmTy0_1 (i : Nat) : BufTy := match i % 128 with
  | 0 => ⟨S2x4x6x64x64, .f32⟩
  | 1 => ⟨S2x4x6x64x64, .f32⟩
  | 2 => ⟨S2x4x6x64x64, .f32⟩
  | 3 => ⟨S2x4x6x64, .f32⟩
  | 4 => ⟨S1x2x4x6x64, .f32⟩
  | 5 => ⟨S_, .i32⟩
  | 6 => ⟨S_, .i32⟩
  | 7 => ⟨S_, .i32⟩
  | 8 => ⟨S_, .i32⟩
  | 9 => ⟨S8192x2x4x6x64, .f32⟩
  | 10 => ⟨S_, .i32⟩
  | 11 => ⟨S_, .i32⟩
  | 12 => ⟨S8192x1x4x6x64, .f32⟩
  | 13 => ⟨S8192x4x6x64, .f32⟩
  | 14 => ⟨S4x8192x6x64, .f32⟩
  | 15 => ⟨S4x8192x384, .f32⟩
  | 16 => ⟨S8192x1x4x6x64, .f32⟩
  | 17 => ⟨S8192x4x6x64, .f32⟩
  | 18 => ⟨S8192x4x6x64, .f32⟩
  | 19 => ⟨S4x8192x6x64, .f32⟩
  | 20 => ⟨S4x8192x384, .f32⟩
  | _ => ⟨S4x8192x384, .f32⟩

abbrev hbmTy (i : Nat) : BufTy := match i / 128 with
  | 0 => hbmTy0_0 i
  | 1 => hbmTy0_1 i
  | _ => ⟨S4x8192x384, .f32⟩

abbrev bufTy : (tb : Table) → Fin (tcTables nBuf tb) → BufTy
  | .hbm, ⟨i, _⟩ => hbmTy i
  | _, _ => ⟨S4x8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_0 : Ref sig .tc := ⟨.hbm, 65, rfl⟩
abbrev main_v55 : Ref sig .tc := ⟨.hbm, 66, rfl⟩
abbrev main_c : Ref sig .tc := ⟨.hbm, 67, rfl⟩
abbrev main_v56_0 : Ref sig .tc := ⟨.hbm, 68, rfl⟩
abbrev main_v56_1 : Ref sig .tc := ⟨.hbm, 69, rfl⟩
abbrev main_v56_2 : Ref sig .tc := ⟨.hbm, 70, rfl⟩
abbrev main_v56_3 : Ref sig .tc := ⟨.hbm, 71, rfl⟩
abbrev main_v56_4 : Ref sig .tc := ⟨.hbm, 72, rfl⟩
abbrev main_v56_5 : Ref sig .tc := ⟨.hbm, 73, rfl⟩
abbrev main_v56_6 : Ref sig .tc := ⟨.hbm, 74, rfl⟩
abbrev main_v56_7 : Ref sig .tc := ⟨.hbm, 75, rfl⟩
abbrev main_v56_8 : Ref sig .tc := ⟨.hbm, 76, rfl⟩
abbrev main_while0c_c_9 : Ref sig .tc := ⟨.hbm, 77, rfl⟩
abbrev main_while0c_v66 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_call6_c_2 : Ref sig .tc := ⟨.hbm, 82, rfl⟩
abbrev main_while0b_call6_v0 : Ref sig .tc := ⟨.hbm, 83, rfl⟩
abbrev main_while0b_v66 : Ref sig .tc := ⟨.hbm, 84, rfl⟩
abbrev main_while0b_call7_c : Ref sig .tc := ⟨.hbm, 85, rfl⟩
abbrev main_while0b_call7_c_0 : Ref sig .tc := ⟨.hbm, 86, rfl⟩
abbrev main_while0b_call7_c_1 : Ref sig .tc := ⟨.hbm, 87, rfl⟩
abbrev main_while0b_call7_c_2 : Ref sig .tc := ⟨.hbm, 88, rfl⟩
abbrev main_while0b_call7_v0 : Ref sig .tc := ⟨.hbm, 89, rfl⟩
abbrev main_while0b_v67 : Ref sig .tc := ⟨.hbm, 90, rfl⟩
abbrev main_while0b_call8_c : Ref sig .tc := ⟨.hbm, 91, rfl⟩
abbrev main_while0b_call8_c_0 : Ref sig .tc := ⟨.hbm, 92, rfl⟩
abbrev main_while0b_call8_c_1 : Ref sig .tc := ⟨.hbm, 93, rfl⟩
abbrev main_while0b_call8_c_2 : Ref sig .tc := ⟨.hbm, 94, rfl⟩
abbrev main_while0b_call8_v0 : Ref sig .tc := ⟨.hbm, 95, rfl⟩
abbrev main_while0b_v68 : Ref sig .tc := ⟨.hbm, 96, rfl⟩
abbrev main_while0b_call9_c : Ref sig .tc := ⟨.hbm, 97, rfl⟩
abbrev main_while0b_call9_c_0 : Ref sig .tc := ⟨.hbm, 98, rfl⟩
abbrev main_while0b_call9_c_1 : Ref sig .tc := ⟨.hbm, 99, rfl⟩
abbrev main_while0b_call9_c_2 : Ref sig .tc := ⟨.hbm, 100, rfl⟩
abbrev main_while0b_call9_v0 : Ref sig .tc := ⟨.hbm, 101, rfl⟩
abbrev main_while0b_v69 : Ref sig .tc := ⟨.hbm, 102, rfl⟩
abbrev main_while0b_call10_c : Ref sig .tc := ⟨.hbm, 103, rfl⟩
abbrev main_while0b_call10_c_0 : Ref sig .tc := ⟨.hbm, 104, rfl⟩
abbrev main_while0b_call10_c_1 : Ref sig .tc := ⟨.hbm, 105, rfl⟩
abbrev main_while0b_call10_c_2 : Ref sig .tc := ⟨.hbm, 106, rfl⟩
abbrev main_while0b_call10_v0 : Ref sig .tc := ⟨.hbm, 107, rfl⟩
abbrev main_while0b_v70 : Ref sig .tc := ⟨.hbm, 108, rfl⟩
abbrev main_while0b_call11_c : Ref sig .tc := ⟨.hbm, 109, rfl⟩
abbrev main_while0b_call11_c_0 : Ref sig .tc := ⟨.hbm, 110, rfl⟩
abbrev main_while0b_call11_c_1 : Ref sig .tc := ⟨.hbm, 111, rfl⟩
abbrev main_while0b_call11_c_2 : Ref sig .tc := ⟨.hbm, 112, rfl⟩
abbrev main_while0b_call11_v0 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_v85 : Ref sig .tc := ⟨.hbm, 128, rfl⟩
abbrev main_while0b_v86 : Ref sig .tc := ⟨.hbm, 129, rfl⟩
abbrev main_while0b_v87 : Ref sig .tc := ⟨.hbm, 130, rfl⟩
abbrev main_while0b_v88 : Ref sig .tc := ⟨.hbm, 131, rfl⟩
abbrev main_while0b_call12_v0 : Ref sig .tc := ⟨.hbm, 132, rfl⟩
abbrev main_while0b_call12_c : Ref sig .tc := ⟨.hbm, 133, rfl⟩
abbrev main_while0b_call12_c_0 : Ref sig .tc := ⟨.hbm, 134, rfl⟩
abbrev main_while0b_call12_c_1 : Ref sig .tc := ⟨.hbm, 135, rfl⟩
abbrev main_while0b_call12_c_2 : Ref sig .tc := ⟨.hbm, 136, rfl⟩
abbrev main_while0b_v89 : Ref sig .tc := ⟨.hbm, 137, rfl⟩
abbrev main_while0b_c_9 : Ref sig .tc := ⟨.hbm, 138, rfl⟩
abbrev main_while0b_v90 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩

abbrev nD : Nat := 1
abbrev τ : Topo := Topo.v7x

variable {F : FTy → Type} [FloatOps F]

abbrev main_while0_count : Scf.Loop 32 := ⟨0#32, 8192#32, 1#32⟩
-- ==== Ffn.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== FfnFinal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFinalRefIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x3864 : Shape := ⟨2, ![1024, 3864]⟩
abbrev S_ : Shape := ⟨0, ![]⟩
abbrev S1024x3968 : Shape := ⟨2, ![1024, 3968]⟩
abbrev S1x1024 : Shape := ⟨2, ![1, 1024]⟩
abbrev S32768x768 : Shape := ⟨2, ![32768, 768]⟩
abbrev S32768x1536 : Shape := ⟨2, ![32768, 1536]⟩
abbrev S32768x1664 : Shape := ⟨2, ![32768, 1664]⟩
abbrev S256x1024 : Shape := ⟨2, ![256, 1024]⟩
abbrev S256x768 : Shape := ⟨2, ![256, 768]⟩
abbrev S256x1536 : Shape := ⟨2, ![256, 1536]⟩
abbrev S256x1664 : Shape := ⟨2, ![256, 1664]⟩
abbrev S256 : Shape := ⟨1, ![256]⟩
abbrev S256x1 : Shape := ⟨2, ![256, 1]⟩
abbrev S1024x768 : Shape := ⟨2, ![1024, 768]⟩
abbrev S1024x1536 : Shape := ⟨2, ![1024, 1536]⟩
abbrev S1024x1664 : Shape := ⟨2, ![1024, 1664]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3864, .f32⟩
  | .hbm, ⟨3, _⟩ => ⟨S_, .i32⟩
  | .hbm, ⟨4, _⟩ => ⟨S_, .f32⟩
  | .hbm, ⟨5, _⟩ => ⟨S1024x3968, .f32⟩
  | .hbm, ⟨6, _⟩ => ⟨S1024x3968, .bf16⟩
  | .hbm, ⟨7, _⟩ => ⟨S1x1024, .f32⟩
  | .hbm, ⟨8, _⟩ => ⟨S32768x768, .f32⟩
  | .hbm, ⟨9, _⟩ => ⟨S32768x1536, .f32⟩
  | .hbm, ⟨10, _⟩ => ⟨S32768x1664, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3968, .bf16⟩
  | .local _ .vmem, ⟨4, _⟩ => ⟨S256x768, .f32⟩
  | .local _ .vmem, ⟨5, _⟩ => ⟨S256x768, .f32⟩
  | .local _ .vmem, ⟨6, _⟩ => ⟨S256x1536, .f32⟩
  | .local _ .vmem, ⟨7, _⟩ => ⟨S256x1536, .f32⟩
  | .local _ .vmem, ⟨8, _⟩ => ⟨S256x1664, .f32⟩
  | .local _ .vmem, ⟨9, _⟩ => ⟨S256x1664, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S32768x1024 : Shape := ⟨2, ![32768, 1024]⟩
abbrev S1024 : Shape := ⟨1, ![1024]⟩
abbrev S1024x3864 : Shape := ⟨2, ![1024, 3864]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3864 : Shape := ⟨2, ![32768, 3864]⟩
abbrev S32768x768 : Shape := ⟨2, ![32768, 768]⟩
abbrev S32768x1536 : Shape := ⟨2, ![32768, 1536]⟩
abbrev S32768x1560 : Shape := ⟨2, ![32768, 1560]⟩
abbrev S32768x1664 : Shape := ⟨2, ![32768, 1664]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3864, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3864, .f32⟩
  | .hbm, ⟨20, _⟩ => ⟨S32768x768, .f32⟩
  | .hbm, ⟨21, _⟩ => ⟨S32768x1536, .f32⟩
  | .hbm, ⟨22, _⟩ => ⟨S32768x1560, .f32⟩
  | .hbm, ⟨23, _⟩ => ⟨S_, .i32⟩
  | .hbm, ⟨24, _⟩ => ⟨S_, .f32⟩
  | .hbm, ⟨25, _⟩ => ⟨S32768x1664, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MemKv.lean ====
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S4x256x1024, .bf16⟩
  | .hbm, ⟨8, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x1024, .bf16⟩
  | .hbm, ⟨22, _⟩ => ⟨S4x256x1024, .f32⟩
  | .hbm, ⟨23, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Xattn.lean ====
abbrev S4x8192x1024 : Shape := ⟨3, ![4, 8192, 1024]⟩
abbrev S1024 : Shape := ⟨1, ![1024]⟩
abbrev S1024x1024 : Shape := ⟨2, ![1024, 1024]⟩
abbrev S4x256x1024 : Shape := ⟨3, ![4, 256, 1024]⟩
abbrev S1x1024 : Shape := ⟨2, ![1, 1024]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 10
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1024, .f32⟩
  | .hbm, ⟨3, _⟩ => ⟨S4x256x1024, .bf16⟩
  | .hbm, ⟨4, _⟩ => ⟨S4x256x1024, .bf16⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== XattnRefIdeal.lean ====
abbrev S4x8192x1024 : Shape := ⟨3, ![4, 8192, 1024]⟩
abbrev S1024 : Shape := ⟨1, ![1024]⟩
abbrev S1024x1024 : Shape := ⟨2, ![1024, 1024]⟩
abbrev S4x256x1024 : Shape := ⟨3, ![4, 256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4x256 : Shape := ⟨4, ![4, 8192, 4, 256]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1024, .f32⟩
  | .hbm, ⟨3, _⟩ => ⟨S4x256x1024, .bf16⟩
  | .hbm, ⟨4, _⟩ => ⟨S4x256x1024, .bf16⟩
  | .hbm, ⟨5, _⟩ => ⟨S1024x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x4x256, .f32⟩
  | .hbm, ⟨24, _⟩ => ⟨S4x256x1024, .f32⟩
  | .hbm, ⟨25, _⟩ => ⟨S4x256x4x256, .f32⟩
  | .hbm, ⟨26, _⟩ => ⟨S4x256x1024, .f32⟩
  | .hbm, ⟨27, _⟩ => ⟨S4x256x4x256, .f32⟩
  | .hbm, ⟨28, _⟩ => ⟨S4x4x8192x256, .f32⟩
  | .hbm, ⟨29, _⟩ => ⟨S_, .f32⟩
  | .hbm, ⟨30, _⟩ => ⟨S4x4x8192x256, .f32⟩
  | .hbm, ⟨31, _⟩ => ⟨S4x4x8192x256, .f32⟩
  | .hbm, ⟨32, _⟩ => ⟨S_, .f32⟩
  | .hbm, ⟨33, _⟩ => ⟨S4x4x8192, .f32⟩
  | .hbm, ⟨34, _⟩ => ⟨S_, .f32⟩
  | .hbm, ⟨35, _⟩ => ⟨S4x4x8192, .f32⟩
  | .hbm, ⟨36, _⟩ => ⟨S4x4x8192, .f32⟩
  | .hbm, ⟨37, _⟩ => ⟨S4x4x8192x1, .f32⟩
  | .hbm, ⟨38, _⟩ => ⟨S4x4x8192x256, .f32⟩
  | .hbm, ⟨39, _⟩ => ⟨S4x4x8192x256, .f32⟩
  | .hbm, ⟨40, _⟩ => ⟨S4x4x8192x256, .f32⟩
  | .hbm, ⟨41, _⟩ => ⟨S_, .f32⟩
  | .hbm, ⟨42, _⟩ => ⟨S4x4x8192, .f32⟩
  | .hbm, ⟨43, _⟩ => ⟨S4x4x8192x1, .f32⟩
  | .hbm, ⟨44, _⟩ => ⟨S4x4x8192x256, .f32⟩
  | .hbm, ⟨45, _⟩ => ⟨S4x4x8192x256, .f32⟩
  | .hbm, ⟨46, _⟩ => ⟨S4x4x256x8192, .f32⟩
  | .hbm, ⟨47, _⟩ => ⟨S4x8192x4x256, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MixOut.lean ====
abbrev S32768x1024 : Shape := ⟨2, ![32768, 1024]⟩
abbrev S32768x256 : Shape := ⟨2, ![32768, 256]⟩
abbrev S32768x384 : Shape := ⟨2, ![32768, 384]⟩
abbrev S32768x1664 : Shape := ⟨2, ![32768, 1664]⟩
abbrev S384 : Shape := ⟨1, ![384]⟩
abbrev S64 : Shape := ⟨1, ![64]⟩
abbrev S1024x1024 : Shape := ⟨2, ![1024, 1024]⟩
abbrev S384x384 : Shape := ⟨2, ![384, 384]⟩
abbrev S_ : Shape := ⟨0, ![]⟩
abbrev S1x384 : Shape := ⟨2, ![1, 384]⟩
abbrev S1x64 : Shape := ⟨2, ![1, 64]⟩
abbrev S6x64 : Shape := ⟨2, ![6, 64]⟩
abbrev S512x1024 : Shape := ⟨2, ![512, 1024]⟩
abbrev S512x256 : Shape := ⟨2, ![512, 256]⟩
abbrev S512x384 : Shape := ⟨2, ![512, 384]⟩
abbrev S256x1024 : Shape := ⟨2, ![256, 1024]⟩
abbrev S384x1024 : Shape := ⟨2, ![384, 1024]⟩

abbrev nBuf : Space → Nat
  | .hbm => 34
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x384, .f32⟩
  | .hbm, ⟨3, _⟩ => ⟨S32768x384, .f32⟩
  | .hbm, ⟨4, _⟩ => ⟨S32768x384, .f32⟩
  | .hbm, ⟨5, _⟩ => ⟨S32768x384, .f32⟩
  | .hbm, ⟨6, _⟩ => ⟨S32768x384, .f32⟩
  | .hbm, ⟨7, _⟩ => ⟨S32768x384, .f32⟩
  | .hbm, ⟨8, _⟩ => ⟨S32768x1664, .f32⟩
  | .hbm, ⟨9, _⟩ => ⟨S384, .f32⟩
  | .hbm, ⟨10, _⟩ => ⟨S384, .f32⟩
  | .hbm, ⟨11, _⟩ => ⟨S64, .f32⟩
  | .hbm, ⟨12, _⟩ => ⟨S1024x1024, .f32⟩
  | .hbm, ⟨13, _⟩ => ⟨S1024x1024, .bf16⟩
  | .hbm, ⟨14, _⟩ => ⟨S384x384, .i32⟩
  | .hbm, ⟨15, _⟩ => ⟨S_, .i32⟩
  | .hbm, ⟨16, _⟩ => ⟨S384x384, .i32⟩
  | .hbm, ⟨17, _⟩ => ⟨S384x384, .i32⟩
  | .hbm, ⟨18, _⟩ => ⟨S384x384, .i32⟩
  | .hbm, ⟨19, _⟩ => ⟨S_, .i32⟩
  | .hbm, ⟨20, _⟩ => ⟨S384x384, .i32⟩
  | .hbm, ⟨21, _⟩ => ⟨S384x384, .i32⟩
  | .hbm, ⟨22, _⟩ => ⟨S384x384, .i1⟩
  | .hbm, ⟨23, _⟩ => ⟨S384x384, .f32⟩
  | .hbm, ⟨24, _⟩ => ⟨S_, .f32⟩
  | .hbm, ⟨25, _⟩ => ⟨S384x384, .f32⟩
  | .hbm, ⟨26, _⟩ => ⟨S384x384, .f32⟩
  | .hbm, ⟨27, _⟩ => ⟨S1x384, .f32⟩
  | .hbm, ⟨28, _⟩ => ⟨S1x384, .f32⟩
  | .hbm, ⟨29, _⟩ => ⟨S1x64, .f32⟩
  | .hbm, ⟨30, _⟩ => ⟨S6x64, .f32⟩
  | .hbm, ⟨31, _⟩ => ⟨S384, .f32⟩
  | .hbm, ⟨32, _⟩ => ⟨S1x384, .f32⟩
  | .hbm, ⟨33, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S1x384, .f32⟩
  | .local _ .vmem, ⟨19, _⟩ => ⟨S1x384, .f32⟩
  | .local _ .vmem, ⟨20, _⟩ => ⟨S1x384, .f32⟩
  | .local _ .vmem, ⟨21, _⟩ => ⟨S384x384, .f32⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixOutRefIdeal.lean ====
abbrev S32768x1024 : Shape := ⟨2, ![32768, 1024]⟩
abbrev S32768x256 : Shape := ⟨2, ![32768, 256]⟩
abbrev S32768x384 : Shape := ⟨2, ![32768, 384]⟩
abbrev S32768x1664 : Shape := ⟨2, ![32768, 1664]⟩
abbrev S384 : Shape := ⟨1, ![384]⟩
abbrev S64 : Shape := ⟨1, ![64]⟩
abbrev S1024x1024 : Shape := ⟨2, ![1024, 1024]⟩
abbrev S32768x6x64 : Shape := ⟨3, ![32768, 6, 64]⟩
abbrev S_ : Shape := ⟨0, ![]⟩
abbrev S32768x6 : Shape := ⟨2, ![32768, 6]⟩
abbrev S32768x6x1 : Shape := ⟨3, ![32768, 6, 1]⟩
abbrev S1x384 : Shape := ⟨2, ![1, 384]⟩
abbrev S1x1x64 : Shape := ⟨3, ![1, 1, 64]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x384, .f32⟩
  | .hbm, ⟨3, _⟩ => ⟨S32768x384, .f32⟩
  | .hbm, ⟨4, _⟩ => ⟨S32768x384, .f32⟩
  | .hbm, ⟨5, _⟩ => ⟨S32768x384, .f32⟩
  | .hbm, ⟨6, _⟩ => ⟨S32768x384, .f32⟩
  | .hbm, ⟨7, _⟩ => ⟨S32768x384, .f32⟩
  | .hbm, ⟨8, _⟩ => ⟨S32768x1664, .f32⟩
  | .hbm, ⟨9, _⟩ => ⟨S384, .f32⟩
  | .hbm, ⟨10, _⟩ => ⟨S384, .f32⟩
  | .hbm, ⟨11, _⟩ => ⟨S64, .f32⟩
  | .hbm, ⟨12, _⟩ => ⟨S1024x1024, .f32⟩
  | .hbm, ⟨13, _⟩ => ⟨S32768x384, .f32⟩
  | .hbm, ⟨14, _⟩ => ⟨S32768x6x64, .f32⟩
  | .hbm, ⟨15, _⟩ => ⟨S_, .f32⟩
  | .hbm, ⟨16, _⟩ => ⟨S32768x6, .f32⟩
  | .hbm, ⟨17, _⟩ => ⟨S32768x6x1, .f32⟩
  | .hbm, ⟨18, _⟩ => ⟨S_, .f32⟩
  | .hbm, ⟨19, _⟩ => ⟨S32768x6x1, .f32⟩
  | .hbm, ⟨20, _⟩ => ⟨S32768x6x1, .f32⟩
  | .hbm, ⟨21, _⟩ => ⟨S32768x6x64, .f32⟩
  | .hbm, ⟨22, _⟩ => ⟨S32768x6x64, .f32⟩
  | .hbm, ⟨23, _⟩ => ⟨S32768x6x64, .f32⟩
  | .hbm, ⟨24, _⟩ => ⟨S_, .f32⟩
  | .hbm, ⟨25, _⟩ => ⟨S32768x6, .f32⟩
  | .hbm, ⟨26, _⟩ => ⟨S32768x6x1, .f32⟩
  | .hbm, ⟨27, _⟩ => ⟨S_, .f32⟩
  | .hbm, ⟨28, _⟩ => ⟨S32768x6x1, .f32⟩
  | .hbm, ⟨29, _⟩ => ⟨S32768x6x1, .f32⟩
  | .hbm, ⟨30, _⟩ => ⟨S32768x6x64, .f32⟩
  | .hbm, ⟨31, _⟩ => ⟨S32768x6x64, .f32⟩
  | .hbm, ⟨32, _⟩ => ⟨S_, .f32⟩
  | .hbm, ⟨33, _⟩ => ⟨S32768x6x1, .f32⟩
  | .hbm, ⟨34, _⟩ => ⟨S32768x6x1, .f32⟩
  | .hbm, ⟨35, _⟩ => ⟨S32768x6x1, .f32⟩
  | .hbm, ⟨36, _⟩ => ⟨S32768x6x64, .f32⟩
  | .hbm, ⟨37, _⟩ => ⟨S32768x6x64, .f32⟩
  | .hbm, ⟨38, _⟩ => ⟨S32768x384, .f32⟩
  | .hbm, ⟨39, _⟩ => ⟨S1x384, .f32⟩
  | .hbm, ⟨40, _⟩ => ⟨S32768x384, .f32⟩
  | .hbm, ⟨41, _⟩ => ⟨S32768x384, .f32⟩
  | .hbm, ⟨42, _⟩ => ⟨S1x384, .f32⟩
  | .hbm, ⟨43, _⟩ => ⟨S32768x384, .f32⟩
  | .hbm, ⟨44, _⟩ => ⟨S32768x384, .f32⟩
  | .hbm, ⟨45, _⟩ => ⟨S32768x384, .f32⟩
  | .hbm, ⟨46, _⟩ => ⟨S32768x384, .f32⟩
  | .hbm, ⟨47, _⟩ => ⟨S32768x384, .f32⟩
  | .hbm, ⟨48, _⟩ => ⟨S32768x6x64, .f32⟩
  | .hbm, ⟨49, _⟩ => ⟨S32768x6x64, .f32⟩
  | .hbm, ⟨50, _⟩ => ⟨S_, .f32⟩
  | .hbm, ⟨51, _⟩ => ⟨S32768x6, .f32⟩
  | .hbm, ⟨52, _⟩ => ⟨S32768x6x1, .f32⟩
  | .hbm, ⟨53, _⟩ => ⟨S_, .f32⟩
  | .hbm, ⟨54, _⟩ => ⟨S32768x6x1, .f32⟩
  | .hbm, ⟨55, _⟩ => ⟨S32768x6x1, .f32⟩
  | .hbm, ⟨56, _⟩ => ⟨S_, .f32⟩
  | .hbm, ⟨57, _⟩ => ⟨S32768x6x1, .f32⟩
  | .hbm, ⟨58, _⟩ => ⟨S32768x6x1, .f32⟩
  | .hbm, ⟨59, _⟩ => ⟨S32768x6x1, .f32⟩
  | .hbm, ⟨60, _⟩ => ⟨S32768x6x64, .f32⟩
  | .hbm, ⟨61, _⟩ => ⟨S32768x6x64, .f32⟩
  | .hbm, ⟨62, _⟩ => ⟨S1x1x64, .f32⟩
  | .hbm, ⟨63, _⟩ => ⟨S32768x6x64, .f32⟩
  | .hbm, ⟨64, _⟩ => ⟨S32768x6x64, .f32⟩
  | .hbm, ⟨65, _⟩ => ⟨S32768x384, .f32⟩
  | .hbm, ⟨66, _⟩ => ⟨S32768x6x64, .f32⟩
  | .hbm, ⟨67, _⟩ => ⟨S32768x6x64, .f32⟩
  | .hbm, ⟨68, _⟩ => ⟨S32768x6x64, .f32⟩
  | .hbm, ⟨69, _⟩ => ⟨S_, .f32⟩
  | .hbm, ⟨70, _⟩ => ⟨S32768x6x64, .f32⟩
  | .hbm, ⟨71, _⟩ => ⟨S32768x6x64, .f32⟩
  | .hbm, ⟨72, _⟩ => ⟨S_, .f32⟩
  | .hbm, ⟨73, _⟩ => ⟨S32768x6x64, .f32⟩
  | .hbm, ⟨74, _⟩ => ⟨S32768x6x64, .f32⟩
  | .hbm, ⟨75, _⟩ => ⟨S32768x6x64, .f32⟩
  | .hbm, ⟨76, _⟩ => ⟨S32768x6x64, .f32⟩
  | .hbm, ⟨77, _⟩ => ⟨S32768x384, .f32⟩
  | .hbm, ⟨78, _⟩ => ⟨S32768x1024, .f32⟩
  | .hbm, ⟨79, _⟩ => ⟨S32768x1024, .f32⟩
  | .hbm, ⟨80, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Proof.ScanChunk.lean ====
module

public import proofs.«01_k».proof.Proof.Gen.ScanIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScanIdeal.Chunk

open Cert.ScanIdeal Cert.ScanIdeal.Gen

variable {F : FTy → Type} [FloatOps F]

/-- The float zero, at any shape. -/
abbrev zc (s : Shape) : FVec F s .f32 := constant s .f32 0x00000000#32

/-- The same value with the last bits dropped. -/
abbrev tr {s : Shape} (x : FVec F s .f32) : FVec F s .bf16 := truncf .bf16 x bitsLt_bf16_f32

/-- What dropping the last bits lost. -/
abbrev rest {s : Shape} (x : FVec F s .f32) : FVec F s .f32 := subf x (extf .f32 (tr x) bitsLt_bf16_f32)

/-- The 0/1 matrix that sums a chunk's tokens up to each one, in scan order. -/
def cumM (rev : Bool) : FVec F S64x64 .f32 :=
  sitofp .f32 (extui 32 (cmpi (if rev then .sge else .sle) (iota .tc S64x64 32 [1] iota_S64x64_d1_w32) (iota .tc S64x64 32 [0] iota_S64x64_d0_w32)) natLt_1_32)

/-- The running sum of the log decays, by three products. -/
def cumF (rev : Bool) (lw : FVec F S64x128 .f32) : FVec F S64x128 .f32 :=
  addf (matmul dot_S64x64_S64x128_S64x128_1_0_0_1_n_n none (tr (cumM rev)) (tr lw) (zc _))
    (addf (matmul dot_S64x64_S64x128_S64x128_1_0_0_1_n_n none (tr (cumM rev)) (tr (rest lw)) (zc _))
      (matmul dot_S64x64_S64x128_S64x128_1_0_0_1_n_n none (tr (cumM rev)) (tr (rest (rest lw))) (zc _)))

/-- A chunk's rows twice, each copy kept on one head's lanes. -/
def sm (x : FVec F S64x128 .f32) : FVec F S128x128 .f32 :=
  concatenate S128x128 0 [⟨S64x128, mulf x (broadcastTo S64x128 k0_pay4 broadcasts_S1x128_S64x128)⟩, ⟨S64x128, mulf x (broadcastTo S64x128 k0_pay5 broadcasts_S1x128_S64x128)⟩]
    concatenates_S64x128_S64x128_S128x128_d0

/-- The removal keys, decayed up to the token before. -/
def atF (kk lw cum : FVec F S64x128 .f32) : FVec F S128x128 .f32 :=
  sm (mulf (subf (broadcast S64x128 (Scalar.ofBits .f32 0x00000000#32)) kk) (exp (subf cum lw)))

/-- The reading keys, decayed up to the token. -/
def rtF (r cum : FVec F S64x128 .f32) : FVec F S128x128 .f32 := sm (mulf r (exp cum))

/-- The inverse decay. -/
def pinv (cum : FVec F S64x128 .f32) : FVec F S64x128 .f32 := exp (subf (broadcast S64x128 (Scalar.ofBits .f32 0x00000000#32)) cum)

/-- The write keys. -/
def khF (kd cum : FVec F S64x128 .f32) : FVec F S128x128 .f32 := sm (mulf kd (pinv cum))

/-- The replacement keys. -/
def bhF (kk a cum : FVec F S64x128 .f32) : FVec F S128x128 .f32 := sm (mulf (mulf kk a) (pinv cum))

/-- Two 128-row arrays one above the other. -/
abbrev over (x y : FVec F S128x128 .f32) : FVec F S256x128 .f32 :=
  concatenate S256x128 0 [⟨S128x128, x⟩, ⟨S128x128, y⟩] concatenates_S128x128_S128x128_S256x128_d0

/-- All the inner products of the two kinds of readers with the two kinds of writers. -/
def gram (at' rt kh bh : FVec F S128x128 .f32) : FVec F S256x256 .f32 :=
  matmul dot_S256x128_S256x128_S256x256_1_1_0_0_n_n none (tr (over at' rt)) (tr (over kh bh)) (zc _)

/-- Row number and column number. -/
abbrev i0 : IVec S128x128 32 := iota .tc S128x128 32 [0] iota_S128x128_d0_w32
/-- Column number. -/
abbrev i1 : IVec S128x128 32 := iota .tc S128x128 32 [1] iota_S128x128_d1_w32

/-- Whether row and column belong to the same head. -/
def sameM : IVec S128x128 1 :=
  k0_pay68 i0 i1 64#32 (divsi i0 (broadcast S128x128 64#32))
    (subi (extui 32 (cmpi .sgt i0 (broadcast S128x128 0#32)) natLt_1_32) (extui 32 (cmpi .slt i0 (broadcast S128x128 0#32)) natLt_1_32))
    (Scalar.extui (Scalar.cmpi .sgt 64#32 0#32)) 0#32

/-- The writer comes before the reader. -/
def strictM (rev : Bool) : IVec S128x128 1 := andi sameM (cmpi (if rev then .sgt else .slt) i1 i0)

/-- The writer does not come after the reader. -/
def inclM (rev : Bool) : IVec S128x128 1 := andi sameM (cmpi (if rev then .sge else .sle) i1 i0)

/-- Zeros outside a mask. -/
abbrev cut (c : IVec S128x128 1) (x : FVec F S128x128 .f32) : FVec F S128x128 .f32 := select c x (broadcast S128x128 (Scalar.ofBits .f32 0x00000000#32))

/-- The four masked quadrants of the inner products. -/
def akF (rev : Bool) (g : FVec F S256x256 .f32) : FVec F S128x128 .f32 := cut (strictM rev) (extractStridedSlice S128x128 ![0, 0] g slices_S256x256_o0_0_S128x128)
/-- Removal against replacement. -/
def abF (rev : Bool) (g : FVec F S256x256 .f32) : FVec F S128x128 .f32 := cut (strictM rev) (extractStridedSlice S128x128 ![0, 128] g slices_S256x256_o0_128_S128x128)
/-- Reading against writing. -/
def rkF (rev : Bool) (g : FVec F S256x256 .f32) : FVec F S128x128 .f32 := cut (inclM rev) (extractStridedSlice S128x128 ![128, 0] g slices_S256x256_o128_0_S128x128)
/-- Reading against replacement. -/
def rbF (rev : Bool) (g : FVec F S256x256 .f32) : FVec F S128x128 .f32 := cut (inclM rev) (extractStridedSlice S128x128 ![128, 128] g slices_S256x256_o128_128_S128x128)

/-- The two weightings of the values. -/
def avF (ak rk vs : FVec F S128x128 .f32) : FVec F S256x128 .f32 :=
  matmul dot_S256x128_S128x128_S256x128_1_0_0_1_n_n none (tr (over ak rk)) (tr vs) (zc _)

/-- One matrix product. -/
abbrev mm (x y : FVec F S128x128 .f32) : FVec F S128x128 .f32 := matmul dot_S128x128_S128x128_S128x128_1_0_0_1_n_n none (tr x) (tr y) (zc _)

/-- The inverse of one minus a strictly triangular matrix, by doubling. -/
def neuF (a : FVec F S128x128 .f32) : FVec F S128x128 .f32 :=
  have t0 : FVec F S128x128 .f32 := addf (select (cmpi .eq i0 i1) (broadcast S128x128 (Scalar.ofBits .f32 0x3F800000#32)) (broadcast S128x128 (Scalar.ofBits .f32 0x00000000#32))) a
  have p1 := mm a a
  have t1 := addf t0 (mm t0 p1)
  have p2 := mm p1 p1
  have t2 := addf t1 (mm t1 p2)
  have p3 := mm p2 p2
  have t3 := addf t2 (mm t2 p3)
  have p4 := mm p3 p3
  have t4 := addf t3 (mm t3 p4)
  have p5 := mm p4 p4
  addf t4 (mm t4 p5)

/-- The inverse applied to the weighted values and to the removal keys. -/
def uwF (t : FVec F S128x128 .f32) (av : FVec F S256x128 .f32) (at' : FVec F S128x128 .f32) : FVec F S128x256 .f32 :=
  matmul dot_S128x128_S128x256_S128x256_1_0_0_1_n_n none (tr t)
    (tr (concatenate S128x256 1 [⟨S128x128, extractStridedSlice S128x128 ![0, 0] av slices_S256x128_o0_0_S128x128⟩, ⟨S128x128, at'⟩] concatenates_S128x128_S128x128_S128x256_d1)) (zc _)

/-- What the readers see of the state the chunk starts from. -/
def wsF (uw : FVec F S128x256 .f32) (rt s0 : FVec F S128x128 .f32) : FVec F S256x128 .f32 :=
  matmul dot_S256x128_S128x128_S256x128_1_1_0_0_n_n none (tr (over (extractStridedSlice S128x128 ![0, 128] uw slices_S128x256_o0_128_S128x128) rt)) (tr s0) (zc _)

/-- The corrections. -/
def uF (uw : FVec F S128x256 .f32) (ws : FVec F S256x128 .f32) : FVec F S128x128 .f32 :=
  addf (extractStridedSlice S128x128 ![0, 0] uw slices_S128x256_o0_0_S128x128) (extractStridedSlice S128x128 ![0, 0] ws slices_S256x128_o0_0_S128x128)

/-- The outputs, one head per half of the rows. -/
def yF (ws av : FVec F S256x128 .f32) (rb u : FVec F S128x128 .f32) : FVec F S128x128 .f32 :=
  addf (addf (extractStridedSlice S128x128 ![128, 0] ws slices_S256x128_o128_0_S128x128) (extractStridedSlice S128x128 ![128, 0] av slices_S256x128_o128_0_S128x128)) (mm rb u)

/-- The two halves of the rows added. -/
def foldF (y : FVec F S128x128 .f32) : FVec F S64x128 .f32 :=
  addf (extractStridedSlice S64x128 ![0, 0] y slices_S128x128_o0_0_S64x128) (extractStridedSlice S64x128 ![64, 0] y slices_S128x128_o64_0_S64x128)

/-- The last running sum in scan order. -/
def totF (rev : Bool) (cum : FVec F S64x128 .f32) : FVec F S1x128 .f32 :=
  match rev with
  | true => extractStridedSlice S1x128 ![0, 0] cum slices_S64x128_o0_0_S1x128
  | false => extractStridedSlice S1x128 ![63, 0] cum slices_S64x128_o63_0_S1x128

/-- The state the chunk leaves. -/
def sF (rev : Bool) (vs u kh bh s0 : FVec F S128x128 .f32) (cum : FVec F S64x128 .f32) : FVec F S128x128 .f32 :=
  mulf (addf s0 (matmul dot_S256x128_S256x128_S128x128_0_0_1_1_n_n none (tr (over vs u)) (tr (over kh bh)) (zc _)))
    (broadcastTo S128x128 (exp (totF rev cum)) broadcasts_S1x128_S128x128)

/-- The inner products of a chunk. -/
def gF (rev : Bool) (r kk lw kd a : FVec F S64x128 .f32) : FVec F S256x256 .f32 :=
  gram (atF kk lw (cumF rev lw)) (rtF r (cumF rev lw)) (khF kd (cumF rev lw)) (bhF kk a (cumF rev lw))

/-- The weighted values of a chunk. -/
def avC (rev : Bool) (r v kk lw kd a : FVec F S64x128 .f32) : FVec F S256x128 .f32 :=
  avF (akF rev (gF rev r kk lw kd a)) (rkF rev (gF rev r kk lw kd a)) (sm v)

/-- The inverse applied, for a chunk. -/
def uwC (rev : Bool) (r v kk lw kd a : FVec F S64x128 .f32) : FVec F S128x256 .f32 :=
  uwF (neuF (abF rev (gF rev r kk lw kd a))) (avC rev r v kk lw kd a) (atF kk lw (cumF rev lw))

/-- What a chunk reads of the state it starts from. -/
def wsC (rev : Bool) (r v kk lw kd a : FVec F S64x128 .f32) (s0 : FVec F S128x128 .f32) : FVec F S256x128 .f32 :=
  wsF (uwC rev r v kk lw kd a) (rtF r (cumF rev lw)) s0

/-- The corrections of a chunk. -/
def uC (rev : Bool) (r v kk lw kd a : FVec F S64x128 .f32) (s0 : FVec F S128x128 .f32) : FVec F S128x128 .f32 :=
  uF (uwC rev r v kk lw kd a) (wsC rev r v kk lw kd a s0)

/-- A chunk's outputs. -/
def chunkY (rev : Bool) (r v kk lw kd a : FVec F S64x128 .f32) (s0 : FVec F S128x128 .f32) : FVec F S64x128 .f32 :=
  foldF (yF (wsC rev r v kk lw kd a s0) (avC rev r v kk lw kd a) (rbF rev (gF rev r kk lw kd a)) (uC rev r v kk lw kd a s0))

/-- A chunk's new state. -/
def chunkS (rev : Bool) (r v kk lw kd a : FVec F S64x128 .f32) (s0 : FVec F S128x128 .f32) : FVec F S128x128 .f32 :=
  sF rev (sm v) (uC rev r v kk lw kd a s0) (khF kd (cumF rev lw)) (bhF kk a (cumF rev lw)) s0 (cumF rev lw)

/-- The lanes of one pair of heads in a block of tokens. -/
def ld0 (X : FVec F S1x64x384 .f32) : FVec F S64x128 .f32 :=
  shapeCast S64x128 (View.ld (Val := Elt F) (e' := .f32) X (Rect.unit (s := S1x64x384) ![0, 0, 0] S1x64x128.size inb_S1x64x384_S1x64x128_0_0_0)) shapeCasts_S1x64x128_S64x128
/-- The second pair. -/
def ld1 (X : FVec F S1x64x384 .f32) : FVec F S64x128 .f32 :=
  shapeCast S64x128 (View.ld (Val := Elt F) (e' := .f32) X (Rect.unit (s := S1x64x384) ![0, 0, 128] S1x64x128.size inb_S1x64x384_S1x64x128_0_0_128)) shapeCasts_S1x64x128_S64x128
/-- The third pair. -/
def ld2 (X : FVec F S1x64x384 .f32) : FVec F S64x128 .f32 :=
  shapeCast S64x128 (View.ld (Val := Elt F) (e' := .f32) X (Rect.unit (s := S1x64x384) ![0, 0, 256] S1x64x128.size inb_S1x64x384_S1x64x128_0_0_256)) shapeCasts_S1x64x128_S64x128
/-- The carried state of one direction and pair. -/
def st00 (S : FVec F S2x3x128x128 .f32) : FVec F S128x128 .f32 :=
  shapeCast S128x128 (View.ld (Val := Elt F) (e' := .f32) S (Rect.unit (s := S2x3x128x128) ![0, 0, 0, 0] S1x1x128x128.size inb_S2x3x128x128_S1x1x128x128_0_0_0_0)) shapeCasts_S1x1x128x128_S128x128
/-- The carried state of one direction and pair. -/
def st01 (S : FVec F S2x3x128x128 .f32) : FVec F S128x128 .f32 :=
  shapeCast S128x128 (View.ld (Val := Elt F) (e' := .f32) S (Rect.unit (s := S2x3x128x128) ![0, 1, 0, 0] S1x1x128x128.size inb_S2x3x128x128_S1x1x128x128_0_1_0_0)) shapeCasts_S1x1x128x128_S128x128
/-- The carried state of one direction and pair. -/
def st02 (S : FVec F S2x3x128x128 .f32) : FVec F S128x128 .f32 :=
  shapeCast S128x128 (View.ld (Val := Elt F) (e' := .f32) S (Rect.unit (s := S2x3x128x128) ![0, 2, 0, 0] S1x1x128x128.size inb_S2x3x128x128_S1x1x128x128_0_2_0_0)) shapeCasts_S1x1x128x128_S128x128
/-- The carried state of one direction and pair. -/
def st10 (S : FVec F S2x3x128x128 .f32) : FVec F S128x128 .f32 :=
  shapeCast S128x128 (View.ld (Val := Elt F) (e' := .f32) S (Rect.unit (s := S2x3x128x128) ![1, 0, 0, 0] S1x1x128x128.size inb_S2x3x128x128_S1x1x128x128_1_0_0_0)) shapeCasts_S1x1x128x128_S128x128
/-- The carried state of one direction and pair. -/
def st11 (S : FVec F S2x3x128x128 .f32) : FVec F S128x128 .f32 :=
  shapeCast S128x128 (View.ld (Val := Elt F) (e' := .f32) S (Rect.unit (s := S2x3x128x128) ![1, 1, 0, 0] S1x1x128x128.size inb_S2x3x128x128_S1x1x128x128_1_1_0_0)) shapeCasts_S1x1x128x128_S128x128
/-- The carried state of one direction and pair. -/
def st12 (S : FVec F S2x3x128x128 .f32) : FVec F S128x128 .f32 :=
  shapeCast S128x128 (View.ld (Val := Elt F) (e' := .f32) S (Rect.unit (s := S2x3x128x128) ![1, 2, 0, 0] S1x1x128x128.size inb_S2x3x128x128_S1x1x128x128_1_2_0_0)) shapeCasts_S1x1x128x128_S128x128
/-- The stores into the output block of direction 0. -/
def pieces0 (x0 x1 x2 x3 x4 x5 x6 x7 x8 x9 x10 x11 : FVec F S1x64x384 .f32) (S : FVec F S2x3x128x128 .f32) : List (View.Piece (Elt F) S1x64x384 .f32) :=
  [⟨Rect.unit (s := S1x64x384) ![0, 0, 256] S1x64x128.size inb_S1x64x384_S1x64x128_0_0_256, shapeCast S1x64x128 (chunkY false (ld2 x0) (ld2 x1) (ld2 x2) (ld2 x3) (ld2 x4) (ld2 x5) (st02 S)) shapeCasts_S64x128_S1x64x128⟩,
   ⟨Rect.unit (s := S1x64x384) ![0, 0, 128] S1x64x128.size inb_S1x64x384_S1x64x128_0_0_128, shapeCast S1x64x128 (chunkY false (ld1 x0) (ld1 x1) (ld1 x2) (ld1 x3) (ld1 x4) (ld1 x5) (st01 S)) shapeCasts_S64x128_S1x64x128⟩,
   ⟨Rect.unit (s := S1x64x384) ![0, 0, 0] S1x64x128.size inb_S1x64x384_S1x64x128_0_0_0, shapeCast S1x64x128 (chunkY false (ld0 x0) (ld0 x1) (ld0 x2) (ld0 x3) (ld0 x4) (ld0 x5) (st00 S)) shapeCasts_S64x128_S1x64x128⟩]
/-- The stores into the output block of direction 1. -/
def pieces1 (x0 x1 x2 x3 x4 x5 x6 x7 x8 x9 x10 x11 : FVec F S1x64x384 .f32) (S : FVec F S2x3x128x128 .f32) : List (View.Piece (Elt F) S1x64x384 .f32) :=
  [⟨Rect.unit (s := S1x64x384) ![0, 0, 256] S1x64x128.size inb_S1x64x384_S1x64x128_0_0_256, shapeCast S1x64x128 (chunkY true (ld2 x6) (ld2 x7) (ld2 x8) (ld2 x9) (ld2 x10) (ld2 x11) (st12 S)) shapeCasts_S64x128_S1x64x128⟩,
   ⟨Rect.unit (s := S1x64x384) ![0, 0, 128] S1x64x128.size inb_S1x64x384_S1x64x128_0_0_128, shapeCast S1x64x128 (chunkY true (ld1 x6) (ld1 x7) (ld1 x8) (ld1 x9) (ld1 x10) (ld1 x11) (st11 S)) shapeCasts_S64x128_S1x64x128⟩,
   ⟨Rect.unit (s := S1x64x384) ![0, 0, 0] S1x64x128.size inb_S1x64x384_S1x64x128_0_0_0, shapeCast S1x64x128 (chunkY true (ld0 x6) (ld0 x7) (ld0 x8) (ld0 x9) (ld0 x10) (ld0 x11) (st10 S)) shapeCasts_S64x128_S1x64x128⟩]
/-- The stores into the carried state. -/
def piecesS (x0 x1 x2 x3 x4 x5 x6 x7 x8 x9 x10 x11 : FVec F S1x64x384 .f32) (S : FVec F S2x3x128x128 .f32) : List (View.Piece (Elt F) S2x3x128x128 .f32) :=
  [⟨Rect.unit (s := S2x3x128x128) ![1, 2, 0, 0] S1x1x128x128.size inb_S2x3x128x128_S1x1x128x128_1_2_0_0, shapeCast S1x1x128x128 (chunkS true (ld2 x6) (ld2 x7) (ld2 x8) (ld2 x9) (ld2 x10) (ld2 x11) (st12 S)) shapeCasts_S128x128_S1x1x128x128⟩,
   ⟨Rect.unit (s := S2x3x128x128) ![1, 1, 0, 0] S1x1x128x128.size inb_S2x3x128x128_S1x1x128x128_1_1_0_0, shapeCast S1x1x128x128 (chunkS true (ld1 x6) (ld1 x7) (ld1 x8) (ld1 x9) (ld1 x10) (ld1 x11) (st11 S)) shapeCasts_S128x128_S1x1x128x128⟩,
   ⟨Rect.unit (s := S2x3x128x128) ![1, 0, 0, 0] S1x1x128x128.size inb_S2x3x128x128_S1x1x128x128_1_0_0_0, shapeCast S1x1x128x128 (chunkS true (ld0 x6) (ld0 x7) (ld0 x8) (ld0 x9) (ld0 x10) (ld0 x11) (st10 S)) shapeCasts_S128x128_S1x1x128x128⟩,
   ⟨Rect.unit (s := S2x3x128x128) ![0, 2, 0, 0] S1x1x128x128.size inb_S2x3x128x128_S1x1x128x128_0_2_0_0, shapeCast S1x1x128x128 (chunkS false (ld2 x0) (ld2 x1) (ld2 x2) (ld2 x3) (ld2 x4) (ld2 x5) (st02 S)) shapeCasts_S128x128_S1x1x128x128⟩,
   ⟨Rect.unit (s := S2x3x128x128) ![0, 1, 0, 0] S1x1x128x128.size inb_S2x3x128x128_S1x1x128x128_0_1_0_0, shapeCast S1x1x128x128 (chunkS false (ld1 x0) (ld1 x1) (ld1 x2) (ld1 x3) (ld1 x4) (ld1 x5) (st01 S)) shapeCasts_S128x128_S1x1x128x128⟩,
   ⟨Rect.unit (s := S2x3x128x128) ![0, 0, 0, 0] S1x1x128x128.size inb_S2x3x128x128_S1x1x128x128_0_0_0_0, shapeCast S1x1x128x128 (chunkS false (ld0 x0) (ld0 x1) (ld0 x2) (ld0 x3) (ld0 x4) (ld0 x5) (st00 S)) shapeCasts_S128x128_S1x1x128x128⟩]

end Cert.ScanIdeal.Chunk
-- ==== Proof.ScanOpen.lean ====
module

public import proofs.«01_k».proof.Proof.ScanChunk

@[expose] public section

set_option maxRecDepth 65536
set_option maxHeartbeats 4000000

noncomputable section

open Idealize.ShloMosaic Idealize.ShloMosaic.TcCoe Idealize.SL.Sem
open Idealize.ShloMosaic.Pipeline (Dat)

namespace Cert.ScanIdeal.Chunk

open Cert.ScanIdeal Cert.ScanIdeal.Gen

variable {F : FTy → Type} [FloatOps F] (m : (ℓ : Loc nD τ sig) → Buf (Elt F) ℓ)

/-- The forward block a grid point leaves, from the scratch array before it, where a batch entry goes on. -/
theorem openB0 (c : Dev nD) (t : Fin cfg0.N) (h : ¬ t.val % 128 = 0) : (outsAt0 m c t.val t.isLt).1 = View.canon (pieces0 (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((outsAt0 m c (t.val - 1) (Nat.lt_of_le_of_lt (Nat.sub_le _ _) t.isLt)).2.2)) := by
  rw [outsAt0_B m c t h]
  frame_open
  dsimp only
  simp (disch := decide) only [View.read_writes_junk_eq_canon, View.readAt_eq_ld, Memref.IsWhole.read_unread, read_unread_whole]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, pieces0, pieces1, piecesS, ld0, ld1, ld2, st00, st01, st02, st10, st11, st12, cumM, cumF, sm, atF, rtF, pinv, khF, bhF, gram, sameM, strictM, inclM, akF, abF, rkF, rbF, avF, neuF, uwF, wsF, uF, yF, foldF, totF, sF, gF, avC, uwC, wsC, uC, chunkY, chunkS, zc, tr, rest, over, i0, i1, cut, mm, if_true, if_false, Bool.false_eq_true]
  rfl

/-- The backward block a grid point leaves, from the scratch array before it, where a batch entry goes on. -/
theorem openB1 (c : Dev nD) (t : Fin cfg0.N) (h : ¬ t.val % 128 = 0) : (outsAt0 m c t.val t.isLt).2.1 = View.canon (pieces1 (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((outsAt0 m c (t.val - 1) (Nat.lt_of_le_of_lt (Nat.sub_le _ _) t.isLt)).2.2)) := by
  rw [outsAt0_B m c t h]
  frame_open
  dsimp only
  simp (disch := decide) only [View.read_writes_junk_eq_canon, View.readAt_eq_ld, Memref.IsWhole.read_unread, read_unread_whole]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, pieces0, pieces1, piecesS, ld0, ld1, ld2, st00, st01, st02, st10, st11, st12, cumM, cumF, sm, atF, rtF, pinv, khF, bhF, gram, sameM, strictM, inclM, akF, abF, rkF, rbF, avF, neuF, uwF, wsF, uF, yF, foldF, totF, sF, gF, avC, uwC, wsC, uC, chunkY, chunkS, zc, tr, rest, over, i0, i1, cut, mm, if_true, if_false, Bool.false_eq_true]
  rfl

/-- The scratch array a grid point leaves, from the one before it, where a batch entry goes on. -/
theorem openBS (c : Dev nD) (t : Fin cfg0.N) (h : ¬ t.val % 128 = 0) : (outsAt0 m c t.val t.isLt).2.2 = View.canon (piecesS (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((outsAt0 m c (t.val - 1) (Nat.lt_of_le_of_lt (Nat.sub_le _ _) t.isLt)).2.2)) := by
  rw [outsAt0_B m c t h]
  frame_open
  dsimp only
  simp (disch := decide) only [View.read_writes_junk_eq_canon, View.readAt_eq_ld, Memref.IsWhole.read_unread, read_unread_whole]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, pieces0, pieces1, piecesS, ld0, ld1, ld2, st00, st01, st02, st10, st11, st12, cumM, cumF, sm, atF, rtF, pinv, khF, bhF, gram, sameM, strictM, inclM, akF, abF, rkF, rbF, avF, neuF, uwF, wsF, uF, yF, foldF, totF, sF, gF, avC, uwC, wsC, uC, chunkY, chunkS, zc, tr, rest, over, i0, i1, cut, mm, if_true, if_false, Bool.false_eq_true]
  rfl

/-- The forward block a grid point leaves where a batch entry begins: the scratch array starts at zero. -/
theorem openA0 (c : Dev nD) (t : Fin cfg0.N) (h : t.val % 128 = 0) : (outsAt0 m c t.val t.isLt).1 = View.canon (pieces0 (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k0_pay3) := by
  rw [outsAt0_A m c t h]
  frame_open
  dsimp only
  simp (disch := decide) only [↓ View.readCov_skip, ↓ View.readCov_cons_toLoadRect, ↓ View.readCov_fill]
  simp (disch := decide) only [View.read_writes_junk_eq_canon, View.readAt_eq_ld, Memref.IsWhole.read_unread, read_unread_whole]
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, pieces0, pieces1, piecesS, ld0, ld1, ld2, st00, st01, st02, st10, st11, st12, cumM, cumF, sm, atF, rtF, pinv, khF, bhF, gram, sameM, strictM, inclM, akF, abF, rkF, rbF, avF, neuF, uwF, wsF, uF, yF, foldF, totF, sF, gF, avC, uwC, wsC, uC, chunkY, chunkS, zc, tr, rest, over, i0, i1, cut, mm, if_true, if_false, Bool.false_eq_true]
  rfl

/-- The backward block a grid point leaves where a batch entry begins: the scratch array starts at zero. -/
theorem openA1 (c : Dev nD) (t : Fin cfg0.N) (h : t.val % 128 = 0) : (outsAt0 m c t.val t.isLt).2.1 = View.canon (pieces1 (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k0_pay3) := by
  rw [outsAt0_A m c t h]
  frame_open
  dsimp only
  simp (disch := decide) only [↓ View.readCov_skip, ↓ View.readCov_cons_toLoadRect, ↓ View.readCov_fill]
  simp (disch := decide) only [View.read_writes_junk_eq_canon, View.readAt_eq_ld, Memref.IsWhole.read_unread, read_unread_whole]
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, pieces0, pieces1, piecesS, ld0, ld1, ld2, st00, st01, st02, st10, st11, st12, cumM, cumF, sm, atF, rtF, pinv, khF, bhF, gram, sameM, strictM, inclM, akF, abF, rkF, rbF, avF, neuF, uwF, wsF, uF, yF, foldF, totF, sF, gF, avC, uwC, wsC, uC, chunkY, chunkS, zc, tr, rest, over, i0, i1, cut, mm, if_true, if_false, Bool.false_eq_true]
  rfl

/-- The scratch array a grid point leaves where a batch entry begins: it starts at zero. -/
theorem openAS (c : Dev nD) (t : Fin cfg0.N) (h : t.val % 128 = 0) : (outsAt0 m c t.val t.isLt).2.2 = View.canon (piecesS (F := F) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k0_pay3 ++ [⟨Rect.unit (s := S2x3x128x128) ![0, 0, 0, 0] S2x3x128x128.size inb_S2x3x128x128_S2x3x128x128_0_0_0_0, k0_pay3⟩]) := by
  rw [outsAt0_A m c t h]
  frame_open
  dsimp only
  simp (disch := decide) only [↓ View.readCov_skip, ↓ View.readCov_cons_toLoadRect, ↓ View.readCov_fill]
  simp (disch := decide) only [View.read_writes_junk_eq_canon, View.readAt_eq_ld, Memref.IsWhole.read_unread, read_unread_whole]
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, pieces0, pieces1, piecesS, ld0, ld1, ld2, st00, st01, st02, st10, st11, st12, cumM, cumF, sm, atF, rtF, pinv, khF, bhF, gram, sameM, strictM, inclM, akF, abF, rkF, rbF, avF, neuF, uwF, wsF, uF, yF, foldF, totF, sF, gF, avC, uwC, wsC, uC, chunkY, chunkS, zc, tr, rest, over, i0, i1, cut, mm, List.cons_append, List.nil_append, if_true, if_false, Bool.false_eq_true]
  rfl

end Cert.ScanIdeal.Chunk
-- ==== Proof.ScanEmb.lean ====
module

public import proofs.«01_k».proof.Proof.ScanChunk
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.ScanIdeal.Chunk

open Cert.ScanIdeal Cert.ScanIdeal.Gen

/-- Square arrays of reals. -/
abbrev M128 := Matrix (Fin 128) (Fin 128) ℝ
/-- A chunk's array of reals. -/
abbrev M64 := Matrix (Fin 64) (Fin 128) ℝ

/-- A real array as an array of extended reals. -/
def emb (A : M128) : FVec Ideal S128x128 .f32 := fun y => ((A (y 0) (y 1) : ℝ) : EReal)
/-- The same for a chunk's array. -/
def emb6 (A : M64) : FVec Ideal S64x128 .f32 := fun y => ((A (y 0) (y 1) : ℝ) : EReal)

/-- A sum of reals, taken among the extended reals, is the sum of the reals. -/
theorem esum {ι : Type} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

/-- An array whose elements are a matrix's is the matrix as an array. -/
theorem eq_emb {f : FVec Ideal S128x128 .f32} {A : M128} (h : ∀ a b : Fin 128, f (ix2 a b) = ((A a b : ℝ) : EReal)) : f = emb A := by
  funext y
  rw [eq_ix2 y]
  exact h (y 0) (y 1)

/-- The same for a chunk's rows. -/
theorem eq_emb6 {f : FVec Ideal S64x128 .f32} {A : M64} (h : ∀ (a : Fin 64) (b : Fin 128), f (ix2 a b) = ((A a b : ℝ) : EReal)) : f = emb6 A := by
  funext y
  rw [eq_ix2 y]
  exact h (y 0) (y 1)

/-- An element of a chunk's rows as an array. -/
theorem emb6_at (A : M64) (a : Fin 64) (b : Fin 128) : emb6 A (ix2 a b) = ((A a b : ℝ) : EReal) := rfl
/-- An element of a matrix as an array. -/
theorem emb_at (A : M128) (a b : Fin 128) : emb A (ix2 a b) = ((A a b : ℝ) : EReal) := rfl

/-- The product of two matrices as arrays is the matrices' product as an array. -/
theorem mm_emb (A B : M128) : mm (emb A) (emb B) = emb (A * B) := by
  funext y
  simp only [mm, zc, tr]
  pointwise
  simp only [emb, Matrix.mul_apply, ← EReal.coe_mul]
  exact esum _ _

/-- The order in which the writer's and the reader's token come: strictly before, or not after. -/
def bef : Bool → Bool → ℕ → ℕ → Bool
  | false, true, r, c => decide (c < r)
  | false, false, r, c => decide (c ≤ r)
  | true, true, r, c => decide (r < c)
  | true, false, r, c => decide (r ≤ c)

/-- Zeros where reader and writer belong to different heads or the writer comes too late. -/
def maskR (rev strict : Bool) (A : M128) : M128 := fun r c =>
  if r.val / 64 = c.val / 64 ∧ bef rev strict r.val c.val = true then A r c else 0

/-- The head a lane belongs to, as the kernel computes it. -/
theorem div64 : ∀ a : Fin 128, Scalar.select
          (IntOp.andi
            (IntOp.cmpi CmpIPredicate.ne
              (IntOp.subi (BitVec.setWidth 32 (IntOp.cmpi CmpIPredicate.sgt (BitVec.ofNat 32 a.val) 0#32))
                (BitVec.setWidth 32 (IntOp.cmpi CmpIPredicate.slt (BitVec.ofNat 32 a.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 a.val) 64#32) 0#32))
          (IntOp.subi (IntOp.divsi ArithUnit.vector (BitVec.ofNat 32 a.val) 64#32) 1#32)
          (IntOp.divsi ArithUnit.vector (BitVec.ofNat 32 a.val) 64#32) = BitVec.ofNat 32 (a.val / 64) := by decide +kernel

/-- A bit made of a proposition is set exactly if the proposition holds. -/
theorem bit_one (p : Prop) [Decidable p] : BitVec.ofBool (decide p) = 1#1 ↔ p := by
  by_cases h : p <;> simp [h]

/-- Small numbers compare equal as words exactly if they are equal. -/
theorem cmp_eq (a b : ℕ) (ha : a < 2 ^ 31) (hb : b < 2 ^ 31) : IntOp.cmpi .eq (BitVec.ofNat 32 a) (BitVec.ofNat 32 b) = 1#1 ↔ a = b := by
  rw [WordCmp.cmpi_eq_eq_toNat, bit_one, BitVec.toNat_ofNat, BitVec.toNat_ofNat, Nat.mod_eq_of_lt (by omega), Nat.mod_eq_of_lt (by omega)]
/-- Small numbers compare less as words exactly if they are less. -/
theorem cmp_slt (a b : ℕ) (ha : a < 2 ^ 31) (hb : b < 2 ^ 31) : IntOp.cmpi .slt (BitVec.ofNat 32 a) (BitVec.ofNat 32 b) = 1#1 ↔ a < b := by
  rw [WordCmp.cmpi_slt_ofNat (w := 32) (by omega) (by omega), bit_one]
/-- Small numbers compare at most as words exactly if they are at most. -/
theorem cmp_sle (a b : ℕ) (ha : a < 2 ^ 31) (hb : b < 2 ^ 31) : IntOp.cmpi .sle (BitVec.ofNat 32 a) (BitVec.ofNat 32 b) = 1#1 ↔ a ≤ b := by
  rw [WordCmp.cmpi_sle_ofNat (w := 32) (by omega) (by omega), bit_one]
/-- Small numbers compare greater as words exactly if they are greater. -/
theorem cmp_sgt (a b : ℕ) (ha : a < 2 ^ 31) (hb : b < 2 ^ 31) : IntOp.cmpi .sgt (BitVec.ofNat 32 a) (BitVec.ofNat 32 b) = 1#1 ↔ b < a := by
  rw [WordCmp.cmpi_sgt_ofNat (w := 32) (by omega) (by omega), bit_one]
/-- Small numbers compare at least as words exactly if they are at least. -/
theorem cmp_sge (a b : ℕ) (ha : a < 2 ^ 31) (hb : b < 2 ^ 31) : IntOp.cmpi .sge (BitVec.ofNat 32 a) (BitVec.ofNat 32 b) = 1#1 ↔ b ≤ a := by
  rw [WordCmp.cmpi_sge_ofNat (w := 32) (by omega) (by omega), bit_one]

/-- A bit read as a number is one or zero. -/
theorem sitofp_bit (b : BitVec 1) : (FloatOps.sitofp .f32 (BitVec.setWidth 32 b) : Ideal .f32) = ((if b = 1#1 then (1 : ℝ) else 0 : ℝ) : EReal) := by
  rcases (by decide : ∀ b : BitVec 1, b = 0#1 ∨ b = 1#1) b with h | h <;> subst h
  · show (((BitVec.setWidth 32 0#1).toInt : ℝ) : EReal) = _
    simp
  · show (((BitVec.setWidth 32 1#1).toInt : ℝ) : EReal) = _
    simp

/-- The conjunction of two bits is set exactly if both are. -/
theorem andi_one (a b : BitVec 1) : IntOp.andi a b = 1#1 ↔ a = 1#1 ∧ b = 1#1 := by
  revert a b; decide

/-- The mask of the pairs within one head. -/
theorem same_at (a b : Fin 128) : sameM (ix2 a b) = 1#1 ↔ a.val / 64 = b.val / 64 := by
  simp only [sameM]
  pointwise [k0_pay68]
  have h0 := a.isLt
  have h1 := b.isLt
  rw [div64 a, div64 b]
  exact cmp_eq _ _ (by omega) (by omega)

/-- The strict mask: within one head, and earlier in the direction's order. -/
theorem strict_at (rev : Bool) (a b : Fin 128) : strictM rev (ix2 a b) = 1#1 ↔ a.val / 64 = b.val / 64 ∧ bef rev true a.val b.val = true := by
  have h0 := a.isLt
  have h1 := b.isLt
  refine (andi_one _ _).trans (and_congr (same_at a b) ?_)
  cases rev
  · simp only [i0, i1, Bool.false_eq_true, if_false, if_true]
    pointwise
    refine (cmp_slt b.val a.val (by omega) (by omega)).trans ?_
    simp [bef]
  · simp only [i0, i1, Bool.false_eq_true, if_false, if_true]
    pointwise
    refine (cmp_sgt b.val a.val (by omega) (by omega)).trans ?_
    simp [bef]

/-- The inclusive mask: within one head, and not later in the direction's order. -/
theorem incl_at (rev : Bool) (a b : Fin 128) : inclM rev (ix2 a b) = 1#1 ↔ a.val / 64 = b.val / 64 ∧ bef rev false a.val b.val = true := by
  have h0 := a.isLt
  have h1 := b.isLt
  refine (andi_one _ _).trans (and_congr (same_at a b) ?_)
  cases rev
  · simp only [i0, i1, Bool.false_eq_true, if_false, if_true]
    pointwise
    refine (cmp_sle b.val a.val (by omega) (by omega)).trans ?_
    simp [bef]
  · simp only [i0, i1, Bool.false_eq_true, if_false, if_true]
    pointwise
    refine (cmp_sge b.val a.val (by omega) (by omega)).trans ?_
    simp [bef]

/-- An array of reals under a mask that states a proposition. -/
theorem cut_emb (c : IVec S128x128 1) (A : M128) (P : Fin 128 → Fin 128 → Prop) [∀ a b, Decidable (P a b)] (h : ∀ a b, c (ix2 a b) = 1#1 ↔ P a b) :
    cut c (emb A) = emb (fun a b => if P a b then A a b else 0) := by
  refine eq_emb fun a b => ?_
  simp only [cut]
  pointwise
  rw [emb_at]
  by_cases k : c (ix2 a b) = 1#1
  · rw [if_pos ((h a b).mp k), k]; rfl
  · rw [if_neg (fun k' => k ((h a b).mpr k'))]
    have k2 : c (ix2 a b) = 0#1 := by
      rcases (by decide : ∀ b : BitVec 1, b = 0#1 ∨ b = 1#1) (c (ix2 a b)) with h | h
      · exact h
      · exact absurd h k
    rw [k2]
    simp [Scalar.select]

/-- A matrix under the strict mask. -/
theorem strict_emb (rev : Bool) (A : M128) : cut (strictM rev) (emb A) = emb (maskR rev true A) := cut_emb _ _ _ (strict_at rev)
/-- A matrix under the inclusive mask. -/
theorem incl_emb (rev : Bool) (A : M128) : cut (inclM rev) (emb A) = emb (maskR rev false A) := cut_emb _ _ _ (incl_at rev)

/-- The Gram array's quarter of removal keys against keys. -/
theorem ak_emb (a r k b : M128) : extractStridedSlice S128x128 ![0, 0] (gram (emb a) (emb r) (emb k) (emb b)) slices_S256x256_o0_0_S128x128 = emb (a * k.transpose) := by
  funext y
  simp only [gram, over, zc, tr]
  pointwise
  simp only [emb, Matrix.mul_apply, Matrix.transpose_apply, ← EReal.coe_mul]
  exact esum _ _

/-- What a chunk adds to the state, as the product of its stacked rows. -/
theorem upd_emb (v u k b : M128) : matmul dot_S256x128_S256x128_S128x128_0_0_1_1_n_n none (tr (over (emb v) (emb u))) (tr (over (emb k) (emb b))) (zc _) = emb (v.transpose * k + u.transpose * b) := by
  funext y
  simp only [over, zc, tr]
  pointwise
  simp only [emb, Matrix.add_apply, Matrix.mul_apply, Matrix.transpose_apply, ← EReal.coe_mul, EReal.coe_add]
  exact congrArg₂ (· + ·) (esum _ _) (esum _ _)

/-- A chunk's rows twice, each copy kept on one head's lanes. -/
def smR (X : M64) : M128 := fun r c => if r.val / 64 = c.val / 64 then X ⟨r.val % 64, by omega⟩ c else 0

/-- The upper half of the stacked rows: the first head's lanes. -/
theorem sm_aux0 (X : M64) (a b : Fin 128) (h : a.val < 64) : X ⟨a.val, h⟩ b * (if b.val < 64 then 1 else 0) = smR X a b := by
  have h1 := b.isLt
  have e : (⟨a.val % 64, by omega⟩ : Fin 64) = ⟨a.val, h⟩ := Fin.ext (Nat.mod_eq_of_lt h)
  unfold smR
  rw [e]
  by_cases h2 : b.val < 64
  · rw [if_pos h2, if_pos (by omega), mul_one]
  · rw [if_neg h2, if_neg (by omega), mul_zero]

/-- The lower half of the stacked rows: the second head's lanes. -/
theorem sm_aux1 (X : M64) (a b : Fin 128) (h : ¬ a.val < 64) : X ⟨a.val - 64, by omega⟩ b * (if 64 ≤ b.val then 1 else 0) = smR X a b := by
  have h1 := b.isLt
  have e : (⟨a.val % 64, by omega⟩ : Fin 64) = ⟨a.val - 64, by omega⟩ := Fin.ext (by show a.val % 64 = a.val - 64; omega)
  unfold smR
  rw [e]
  by_cases h2 : 64 ≤ b.val
  · rw [if_pos h2, if_pos (by omega), mul_one]
  · rw [if_neg h2, if_neg (by omega), mul_zero]

/-- The kernel's stacked and masked rows. -/
theorem sm_emb (X : M64) : sm (emb6 X) = emb (smR X) := by
  refine eq_emb fun a b => ?_
  have h0 := a.isLt
  have h1 := b.isLt
  simp only [sm]
  pointwise [k0_pay4, k0_pay5]
  simp only [sitofp_bit, emb6_at, emb_at, cmp_slt _ 64 (show b.val < 2 ^ 31 by omega) (by norm_num), cmp_sge _ 64 (show b.val < 2 ^ 31 by omega) (by norm_num)]
  split
  · rename_i h
    rw [← EReal.coe_mul]
    exact congrArg _ (sm_aux0 X a b h)
  · rename_i h
    rw [← EReal.coe_mul]
    exact congrArg _ (sm_aux1 X a b h)

/-- The running sums of a chunk's log decays. -/
def cumR (rev : Bool) (X : M64) : M64 := fun r c => ∑ s : Fin 64, (if bef rev false r.val s.val = true then 1 else 0) * X s c

/-- The kernel's product with the triangular matrix of ones is the sum of the log decays up to a token. -/
theorem cum_emb (X : M64) (rev : Bool) : cumF rev (emb6 X) = emb6 (cumR rev X) := by
  refine eq_emb6 fun a b => ?_
  have h0 := a.isLt
  simp only [cumF, cumM, rest, zc, tr]
  pointwise
  have e : ∀ x : Fin 64, IntOp.cmpi (if rev = true then CmpIPredicate.sge else CmpIPredicate.sle) (BitVec.ofNat 32 x.val) (BitVec.ofNat 32 a.val) = 1#1 ↔ bef rev false a.val x.val = true := by
    intro x
    cases rev
    · refine (cmp_sle _ _ (by omega) (by omega)).trans ?_; simp [bef]
    · refine (cmp_sge _ _ (by omega) (by omega)).trans ?_; simp [bef]
  simp only [sitofp_bit, emb6_at, e, ← EReal.coe_sub, sub_self, ← EReal.coe_mul, mul_zero, esum, Finset.sum_const_zero, ← EReal.coe_add, add_zero]
  rfl

/-- The exponential of a real among the extended reals. -/
theorem exp_coe (x : ℝ) : (FloatOps.exp (F := Ideal) ((x : ℝ) : EReal) : Ideal .f32) = ((Real.exp x : ℝ) : EReal) := rfl

/-- The removal keys. -/
def atR (kk lw cum : M64) : M128 := smR fun (r : Fin 64) (c : Fin 128) => -kk r c * Real.exp (cum r c - lw r c)
/-- The reading keys. -/
def rtR (x cum : M64) : M128 := smR fun (r : Fin 64) (c : Fin 128) => x r c * Real.exp (cum r c)
/-- The write keys. -/
def khR (kd cum : M64) : M128 := smR fun (r : Fin 64) (c : Fin 128) => kd r c * Real.exp (-cum r c)
/-- The replacement keys. -/
def bhR (kk a cum : M64) : M128 := smR fun (r : Fin 64) (c : Fin 128) => kk r c * a r c * Real.exp (-cum r c)

/-- The kernel's decayed removal keys. -/
theorem at_emb (kk lw cum : M64) : atF (emb6 kk) (emb6 lw) (emb6 cum) = emb (atR kk lw cum) := by
  refine (congrArg sm (eq_emb6 fun a b => ?_)).trans (sm_emb _)
  pointwise
  simp only [emb6_at, ← EReal.coe_sub, ← EReal.coe_neg, exp_coe, Ideal.exp_coe, ← EReal.coe_mul, zero_sub]

/-- The kernel's decayed queries. -/
theorem rt_emb (x cum : M64) : rtF (emb6 x) (emb6 cum) = emb (rtR x cum) := by
  refine (congrArg sm (eq_emb6 fun a b => ?_)).trans (sm_emb _)
  pointwise
  simp only [emb6_at, ← EReal.coe_sub, ← EReal.coe_neg, exp_coe, Ideal.exp_coe, ← EReal.coe_mul, zero_sub]

/-- The kernel's keys with the decays divided out. -/
theorem kh_emb (kd cum : M64) : khF (emb6 kd) (emb6 cum) = emb (khR kd cum) := by
  refine (congrArg sm (eq_emb6 fun a b => ?_)).trans (sm_emb _)
  simp only [pinv]
  pointwise
  simp only [emb6_at, ← EReal.coe_sub, ← EReal.coe_neg, exp_coe, Ideal.exp_coe, ← EReal.coe_mul, zero_sub]

/-- The kernel's replacement keys with the decays divided out. -/
theorem bh_emb (kk a cum : M64) : bhF (emb6 kk) (emb6 a) (emb6 cum) = emb (bhR kk a cum) := by
  refine (congrArg sm (eq_emb6 fun a b => ?_)).trans (sm_emb _)
  simp only [pinv]
  pointwise
  simp only [emb6_at, ← EReal.coe_sub, ← EReal.coe_neg, exp_coe, Ideal.exp_coe, ← EReal.coe_mul, zero_sub]

/-- The Gram array's quarter of removal keys against replacement keys. -/
theorem ab_emb (a r k b : M128) : extractStridedSlice S128x128 ![0, 128] (gram (emb a) (emb r) (emb k) (emb b)) slices_S256x256_o0_128_S128x128 = emb (a * b.transpose) := by
  refine eq_emb fun i j => ?_
  simp only [gram, over, zc, tr]
  pointwise
  simp only [emb_at, Matrix.mul_apply, Matrix.transpose_apply, ← EReal.coe_mul]
  exact esum _ _

/-- The Gram array's quarter of queries against keys. -/
theorem rk_emb (a r k b : M128) : extractStridedSlice S128x128 ![128, 0] (gram (emb a) (emb r) (emb k) (emb b)) slices_S256x256_o128_0_S128x128 = emb (r * k.transpose) := by
  refine eq_emb fun i j => ?_
  simp only [gram, over, zc, tr]
  pointwise
  simp only [emb_at, Matrix.mul_apply, Matrix.transpose_apply, ← EReal.coe_mul]
  exact esum _ _

/-- The Gram array's quarter of queries against replacement keys. -/
theorem rb_emb (a r k b : M128) : extractStridedSlice S128x128 ![128, 128] (gram (emb a) (emb r) (emb k) (emb b)) slices_S256x256_o128_128_S128x128 = emb (r * b.transpose) := by
  refine eq_emb fun i j => ?_
  simp only [gram, over, zc, tr]
  pointwise
  simp only [emb_at, Matrix.mul_apply, Matrix.transpose_apply, ← EReal.coe_mul]
  exact esum _ _

/-- The upper half of the masked Gram array's product with the values. -/
theorem av0_emb (ak rk v : M128) : extractStridedSlice S128x128 ![0, 0] (avF (emb ak) (emb rk) (emb v)) slices_S256x128_o0_0_S128x128 = emb (ak * v) := by
  refine eq_emb fun i j => ?_
  simp only [avF, over, zc, tr]
  pointwise
  simp only [emb_at, Matrix.mul_apply, ← EReal.coe_mul]
  exact esum _ _

/-- The lower half of the masked Gram array's product with the values. -/
theorem av1_emb (ak rk v : M128) : extractStridedSlice S128x128 ![128, 0] (avF (emb ak) (emb rk) (emb v)) slices_S256x128_o128_0_S128x128 = emb (rk * v) := by
  refine eq_emb fun i j => ?_
  simp only [avF, over, zc, tr]
  pointwise
  simp only [emb_at, Matrix.mul_apply, ← EReal.coe_mul]
  exact esum _ _

/-- The left half of the inverse's product: with the values' part. -/
theorem uw0_emb (t X A : M128) (av : FVec Ideal S256x128 .f32) (h : extractStridedSlice S128x128 ![0, 0] av slices_S256x128_o0_0_S128x128 = emb X) :
    extractStridedSlice S128x128 ![0, 0] (uwF (emb t) av (emb A)) slices_S128x256_o0_0_S128x128 = emb (t * X) := by
  refine eq_emb fun i j => ?_
  have h' : ∀ x : Fin 128, av (ix2 ⟨x.val, by omega⟩ j) = ((X x j : ℝ) : EReal) := fun x =>
    (show av (ix2 ⟨x.val, by omega⟩ j) = extractStridedSlice S128x128 ![0, 0] av slices_S256x128_o0_0_S128x128 (ix2 x j) by pointwise).trans (congrFun h _)
  simp only [uwF, zc, tr]
  pointwise
  simp only [h', emb_at, Matrix.mul_apply, ← EReal.coe_mul]
  exact esum _ _

/-- The right half of the inverse's product: with the removal keys. -/
theorem uw1_emb (t X A : M128) (av : FVec Ideal S256x128 .f32) (h : extractStridedSlice S128x128 ![0, 0] av slices_S256x128_o0_0_S128x128 = emb X) :
    extractStridedSlice S128x128 ![0, 128] (uwF (emb t) av (emb A)) slices_S128x256_o0_128_S128x128 = emb (t * A) := by
  refine eq_emb fun i j => ?_
  have h' : ∀ x : Fin 128, av (ix2 ⟨x.val, by omega⟩ j) = ((X x j : ℝ) : EReal) := fun x =>
    (show av (ix2 ⟨x.val, by omega⟩ j) = extractStridedSlice S128x128 ![0, 0] av slices_S256x128_o0_0_S128x128 (ix2 x j) by pointwise).trans (congrFun h _)
  simp only [uwF, zc, tr]
  pointwise
  simp only [h', emb_at, Matrix.mul_apply, ← EReal.coe_mul]
  exact esum _ _

/-- The upper half of the product with the state: the removal keys' part. -/
theorem ws0_emb (W R S : M128) (uw : FVec Ideal S128x256 .f32) (h : extractStridedSlice S128x128 ![0, 128] uw slices_S128x256_o0_128_S128x128 = emb W) :
    extractStridedSlice S128x128 ![0, 0] (wsF uw (emb R) (emb S)) slices_S256x128_o0_0_S128x128 = emb (W * S.transpose) := by
  refine eq_emb fun i j => ?_
  have h' : ∀ x : Fin 128, uw (ix2 i ⟨128 + x.val, by omega⟩) = ((W i x : ℝ) : EReal) := fun x =>
    (show uw (ix2 i ⟨128 + x.val, by omega⟩) = extractStridedSlice S128x128 ![0, 128] uw slices_S128x256_o0_128_S128x128 (ix2 i x) by pointwise).trans (congrFun h _)
  simp only [wsF, over, zc, tr]
  pointwise
  simp only [h', emb_at, Matrix.mul_apply, Matrix.transpose_apply, ← EReal.coe_mul]
  exact esum _ _

/-- The lower half of the product with the state: the queries' part. -/
theorem ws1_emb (W R S : M128) (uw : FVec Ideal S128x256 .f32) (h : extractStridedSlice S128x128 ![0, 128] uw slices_S128x256_o0_128_S128x128 = emb W) :
    extractStridedSlice S128x128 ![128, 0] (wsF uw (emb R) (emb S)) slices_S256x128_o128_0_S128x128 = emb (R * S.transpose) := by
  refine eq_emb fun i j => ?_
  have h' : ∀ x : Fin 128, uw (ix2 i ⟨128 + x.val, by omega⟩) = ((W i x : ℝ) : EReal) := fun x =>
    (show uw (ix2 i ⟨128 + x.val, by omega⟩) = extractStridedSlice S128x128 ![0, 128] uw slices_S128x256_o0_128_S128x128 (ix2 i x) by pointwise).trans (congrFun h _)
  simp only [wsF, over, zc, tr]
  pointwise
  simp only [h', emb_at, Matrix.mul_apply, Matrix.transpose_apply, ← EReal.coe_mul]
  exact esum _ _

/-- The sum of two matrices as arrays is the matrices' sum as an array. -/
theorem add_emb (A B : M128) : addf (emb A) (emb B) = emb (A + B) := by
  refine eq_emb fun i j => ?_
  pointwise
  simp only [emb_at, ← EReal.coe_add, Matrix.add_apply]

/-- The inverse of one minus a triangular matrix, by doubling. -/
def neuR (A : M128) : M128 :=
  have p1 := A * A
  have t1 := (1 + A) + (1 + A) * p1
  have p2 := p1 * p1
  have t2 := t1 + t1 * p2
  have p3 := p2 * p2
  have t3 := t2 + t2 * p3
  have p4 := p3 * p3
  have t4 := t3 + t3 * p4
  have p5 := p4 * p4
  t4 + t4 * p5

/-- The kernel's identity array. -/
theorem one_emb : (select (cmpi .eq i0 i1) (broadcast S128x128 (Scalar.ofBits .f32 0x3F800000#32)) (broadcast S128x128 (Scalar.ofBits .f32 0x00000000#32)) : FVec Ideal S128x128 .f32) = emb 1 := by
  refine eq_emb fun i j => ?_
  have h0 := i.isLt
  have h1 := j.isLt
  have e := cmp_eq i.val j.val (by omega) (by omega)
  pointwise
  by_cases h : i = j
  · subst h
    rw [e.mpr rfl, Matrix.one_apply_eq]
    simp [Scalar.select]
  · have k2 : IntOp.cmpi .eq (BitVec.ofNat 32 i.val) (BitVec.ofNat 32 j.val) = 0#1 := by
      rcases (by decide : ∀ b : BitVec 1, b = 0#1 ∨ b = 1#1) (IntOp.cmpi .eq (BitVec.ofNat 32 i.val) (BitVec.ofNat 32 j.val)) with k | k
      · exact k
      · exact absurd (Fin.ext (e.mp k)) h
    rw [k2, Matrix.one_apply_ne h]
    simp [Scalar.select]

/-- The kernel's Neumann product. -/
theorem neu_emb (A : M128) : neuF (emb A) = emb (neuR A) := by
  simp only [neuF, one_emb, mm_emb, add_emb]
  rfl

/-- The two heads' halves of the outputs added to one row each. -/
theorem fold_emb (Y : M128) : foldF (emb Y) = emb6 (fun (t : Fin 64) (c : Fin 128) => Y ⟨t.val, by omega⟩ c + Y ⟨64 + t.val, by omega⟩ c) := by
  refine eq_emb6 fun i j => ?_
  simp only [foldF]
  pointwise
  simp only [emb_at, EReal.coe_add]

/-- The last token in scan order. -/
def lastT (rev : Bool) : Fin 64 := if rev then 0 else 63

/-- The state after a chunk, of the corrections. -/
theorem s_emb (rev : Bool) (v u k b s0 : M128) (cum : M64) : sF rev (emb v) (emb u) (emb k) (emb b) (emb s0) (emb6 cum) =
    emb (fun (i j : Fin 128) => (s0 i j + (v.transpose * k + u.transpose * b) i j) * Real.exp (cum (lastT rev) j)) := by
  refine eq_emb fun i j => ?_
  simp only [sF, upd_emb, add_emb]
  cases rev
  · simp only [totF]
    pointwise
    simp only [emb_at, emb6_at, exp_coe, Ideal.exp_coe, ← EReal.coe_mul]
    rfl
  · simp only [totF]
    pointwise
    simp only [emb_at, emb6_at, exp_coe, Ideal.exp_coe, ← EReal.coe_mul]
    rfl

/-- A chunk's inputs: reading, value, removal, log decay, write and rate rows of a pair of heads. -/
structure In where
  r : M64
  v : M64
  kk : M64
  lw : M64
  kd : M64
  a : M64

/-- The inverse matrix of a chunk. -/
def invR (rev : Bool) (x : In) : M128 := neuR (maskR rev true (atR x.kk x.lw (cumR rev x.lw) * (bhR x.kk x.a (cumR rev x.lw)).transpose))
/-- The corrections of a chunk. -/
def uR (rev : Bool) (x : In) (S : M128) : M128 :=
  invR rev x * (maskR rev true (atR x.kk x.lw (cumR rev x.lw) * (khR x.kd (cumR rev x.lw)).transpose) * smR x.v) + invR rev x * atR x.kk x.lw (cumR rev x.lw) * S.transpose
/-- The outputs of a chunk, one head per half of the rows. -/
def yR (rev : Bool) (x : In) (S : M128) : M128 :=
  rtR x.r (cumR rev x.lw) * S.transpose + maskR rev false (rtR x.r (cumR rev x.lw) * (khR x.kd (cumR rev x.lw)).transpose) * smR x.v
    + maskR rev false (rtR x.r (cumR rev x.lw) * (bhR x.kk x.a (cumR rev x.lw)).transpose) * uR rev x S
/-- The state a chunk leaves. -/
def sR (rev : Bool) (x : In) (S : M128) : M128 := fun (i j : Fin 128) =>
  (S i j + ((smR x.v).transpose * khR x.kd (cumR rev x.lw) + (uR rev x S).transpose * bhR x.kk x.a (cumR rev x.lw)) i j) * Real.exp (cumR rev x.lw (lastT rev) j)

/-- The kernel's corrections. -/
theorem u_emb (rev : Bool) (x : In) (S : M128) : uC rev (emb6 x.r) (emb6 x.v) (emb6 x.kk) (emb6 x.lw) (emb6 x.kd) (emb6 x.a) (emb S) = emb (uR rev x S) := by
  have h1 : extractStridedSlice S128x128 ![0, 0] (avC rev (emb6 x.r) (emb6 x.v) (emb6 x.kk) (emb6 x.lw) (emb6 x.kd) (emb6 x.a)) slices_S256x128_o0_0_S128x128
      = emb (maskR rev true (atR x.kk x.lw (cumR rev x.lw) * (khR x.kd (cumR rev x.lw)).transpose) * smR x.v) := by
    simp only [avC, gF, akF, rkF, cum_emb, at_emb, rt_emb, kh_emb, bh_emb, sm_emb, ak_emb, rk_emb, strict_emb, incl_emb, av0_emb]
  simp only [uC, uF, wsC, uwC, gF, abF, cum_emb, at_emb, rt_emb, kh_emb, bh_emb, ab_emb, strict_emb, neu_emb]
  rw [uw0_emb _ _ _ _ h1, ws0_emb _ _ _ _ (uw1_emb _ _ _ _ h1), add_emb]
  rfl

/-- The kernel's outputs of a chunk. -/
theorem y_emb (rev : Bool) (x : In) (S : M128) : chunkY rev (emb6 x.r) (emb6 x.v) (emb6 x.kk) (emb6 x.lw) (emb6 x.kd) (emb6 x.a) (emb S)
    = emb6 (fun (t : Fin 64) (c : Fin 128) => yR rev x S ⟨t.val, by omega⟩ c + yR rev x S ⟨64 + t.val, by omega⟩ c) := by
  have h1 : extractStridedSlice S128x128 ![0, 0] (avC rev (emb6 x.r) (emb6 x.v) (emb6 x.kk) (emb6 x.lw) (emb6 x.kd) (emb6 x.a)) slices_S256x128_o0_0_S128x128
      = emb (maskR rev true (atR x.kk x.lw (cumR rev x.lw) * (khR x.kd (cumR rev x.lw)).transpose) * smR x.v) := by
    simp only [avC, gF, akF, rkF, cum_emb, at_emb, rt_emb, kh_emb, bh_emb, sm_emb, ak_emb, rk_emb, strict_emb, incl_emb, av0_emb]
  have h2 : extractStridedSlice S128x128 ![128, 0] (avC rev (emb6 x.r) (emb6 x.v) (emb6 x.kk) (emb6 x.lw) (emb6 x.kd) (emb6 x.a)) slices_S256x128_o128_0_S128x128
      = emb (maskR rev false (rtR x.r (cumR rev x.lw) * (khR x.kd (cumR rev x.lw)).transpose) * smR x.v) := by
    simp only [avC, gF, akF, rkF, cum_emb, at_emb, rt_emb, kh_emb, bh_emb, sm_emb, ak_emb, rk_emb, strict_emb, incl_emb, av1_emb]
  have h3 : extractStridedSlice S128x128 ![128, 0] (wsC rev (emb6 x.r) (emb6 x.v) (emb6 x.kk) (emb6 x.lw) (emb6 x.kd) (emb6 x.a) (emb S)) slices_S256x128_o128_0_S128x128
      = emb (rtR x.r (cumR rev x.lw) * S.transpose) := by
    simp only [wsC, uwC, gF, abF, cum_emb, at_emb, rt_emb, kh_emb, bh_emb, ab_emb, strict_emb, neu_emb]
    exact ws1_emb _ _ _ _ (uw1_emb _ _ _ _ h1)
  unfold chunkY yF
  rw [u_emb, h2, h3]
  simp only [gF, rbF, cum_emb, at_emb, rt_emb, kh_emb, bh_emb, rb_emb, incl_emb, mm_emb, add_emb]
  exact fold_emb _

/-- The kernel's state after a chunk. -/
theorem s_emb' (rev : Bool) (x : In) (S : M128) : chunkS rev (emb6 x.r) (emb6 x.v) (emb6 x.kk) (emb6 x.lw) (emb6 x.kd) (emb6 x.a) (emb S) = emb (sR rev x S) := by
  unfold chunkS
  rw [u_emb]
  simp only [cum_emb, kh_emb, bh_emb, sm_emb]
  exact s_emb rev _ _ _ _ _ _

end Cert.ScanIdeal.Chunk
-- ==== Proof.ScanMath.lean ====
/- One chunk of 64 tokens of the recurrence, over the reals. A token turns the state `S` into
   `S diag(exp lw) + (S (-kk)) (kk a)ᵀ + v kdᵀ` and reads `S r` from the new state; here the state after all the
   chunk's tokens, and every token's reading, are written with matrix products only: the decays are divided out, and
   what the tokens feed back (`corr`) solves a triangular system, whose inverse is a product of six factors. The order
   in which the tokens come is a parameter, `p`: token `p n` is the `n`-th. -/
module

public import Mathlib.Analysis.SpecialFunctions.Exp
public import Mathlib.Data.Matrix.Mul
public import Mathlib.Tactic.Ring
public import Mathlib.Tactic.Linarith
public import Mathlib.Tactic.NoncommRing

@[expose] public section

noncomputable section

namespace Cert.ScanMath

open Finset

/-- A 64 by 64 real matrix: a state, or a chunk's vectors one row per token. -/
abbrev Mat := Matrix (Fin 64) (Fin 64) ℝ

/-- What the tokens of a chunk bring, one row per token. -/
structure Toks where
  r : Mat
  v : Mat
  kk : Mat
  lw : Mat
  kd : Mat
  a : Mat

/-- What token `t` makes of the state. -/
def stepS (x : Toks) (t : Fin 64) (S : Mat) : Mat := fun i j =>
  S i j * Real.exp (x.lw t j) + (∑ l, S i l * (-x.kk t l)) * (x.kk t j * x.a t j) + x.v t i * x.kd t j

/-- A matrix whose entries vanish unless the column's token comes at least `k` places before the row's. -/
def Low (p : Fin 64 → Fin 64) (k : ℕ) (M : Mat) : Prop := ∀ t s, M t s ≠ 0 → (p s).val + k ≤ (p t).val

/-- The distances add up in a product. -/
theorem Low.mul {p : Fin 64 → Fin 64} {k l : ℕ} {M N : Mat} (hM : Low p k M) (hN : Low p l N) : Low p (k + l) (M * N) := by
  intro t s h
  rw [Matrix.mul_apply] at h
  obtain ⟨q, -, hq⟩ := exists_ne_zero_of_sum_ne_zero h
  have h1 := hM t q (left_ne_zero_of_mul hq)
  have h2 := hN q s (right_ne_zero_of_mul hq)
  omega

/-- No two tokens of a chunk are 64 places apart. -/
theorem Low.eq_zero {p : Fin 64 → Fin 64} {M : Mat} (hM : Low p 64 M) : M = 0 := by
  ext t s
  by_contra h
  have := hM t s h
  have := (p t).isLt
  omega

/-- The inverse of `1 - A` as a sum that doubles five times. -/
def neu (A : Mat) : Mat :=
  let p1 := A * A
  let t1 := (1 + A) + (1 + A) * p1
  let p2 := p1 * p1
  let t2 := t1 + t1 * p2
  let p3 := p2 * p2
  let t3 := t2 + t2 * p3
  let p4 := p3 * p3
  let t4 := t3 + t3 * p4
  let p5 := p4 * p4
  t4 + t4 * p5

/-- One doubling. -/
theorem double {B t q : Mat} (h : B * t = 1 - q) : B * (t + t * q) = 1 - q * q := by
  rw [mul_add, ← mul_assoc, h]; noncomm_ring

/-- It is the inverse for a strictly triangular `A`. -/
theorem neu_inv {p : Fin 64 → Fin 64} {A : Mat} (hA : Low p 1 A) : (1 - A) * neu A = 1 := by
  have h0 : (1 - A) * (1 + A) = 1 - A * A := by noncomm_ring
  have h := double (double (double (double (double h0))))
  have z := ((((((hA.mul hA).mul (hA.mul hA)).mul ((hA.mul hA).mul (hA.mul hA))).mul
    (((hA.mul hA).mul (hA.mul hA)).mul ((hA.mul hA).mul (hA.mul hA))))).mul
    ((((hA.mul hA).mul (hA.mul hA)).mul ((hA.mul hA).mul (hA.mul hA))).mul
    (((hA.mul hA).mul (hA.mul hA)).mul ((hA.mul hA).mul (hA.mul hA)))))
  have z' := (z.mul z).eq_zero
  rw [z', sub_zero] at h
  exact h

section Chunk

variable (p : Fin 64 → Fin 64) (x : Toks) (S0 : Mat)

/-- The log decay from the chunk's beginning up to and with token `t`. -/
def cum : Mat := fun t j => ∑ s, (if p s ≤ p t then (1 : ℝ) else 0) * x.lw s j

/-- The log decay of the first `n` tokens. -/
def cumAt (n : ℕ) (j : Fin 64) : ℝ := ∑ s, if (p s).val < n then x.lw s j else 0

/-- The removal keys before the token's own decay. -/
def atl : Mat := fun t j => -x.kk t j * Real.exp (cum p x t j - x.lw t j)
/-- The readers with the decay. -/
def rtl : Mat := fun t j => x.r t j * Real.exp (cum p x t j)
/-- The keys with the decay divided out. -/
def khl : Mat := fun t j => x.kd t j * Real.exp (-cum p x t j)
/-- The replacement keys with the decay divided out. -/
def bhl : Mat := fun t j => x.kk t j * x.a t j * Real.exp (-cum p x t j)

/-- The products of two chunks' rows where the column's token comes before the row's. -/
def strict (M N : Mat) : Mat := fun t s => if p s < p t then ∑ j, M t j * N s j else 0
/-- The same with the token itself. -/
def incl (M N : Mat) : Mat := fun t s => if p s ≤ p t then ∑ j, M t j * N s j else 0

/-- The inverse of the triangular system. -/
def inv : Mat := neu (strict p (atl p x) (bhl p x))

/-- What each token feeds back, as the kernel computes it. -/
def corr : Mat := fun t i =>
  (∑ s, inv p x t s * ∑ q, strict p (atl p x) (khl p x) s q * x.v q i) + ∑ j, (∑ s, inv p x t s * atl p x s j) * S0 i j

/-- What each token reads, as the kernel computes it. -/
def outC : Mat := fun t i =>
  (∑ j, rtl p x t j * S0 i j) + (∑ s, incl p (rtl p x) (khl p x) t s * x.v s i)
    + ∑ s, incl p (rtl p x) (bhl p x) t s * corr p x S0 s i

/-- The state after the chunk, as the kernel computes it. -/
def newS (last : Fin 64) : Mat := fun i j =>
  (S0 i j + ((∑ s, x.v s i * khl p x s j) + ∑ s, corr p x S0 s i * bhl p x s j)) * Real.exp (cum p x last j)

variable {p} {x} {S0}

/-- A sum over the first `n + 1` tokens, one more than over the first `n`. -/
theorem sum_below_succ (hp : ∀ t, p (p t) = t) (f : Fin 64 → ℝ) (n : ℕ) (h : n < 64) :
    (∑ s, if (p s).val < n + 1 then f s else 0) = (∑ s, if (p s).val < n then f s else 0) + f (p ⟨n, h⟩) := by
  have e : f (p ⟨n, h⟩) = ∑ s, if s = p ⟨n, h⟩ then f s else 0 := by simp
  rw [e, ← sum_add_distrib]
  refine sum_congr rfl fun s _ => ?_
  have i : s = p ⟨n, h⟩ ↔ (p s).val = n :=
    ⟨fun e => by rw [e, hp], fun e => by rw [← hp s]; congr 1; exact Fin.ext e⟩
  by_cases h1 : (p s).val < n
  · rw [if_pos (by omega), if_pos h1, if_neg (fun e => by have := i.1 e; omega), add_zero]
  · by_cases h2 : (p s).val = n
    · rw [if_pos (by omega), if_neg h1, if_pos (i.2 h2), zero_add]
    · rw [if_neg (by omega), if_neg h1, if_neg (fun e => h2 (i.1 e)), zero_add]

/-- The decay with token `t` is the decay of one token more than come before it. -/
theorem cum_eq (t j : Fin 64) : cum p x t j = cumAt p x ((p t).val + 1) j := by
  unfold cum cumAt
  refine sum_congr rfl fun s _ => ?_
  by_cases h : p s ≤ p t
  · rw [if_pos h, if_pos (Nat.lt_succ_of_le h), one_mul]
  · rw [if_neg h, if_neg (fun e => h (Nat.le_of_lt_succ e)), zero_mul]

/-- The triangular system is strictly triangular. -/
theorem strict_low (M N : Mat) : Low p 1 (strict p M N) := by
  intro t s h
  unfold strict at h
  by_contra hc
  exact h (if_neg fun e => hc e)

/-- What is fed back solves the triangular system. -/
theorem corr_eq (t i : Fin 64) : corr p x S0 t i = (∑ j, atl p x t j * S0 i j)
    + (∑ s, strict p (atl p x) (khl p x) t s * x.v s i) + ∑ s, strict p (atl p x) (bhl p x) t s * corr p x S0 s i := by
  set A := strict p (atl p x) (bhl p x) with hA
  have e : (1 - A) * neu A = 1 := neu_inv (strict_low _ _)
  set rhs : Mat := strict p (atl p x) (khl p x) * x.v + atl p x * S0.transpose with hr
  have c : corr p x S0 = neu A * rhs := by
    rw [hr, mul_add, ← mul_assoc (neu A) (atl p x)]
    ext t i
    simp only [corr, inv, Matrix.add_apply, Matrix.mul_apply, Matrix.transpose_apply, hA]
  have f : corr p x S0 = rhs + A * corr p x S0 := by
    have : (1 - A) * corr p x S0 = rhs := by rw [c, ← mul_assoc, e, one_mul]
    rw [sub_mul, one_mul] at this
    exact sub_eq_iff_eq_add.1 this
  have g := congrFun (congrFun f t) i
  rw [g, hr]
  simp only [Matrix.add_apply, Matrix.mul_apply, Matrix.transpose_apply]
  ring

/-- The state after the first `n` tokens with their decay divided out. -/
def acc (p : Fin 64 → Fin 64) (x : Toks) (S0 : Mat) (n : ℕ) : Mat := fun i j =>
  S0 i j + ∑ s, if (p s).val < n then x.v s i * khl p x s j + corr p x S0 s i * bhl p x s j else 0

/-- A row against that state: through the initial state, the keys, and what was fed back. -/
theorem acc_dot (n : ℕ) (i : Fin 64) (f : Fin 64 → ℝ) : (∑ j, acc p x S0 n i j * f j) = (∑ j, f j * S0 i j)
    + (∑ s, (if (p s).val < n then ∑ j, f j * khl p x s j else 0) * x.v s i)
    + ∑ s, (if (p s).val < n then ∑ j, f j * bhl p x s j else 0) * corr p x S0 s i := by
  unfold acc
  simp only [add_mul, sum_mul, sum_add_distrib]
  rw [add_assoc]
  congr 1
  · exact sum_congr rfl fun _ _ => mul_comm _ _
  · rw [sum_comm, ← sum_add_distrib]
    refine sum_congr rfl fun s _ => ?_
    by_cases h : (p s).val < n
    · simp only [if_pos h, sum_mul, ← sum_add_distrib]
      exact sum_congr rfl fun _ _ => by ring
    · simp [h]

/-- One token more. -/
theorem acc_succ (hp : ∀ t, p (p t) = t) (n : ℕ) (h : n < 64) (i j : Fin 64) : acc p x S0 (n + 1) i j
    = acc p x S0 n i j + (x.v (p ⟨n, h⟩) i * khl p x (p ⟨n, h⟩) j + corr p x S0 (p ⟨n, h⟩) i * bhl p x (p ⟨n, h⟩) j) := by
  unfold acc
  rw [sum_below_succ hp (fun s => x.v s i * khl p x s j + corr p x S0 s i * bhl p x s j) n h, add_assoc]

/-- What token `t` feeds back is the state before it against its removal key. -/
theorem acc_corr (hp : ∀ t, p (p t) = t) (n : ℕ) (h : n < 64) (i : Fin 64) :
    (∑ j, acc p x S0 n i j * atl p x (p ⟨n, h⟩) j) = corr p x S0 (p ⟨n, h⟩) i := by
  rw [acc_dot, corr_eq]
  have e : ∀ s, (p s < p (p ⟨n, h⟩)) ↔ (p s).val < n := fun s => by rw [hp]; exact Iff.rfl
  simp only [strict, e]

/-- THE STATES: after `n` tokens the state is the divided-out one times the decay. -/
theorem states (hp : ∀ t, p (p t) = t) (T : ℕ → Mat) (h0 : T 0 = S0)
    (hs : ∀ n (h : n < 64), T (n + 1) = stepS x (p ⟨n, h⟩) (T n)) :
    ∀ n, n ≤ 64 → ∀ i j, T n i j = acc p x S0 n i j * Real.exp (cumAt p x n j) := by
  intro n
  induction n with
  | zero => intro _ i j; simp [acc, cumAt, h0]
  | succ n ih =>
    intro hn i j
    have h : n < 64 := hn
    have I := ih (by omega)
    have c1 : ∀ j, cumAt p x (n + 1) j = cumAt p x n j + x.lw (p ⟨n, h⟩) j := fun j =>
      sum_below_succ hp (fun s => x.lw s j) n h
    have c2 : ∀ j, cum p x (p ⟨n, h⟩) j = cumAt p x (n + 1) j := fun j => by rw [cum_eq, hp]
    have d : (∑ l, T n i l * (-x.kk (p ⟨n, h⟩) l)) = corr p x S0 (p ⟨n, h⟩) i := by
      rw [← acc_corr hp n h]
      refine sum_congr rfl fun l _ => ?_
      rw [I, atl, c2, c1, add_sub_cancel_right]; ring
    rw [hs n h, stepS, d, I, acc_succ hp n h]
    simp only [khl, bhl, c2, c1, Real.exp_add, neg_add, Real.exp_neg]
    have e1 := Real.exp_ne_zero (cumAt p x n j)
    have e2 := Real.exp_ne_zero (x.lw (p ⟨n, h⟩) j)
    field_simp
    ring

/-- THE READINGS: the token's reading of the state after it is the kernel's. -/
theorem readings (hp : ∀ t, p (p t) = t) (T : ℕ → Mat) (h0 : T 0 = S0)
    (hs : ∀ n (h : n < 64), T (n + 1) = stepS x (p ⟨n, h⟩) (T n)) (t i : Fin 64) :
    (∑ j, T ((p t).val + 1) i j * x.r t j) = outC p x S0 t i := by
  have e : ∀ s, (p s ≤ p t) ↔ (p s).val < (p t).val + 1 := fun s => Nat.lt_succ_iff.symm
  have f : (∑ j, T ((p t).val + 1) i j * x.r t j) = ∑ j, acc p x S0 ((p t).val + 1) i j * rtl p x t j :=
    sum_congr rfl fun j _ => by rw [states hp T h0 hs _ (p t).isLt, rtl, cum_eq]; ring
  rw [f, acc_dot, outC]
  simp only [incl, e]

/-- THE LAST STATE is the kernel's; `last` is the token that comes last. -/
theorem newS_eq (hp : ∀ t, p (p t) = t) (T : ℕ → Mat) (h0 : T 0 = S0)
    (hs : ∀ n (h : n < 64), T (n + 1) = stepS x (p ⟨n, h⟩) (T n)) (last : Fin 64) (hl : (p last).val = 63) :
    T 64 = newS p x S0 last := by
  ext i j
  rw [states hp T h0 hs 64 le_rfl, newS, cum_eq, hl]
  have e : ∀ s, (p s).val < 64 := fun s => (p s).isLt
  simp only [acc, e, if_true, sum_add_distrib]

end Chunk

end Cert.ScanMath

end
-- ==== Proof.ScanBlock.lean ====
module

public import proofs.«01_k».proof.Proof.ScanEmb
public import proofs.«01_k».proof.Proof.ScanMath

@[expose] public section

set_option maxRecDepth 16384

noncomputable section

open Cert.ScanMath (Mat Toks)

namespace Cert.ScanIdeal.Chunk

/-- Lane `i` of head `h` of a pair. -/
def hd (h : Fin 2) (i : Fin 64) : Fin 128 := ⟨h.val * 64 + i.val, by omega⟩

/-- Two heads' arrays on the diagonal. -/
def bd (A : Fin 2 → Mat) : M128 := fun r c =>
  if r.val / 64 = c.val / 64 then A ⟨r.val / 64, by omega⟩ ⟨r.val % 64, by omega⟩ ⟨c.val % 64, by omega⟩ else 0

/-- A lane of a pair belongs to its head. -/
theorem hd_div (h : Fin 2) (i : Fin 64) : (hd h i).val / 64 = h.val := by show (h.val * 64 + i.val) / 64 = _; omega
/-- A lane of a pair has its place within its head. -/
theorem hd_mod (h : Fin 2) (i : Fin 64) : (hd h i).val % 64 = i.val := by show (h.val * 64 + i.val) % 64 = _; omega
/-- Every lane of a pair is some head's lane. -/
theorem hd_surj (r : Fin 128) : ∃ h i, r = hd h i := ⟨⟨r.val / 64, by omega⟩, ⟨r.val % 64, by omega⟩, Fin.ext (by show r.val = (r.val / 64) * 64 + r.val % 64; omega)⟩

/-- A block-diagonal matrix's elements: a head's own within the head, nothing between heads. -/
theorem bd_at (A : Fin 2 → Mat) (h h' : Fin 2) (i j : Fin 64) : bd A (hd h i) (hd h' j) = if h = h' then A h i j else 0 := by
  unfold bd
  simp only [hd_div, hd_mod, Fin.eta, Fin.val_inj]

/-- Two matrices over pairs of heads are equal if they agree at every head's lanes. -/
theorem ext_hd {A B : M128} (e : ∀ h i h' j, A (hd h i) (hd h' j) = B (hd h i) (hd h' j)) : A = B := by
  ext r c
  obtain ⟨h, i, rfl⟩ := hd_surj r
  obtain ⟨h', j, rfl⟩ := hd_surj c
  exact e h i h' j

/-- A sum over a pair's lanes is the sum over the heads of the sums over their lanes. -/
theorem sum_hd (f : Fin 128 → ℝ) : ∑ x, f x = ∑ h : Fin 2, ∑ i : Fin 64, f (hd h i) := Idealize.ShloMosaic.Fin.sum_univ_tiles 2 64 rfl f

/-- Block-diagonal matrices multiply head by head. -/
theorem bd_mul (A B : Fin 2 → Mat) : bd A * bd B = bd (fun h => A h * B h) := by
  refine ext_hd fun h i h' j => ?_
  rw [Matrix.mul_apply, sum_hd, bd_at]
  simp only [bd_at]
  rw [Finset.sum_eq_single h (fun k _ hk => Finset.sum_eq_zero fun x _ => by rw [if_neg (Ne.symm hk), zero_mul]) (by simp)]
  by_cases e : h = h'
  · subst e; simp [Matrix.mul_apply]
  · simp [e]

/-- Block-diagonal matrices add head by head. -/
theorem bd_add (A B : Fin 2 → Mat) : bd A + bd B = bd (fun h => A h + B h) := by
  refine ext_hd fun h i h' j => ?_
  rw [Matrix.add_apply, bd_at, bd_at, bd_at]
  by_cases e : h = h' <;> simp [e]

/-- The identity is block diagonal. -/
theorem bd_one : (1 : M128) = bd (fun _ => 1) := by
  refine ext_hd fun h i h' j => ?_
  rw [bd_at]
  by_cases e : h = h'
  · subst e
    rw [if_pos rfl]
    by_cases k : i = j
    · subst k; simp
    · rw [Matrix.one_apply_ne k, Matrix.one_apply_ne]
      intro q; apply k
      have := congrArg (fun z : Fin 128 => z.val % 64) q
      simp only [hd_mod] at this
      exact Fin.ext this
  · rw [if_neg e, Matrix.one_apply_ne]
    intro q; apply e
    have := congrArg (fun z : Fin 128 => z.val / 64) q
    simp only [hd_div] at this
    exact Fin.ext this

/-- Block-diagonal matrices transpose head by head. -/
theorem bd_tr (A : Fin 2 → Mat) : (bd A).transpose = bd (fun h => (A h).transpose) := by
  refine ext_hd fun h i h' j => ?_
  rw [Matrix.transpose_apply, bd_at, bd_at]
  by_cases e : h = h'
  · subst e; rfl
  · rw [if_neg e, if_neg (Ne.symm e)]

/-- The Neumann product of a block-diagonal matrix is taken head by head. -/
theorem bd_neu (A : Fin 2 → Mat) : neuR (bd A) = bd (fun h => Cert.ScanMath.neu (A h)) := by
  simp only [neuR, bd_one, bd_mul, bd_add]
  rfl

/-- One head's lanes of a pair's rows. -/
def pick (X : M64) (h : Fin 2) : Mat := fun t j => X t (hd h j)

/-- Rows stacked with the other head's lanes masked make a block-diagonal matrix. -/
theorem bd_sm (X : M64) : smR X = bd (pick X) := by
  refine ext_hd fun h i h' j => ?_
  rw [bd_at]
  unfold smR
  simp only [hd_div, hd_mod, Fin.eta, Fin.val_inj]
  by_cases e : h = h'
  · subst e; simp [pick]
  · simp [e]

/-- The scan order within a chunk. -/
def ord (rev : Bool) : Fin 64 → Fin 64 := if rev then Fin.rev else id

/-- A direction's order of a chunk's tokens is its own inverse. -/
theorem ord_ord (rev : Bool) (t : Fin 64) : ord rev (ord rev t) = t := by
  cases rev <;> simp [ord]

/-- The last token of a direction is the 63rd in its order. -/
theorem ord_last (rev : Bool) : (ord rev (lastT rev)).val = 63 := by
  cases rev <;> rfl

/-- The strict mask keeps the pairs of tokens of which the second comes before the first in the direction's order. -/
theorem bef_strict (rev : Bool) (t s : Fin 64) : bef rev true t.val s.val = true ↔ ord rev s < ord rev t := by
  cases rev <;> simp [bef, ord]

/-- The inclusive mask keeps those pairs and a token's pair with itself. -/
theorem bef_incl (rev : Bool) (t s : Fin 64) : bef rev false t.val s.val = true ↔ ord rev s ≤ ord rev t := by
  cases rev <;> simp [bef, ord]

/-- The masks look at the tokens alone, not at the head. -/
theorem bef_hd (rev b : Bool) (h : Fin 2) (t s : Fin 64) : bef rev b (hd h t).val (hd h s).val = bef rev b t.val s.val := by
  cases rev <;> cases b <;> simp [bef, hd]

/-- A strictly masked product of block-diagonal matrices is the strictly masked product of each head. -/
theorem bd_strict (rev : Bool) (M N : Fin 2 → Mat) : maskR rev true (bd M * (bd N).transpose) = bd (fun h => Cert.ScanMath.strict (ord rev) (M h) (N h)) := by
  rw [bd_tr, bd_mul]
  refine ext_hd fun h i h' j => ?_
  unfold maskR
  rw [bd_at, bd_at]
  simp only [hd_div, Fin.val_inj]
  by_cases e : h = h'
  · subst e
    simp only [true_and, if_true, bef_hd, bef_strict]
    rfl
  · simp [e]

/-- An inclusively masked product of block-diagonal matrices is the inclusively masked product of each head. -/
theorem bd_incl (rev : Bool) (M N : Fin 2 → Mat) : maskR rev false (bd M * (bd N).transpose) = bd (fun h => Cert.ScanMath.incl (ord rev) (M h) (N h)) := by
  rw [bd_tr, bd_mul]
  refine ext_hd fun h i h' j => ?_
  unfold maskR
  rw [bd_at, bd_at]
  simp only [hd_div, Fin.val_inj]
  by_cases e : h = h'
  · subst e
    simp only [true_and, if_true, bef_hd, bef_incl]
    rfl
  · simp [e]

/-- One head's tokens of a pair's chunk. -/
def tok (x : In) (h : Fin 2) : Toks where
  r := fun t j => x.r t (hd h j)
  v := fun t j => x.v t (hd h j)
  kk := fun t j => x.kk t (hd h j)
  lw := fun t j => x.lw t (hd h j)
  kd := fun t j => x.kd t (hd h j)
  a := fun t j => x.a t (hd h j)

/-- The summed log decays of a pair's lanes are those of the head. -/
theorem cum_tok (rev : Bool) (x : In) (h : Fin 2) (t j : Fin 64) : cumR rev x.lw t (hd h j) = Cert.ScanMath.cum (ord rev) (tok x h) t j := by
  unfold cumR Cert.ScanMath.cum
  simp only [bef_incl]
  rfl

/-- The decayed removal keys of a pair are block diagonal, of each head's. -/
theorem at_bd (rev : Bool) (x : In) : atR x.kk x.lw (cumR rev x.lw) = bd (fun h => Cert.ScanMath.atl (ord rev) (tok x h)) := by
  refine (bd_sm _).trans (congrArg bd ?_)
  funext h
  ext t j
  show -x.kk t (hd h j) * Real.exp (cumR rev x.lw t (hd h j) - x.lw t (hd h j)) = _
  rw [cum_tok]
  rfl

/-- The decayed queries of a pair are block diagonal, of each head's. -/
theorem rt_bd (rev : Bool) (x : In) : rtR x.r (cumR rev x.lw) = bd (fun h => Cert.ScanMath.rtl (ord rev) (tok x h)) := by
  refine (bd_sm _).trans (congrArg bd ?_)
  funext h
  ext t j
  show x.r t (hd h j) * Real.exp (cumR rev x.lw t (hd h j)) = _
  rw [cum_tok]
  rfl

/-- The keys with the decays divided out are block diagonal, of each head's. -/
theorem kh_bd (rev : Bool) (x : In) : khR x.kd (cumR rev x.lw) = bd (fun h => Cert.ScanMath.khl (ord rev) (tok x h)) := by
  refine (bd_sm _).trans (congrArg bd ?_)
  funext h
  ext t j
  show x.kd t (hd h j) * Real.exp (-cumR rev x.lw t (hd h j)) = _
  rw [cum_tok]
  rfl

/-- The replacement keys with the decays divided out are block diagonal, of each head's. -/
theorem bh_bd (rev : Bool) (x : In) : bhR x.kk x.a (cumR rev x.lw) = bd (fun h => Cert.ScanMath.bhl (ord rev) (tok x h)) := by
  refine (bd_sm _).trans (congrArg bd ?_)
  funext h
  ext t j
  show x.kk t (hd h j) * x.a t (hd h j) * Real.exp (-cumR rev x.lw t (hd h j)) = _
  rw [cum_tok]
  rfl

/-- The corrections of a pair are block diagonal, of each head's. -/
theorem u_bd (rev : Bool) (x : In) (S : Fin 2 → Mat) : uR rev x (bd S) = bd (fun h => Cert.ScanMath.corr (ord rev) (tok x h) (S h)) := by
  unfold uR invR
  rw [at_bd, bh_bd, kh_bd, bd_sm, bd_strict, bd_strict, bd_neu, bd_mul, bd_mul, bd_mul, bd_tr, bd_mul, bd_add]
  congr 1

/-- The outputs of a pair are block diagonal, of each head's. -/
theorem y_bd (rev : Bool) (x : In) (S : Fin 2 → Mat) : yR rev x (bd S) = bd (fun h => Cert.ScanMath.outC (ord rev) (tok x h) (S h)) := by
  unfold yR
  rw [u_bd, rt_bd, bh_bd, kh_bd, bd_sm, bd_incl, bd_incl, bd_mul, bd_mul, bd_tr, bd_mul, bd_add, bd_add]
  congr 1
  try rfl

/-- The state of a pair after the chunk is block diagonal, of each head's. -/
theorem s_bd (rev : Bool) (x : In) (S : Fin 2 → Mat) : sR rev x (bd S) = bd (fun h => Cert.ScanMath.newS (ord rev) (tok x h) (S h) (lastT rev)) := by
  unfold sR
  rw [u_bd, bh_bd, kh_bd, bd_sm, bd_tr, bd_tr, bd_mul, bd_mul, bd_add]
  refine ext_hd fun h i h' j => ?_
  rw [bd_at, bd_at, bd_at, cum_tok]
  by_cases e : h = h'
  · subst e
    simp only [if_true]
    rfl
  · simp [e]

/-- What a chunk writes out for one lane of one head. -/
theorem fold_bd (A : Fin 2 → Mat) (t j : Fin 64) (h : Fin 2) : bd A ⟨t.val, by omega⟩ (hd h j) + bd A ⟨64 + t.val, by omega⟩ (hd h j) = A h t j := by
  have e0 : (⟨t.val, by omega⟩ : Fin 128) = hd 0 t := Fin.ext (by show t.val = 0 * 64 + t.val; omega)
  have e1 : (⟨64 + t.val, by omega⟩ : Fin 128) = hd 1 t := Fin.ext (by show 64 + t.val = 1 * 64 + t.val; omega)
  rw [e0, e1, bd_at, bd_at]
  rcases (by decide : ∀ h : Fin 2, h = 0 ∨ h = 1) h with k | k <;> subst k <;> simp

end Cert.ScanIdeal.Chunk
-- ==== Proof.ScanGrid.lean ====
module

public import proofs.«01_k».proof.Proof.ScanOpen
public import proofs.«01_k».proof.Proof.ScanBlock

@[expose] public section

set_option maxRecDepth 16384

noncomputable section

open Idealize.ShloMosaic Idealize.ShloMosaic.TcCoe Idealize.SL.Sem
open Idealize.ShloMosaic.Pipeline (Dat)

namespace Cert.ScanIdeal.Chunk

open Cert.ScanIdeal Cert.ScanIdeal.Gen

/-- A block of reals: 64 tokens, 384 lanes. -/
abbrev Blk := Fin 64 → Fin 384 → ℝ
/-- A block of reals as extended reals. -/
def embX (X : Blk) : FVec Ideal S1x64x384 .f32 := fun y => ((X (y 1) (y 2) : ℝ) : EReal)
/-- The carried states as extended reals. -/
def embS (S : Fin 2 → Fin 3 → M128) : FVec Ideal S2x3x128x128 .f32 := fun y => ((S (y 0) (y 1) (y 2) (y 3) : ℝ) : EReal)

/-- A pair's lane among all. -/
def ln (j : Fin 3) (c : Fin 128) : Fin 384 := ⟨j.val * 128 + c.val, by omega⟩
/-- One pair's lanes of a block. -/
def cols (X : Blk) (j : Fin 3) : M64 := fun t c => X t (ln j c)

/-- The first pair's lanes of a block. -/
theorem ld0_emb (X : Blk) : ld0 (embX X) = emb6 (cols X 0) := by
  refine eq_emb6 fun a b => ?_
  unfold ld0
  pointwise
  simp only [embX, cols, ln, EReal.coe_eq_coe_iff]
  congr 1 <;> ext <;> simp
/-- The second pair's lanes of a block. -/
theorem ld1_emb (X : Blk) : ld1 (embX X) = emb6 (cols X 1) := by
  refine eq_emb6 fun a b => ?_
  unfold ld1
  pointwise
  simp only [embX, cols, ln, EReal.coe_eq_coe_iff]
  congr 1 <;> ext <;> simp
/-- The third pair's lanes of a block. -/
theorem ld2_emb (X : Blk) : ld2 (embX X) = emb6 (cols X 2) := by
  refine eq_emb6 fun a b => ?_
  unfold ld2
  pointwise
  simp only [embX, cols, ln, EReal.coe_eq_coe_iff]
  congr 1 <;> ext <;> simp

/-- The first pair's forward state in the scratch array. -/
theorem st00_emb (S : Fin 2 → Fin 3 → M128) : st00 (embS S) = emb (S 0 0) := by
  refine eq_emb fun a b => ?_
  unfold st00
  pointwise
  simp only [embS, EReal.coe_eq_coe_iff]
  congr 1 <;> ext <;> simp
/-- The second pair's forward state in the scratch array. -/
theorem st01_emb (S : Fin 2 → Fin 3 → M128) : st01 (embS S) = emb (S 0 1) := by
  refine eq_emb fun a b => ?_
  unfold st01
  pointwise
  simp only [embS, EReal.coe_eq_coe_iff]
  congr 1 <;> ext <;> simp
/-- The third pair's forward state in the scratch array. -/
theorem st02_emb (S : Fin 2 → Fin 3 → M128) : st02 (embS S) = emb (S 0 2) := by
  refine eq_emb fun a b => ?_
  unfold st02
  pointwise
  simp only [embS, EReal.coe_eq_coe_iff]
  congr 1 <;> ext <;> simp
/-- The first pair's backward state in the scratch array. -/
theorem st10_emb (S : Fin 2 → Fin 3 → M128) : st10 (embS S) = emb (S 1 0) := by
  refine eq_emb fun a b => ?_
  unfold st10
  pointwise
  simp only [embS, EReal.coe_eq_coe_iff]
  congr 1 <;> ext <;> simp
/-- The second pair's backward state in the scratch array. -/
theorem st11_emb (S : Fin 2 → Fin 3 → M128) : st11 (embS S) = emb (S 1 1) := by
  refine eq_emb fun a b => ?_
  unfold st11
  pointwise
  simp only [embS, EReal.coe_eq_coe_iff]
  congr 1 <;> ext <;> simp
/-- The third pair's backward state in the scratch array. -/
theorem st12_emb (S : Fin 2 → Fin 3 → M128) : st12 (embS S) = emb (S 1 2) := by
  refine eq_emb fun a b => ?_
  unfold st12
  pointwise
  simp only [embS, EReal.coe_eq_coe_iff]
  congr 1 <;> ext <;> simp

/-- The six blocks a direction reads. -/
structure Six where
  r : Blk
  v : Blk
  kk : Blk
  lw : Blk
  kd : Blk
  a : Blk

/-- One pair's lanes of them. -/
def Six.pair (x : Six) (j : Fin 3) : In where
  r := cols x.r j
  v := cols x.v j
  kk := cols x.kk j
  lw := cols x.lw j
  kd := cols x.kd j
  a := cols x.a j

/-- The states after a grid point. -/
def nxt (x z : Six) (S : Fin 2 → Fin 3 → M128) : Fin 2 → Fin 3 → M128 := fun d j =>
  if d = 0 then sR false (x.pair j) (S d j) else sR true (z.pair j) (S d j)

/-- An output block of a grid point. -/
def outB (rev : Bool) (x : Six) (S : Fin 3 → M128) : Blk := fun t l =>
  yR rev (x.pair ⟨l.val / 128, by omega⟩) (S ⟨l.val / 128, by omega⟩) ⟨t.val, by omega⟩ ⟨l.val % 128, by omega⟩
    + yR rev (x.pair ⟨l.val / 128, by omega⟩) (S ⟨l.val / 128, by omega⟩) ⟨64 + t.val, by omega⟩ ⟨l.val % 128, by omega⟩

/-- The first pair's forward state after a chunk. -/
theorem cs00 (x : Six) (S : Fin 2 → Fin 3 → M128) : chunkS false (ld0 (embX x.r)) (ld0 (embX x.v)) (ld0 (embX x.kk)) (ld0 (embX x.lw)) (ld0 (embX x.kd)) (ld0 (embX x.a)) (st00 (embS S)) = emb (sR false (x.pair 0) (S 0 0)) := by
  simp only [ld0_emb, st00_emb]
  exact s_emb' false (x.pair 0) (S 0 0)
/-- The first pair's forward outputs of a chunk. -/
theorem cy00 (x : Six) (S : Fin 2 → Fin 3 → M128) : chunkY false (ld0 (embX x.r)) (ld0 (embX x.v)) (ld0 (embX x.kk)) (ld0 (embX x.lw)) (ld0 (embX x.kd)) (ld0 (embX x.a)) (st00 (embS S))
    = emb6 (fun (t : Fin 64) (c : Fin 128) => yR false (x.pair 0) (S 0 0) ⟨t.val, by omega⟩ c + yR false (x.pair 0) (S 0 0) ⟨64 + t.val, by omega⟩ c) := by
  simp only [ld0_emb, st00_emb]
  exact y_emb false (x.pair 0) (S 0 0)
/-- The second pair's forward state after a chunk. -/
theorem cs01 (x : Six) (S : Fin 2 → Fin 3 → M128) : chunkS false (ld1 (embX x.r)) (ld1 (embX x.v)) (ld1 (embX x.kk)) (ld1 (embX x.lw)) (ld1 (embX x.kd)) (ld1 (embX x.a)) (st01 (embS S)) = emb (sR false (x.pair 1) (S 0 1)) := by
  simp only [ld1_emb, st01_emb]
  exact s_emb' false (x.pair 1) (S 0 1)
/-- The second pair's forward outputs of a chunk. -/
theorem cy01 (x : Six) (S : Fin 2 → Fin 3 → M128) : chunkY false (ld1 (embX x.r)) (ld1 (embX x.v)) (ld1 (embX x.kk)) (ld1 (embX x.lw)) (ld1 (embX x.kd)) (ld1 (embX x.a)) (st01 (embS S))
    = emb6 (fun (t : Fin 64) (c : Fin 128) => yR false (x.pair 1) (S 0 1) ⟨t.val, by omega⟩ c + yR false (x.pair 1) (S 0 1) ⟨64 + t.val, by omega⟩ c) := by
  simp only [ld1_emb, st01_emb]
  exact y_emb false (x.pair 1) (S 0 1)
/-- The third pair's forward state after a chunk. -/
theorem cs02 (x : Six) (S : Fin 2 → Fin 3 → M128) : chunkS false (ld2 (embX x.r)) (ld2 (embX x.v)) (ld2 (embX x.kk)) (ld2 (embX x.lw)) (ld2 (embX x.kd)) (ld2 (embX x.a)) (st02 (embS S)) = emb (sR false (x.pair 2) (S 0 2)) := by
  simp only [ld2_emb, st02_emb]
  exact s_emb' false (x.pair 2) (S 0 2)
/-- The third pair's forward outputs of a chunk. -/
theorem cy02 (x : Six) (S : Fin 2 → Fin 3 → M128) : chunkY false (ld2 (embX x.r)) (ld2 (embX x.v)) (ld2 (embX x.kk)) (ld2 (embX x.lw)) (ld2 (embX x.kd)) (ld2 (embX x.a)) (st02 (embS S))
    = emb6 (fun (t : Fin 64) (c : Fin 128) => yR false (x.pair 2) (S 0 2) ⟨t.val, by omega⟩ c + yR false (x.pair 2) (S 0 2) ⟨64 + t.val, by omega⟩ c) := by
  simp only [ld2_emb, st02_emb]
  exact y_emb false (x.pair 2) (S 0 2)
/-- The first pair's backward state after a chunk. -/
theorem cs10 (x : Six) (S : Fin 2 → Fin 3 → M128) : chunkS true (ld0 (embX x.r)) (ld0 (embX x.v)) (ld0 (embX x.kk)) (ld0 (embX x.lw)) (ld0 (embX x.kd)) (ld0 (embX x.a)) (st10 (embS S)) = emb (sR true (x.pair 0) (S 1 0)) := by
  simp only [ld0_emb, st10_emb]
  exact s_emb' true (x.pair 0) (S 1 0)
/-- The first pair's backward outputs of a chunk. -/
theorem cy10 (x : Six) (S : Fin 2 → Fin 3 → M128) : chunkY true (ld0 (embX x.r)) (ld0 (embX x.v)) (ld0 (embX x.kk)) (ld0 (embX x.lw)) (ld0 (embX x.kd)) (ld0 (embX x.a)) (st10 (embS S))
    = emb6 (fun (t : Fin 64) (c : Fin 128) => yR true (x.pair 0) (S 1 0) ⟨t.val, by omega⟩ c + yR true (x.pair 0) (S 1 0) ⟨64 + t.val, by omega⟩ c) := by
  simp only [ld0_emb, st10_emb]
  exact y_emb true (x.pair 0) (S 1 0)
/-- The second pair's backward state after a chunk. -/
theorem cs11 (x : Six) (S : Fin 2 → Fin 3 → M128) : chunkS true (ld1 (embX x.r)) (ld1 (embX x.v)) (ld1 (embX x.kk)) (ld1 (embX x.lw)) (ld1 (embX x.kd)) (ld1 (embX x.a)) (st11 (embS S)) = emb (sR true (x.pair 1) (S 1 1)) := by
  simp only [ld1_emb, st11_emb]
  exact s_emb' true (x.pair 1) (S 1 1)
/-- The second pair's backward outputs of a chunk. -/
theorem cy11 (x : Six) (S : Fin 2 → Fin 3 → M128) : chunkY true (ld1 (embX x.r)) (ld1 (embX x.v)) (ld1 (embX x.kk)) (ld1 (embX x.lw)) (ld1 (embX x.kd)) (ld1 (embX x.a)) (st11 (embS S))
    = emb6 (fun (t : Fin 64) (c : Fin 128) => yR true (x.pair 1) (S 1 1) ⟨t.val, by omega⟩ c + yR true (x.pair 1) (S 1 1) ⟨64 + t.val, by omega⟩ c) := by
  simp only [ld1_emb, st11_emb]
  exact y_emb true (x.pair 1) (S 1 1)
/-- The third pair's backward state after a chunk. -/
theorem cs12 (x : Six) (S : Fin 2 → Fin 3 → M128) : chunkS true (ld2 (embX x.r)) (ld2 (embX x.v)) (ld2 (embX x.kk)) (ld2 (embX x.lw)) (ld2 (embX x.kd)) (ld2 (embX x.a)) (st12 (embS S)) = emb (sR true (x.pair 2) (S 1 2)) := by
  simp only [ld2_emb, st12_emb]
  exact s_emb' true (x.pair 2) (S 1 2)
/-- The third pair's backward outputs of a chunk. -/
theorem cy12 (x : Six) (S : Fin 2 → Fin 3 → M128) : chunkY true (ld2 (embX x.r)) (ld2 (embX x.v)) (ld2 (embX x.kk)) (ld2 (embX x.lw)) (ld2 (embX x.kd)) (ld2 (embX x.a)) (st12 (embS S))
    = emb6 (fun (t : Fin 64) (c : Fin 128) => yR true (x.pair 2) (S 1 2) ⟨t.val, by omega⟩ c + yR true (x.pair 2) (S 1 2) ⟨64 + t.val, by omega⟩ c) := by
  simp only [ld2_emb, st12_emb]
  exact y_emb true (x.pair 2) (S 1 2)

/-- A stored piece of the scratch array is the state's part there. -/
theorem pieceS_ok (d : ℕ) (j : ℕ) (hd : d < 2) (hj : j < 3) (A : M128) (N : Fin 2 → Fin 3 → M128) (h : N ⟨d, hd⟩ ⟨j, hj⟩ = A)
    (inb : ∀ a, (![d, j, 0, 0] : Fin 4 → ℕ) a + S1x1x128x128.size a ≤ S2x3x128x128.size a) (x : S1x1x128x128.Idx) :
    shapeCast S1x1x128x128 (emb A) shapeCasts_S128x128_S1x1x128x128 x = embS N ((Rect.unit (s := S2x3x128x128) ![d, j, 0, 0] S1x1x128x128.size inb).emb x) := by
  subst h
  pointwise
  simp only [emb, embS, EReal.coe_eq_coe_iff]
  congr 1 <;> ext <;> simp

/-- The scratch array after a grid point's six stores is the next state of all pairs in both directions. -/
theorem canonS (x z : Six) (S : Fin 2 → Fin 3 → M128) (L' : List (View.Piece (Elt Ideal) S2x3x128x128 .f32)) :
    View.canon (piecesS (F := Ideal) (embX x.r) (embX x.v) (embX x.kk) (embX x.lw) (embX x.kd) (embX x.a) (embX z.r) (embX z.v) (embX z.kk) (embX z.lw) (embX z.kd) (embX z.a) (embS S) ++ L') = embS (nxt x z S) := by
  funext y
  refine View.canon_append_of_piecesOf (embS (nxt x z S)) L' _ ?_ y ?_
  · simp only [piecesS, cs00, cs01, cs02, cs10, cs11, cs12]
    exact ⟨fun q => pieceS_ok 1 2 (by omega) (by omega) (sR true (z.pair 2) (S 1 2)) (nxt x z S) rfl inb_S2x3x128x128_S1x1x128x128_1_2_0_0 q,
      fun q => pieceS_ok 1 1 (by omega) (by omega) (sR true (z.pair 1) (S 1 1)) (nxt x z S) rfl inb_S2x3x128x128_S1x1x128x128_1_1_0_0 q,
      fun q => pieceS_ok 1 0 (by omega) (by omega) (sR true (z.pair 0) (S 1 0)) (nxt x z S) rfl inb_S2x3x128x128_S1x1x128x128_1_0_0_0 q,
      fun q => pieceS_ok 0 2 (by omega) (by omega) (sR false (x.pair 2) (S 0 2)) (nxt x z S) rfl inb_S2x3x128x128_S1x1x128x128_0_2_0_0 q,
      fun q => pieceS_ok 0 1 (by omega) (by omega) (sR false (x.pair 1) (S 0 1)) (nxt x z S) rfl inb_S2x3x128x128_S1x1x128x128_0_1_0_0 q,
      fun q => pieceS_ok 0 0 (by omega) (by omega) (sR false (x.pair 0) (S 0 0)) (nxt x z S) rfl inb_S2x3x128x128_S1x1x128x128_0_0_0_0 q, trivial⟩
  · simp only [piecesS, List.mem_cons, List.not_mem_nil, or_false, exists_eq_or_imp, exists_eq_left, Rect.mem_set_unit]
    have h0 : (y 0).val < 2 := (y 0).isLt
    have h1 : (y 1).val < 3 := (y 1).isLt
    have h2 : (y 2).val < 128 := (y 2).isLt
    have h3 : (y 3).val < 128 := (y 3).isLt
    simp [Fin.forall_fin_succ]
    omega

/-- The stored rows at a pair's lane. -/
theorem outB_at (rev : Bool) (x : Six) (S : Fin 3 → M128) (t : Fin 64) (j : Fin 3) (c : Fin 128) : outB rev x S t (ln j c)
    = yR rev (x.pair j) (S j) ⟨t.val, by omega⟩ c + yR rev (x.pair j) (S j) ⟨64 + t.val, by omega⟩ c := by
  have e1 : (⟨(ln j c).val / 128, by omega⟩ : Fin 3) = j := Fin.ext (by simp only [ln]; omega)
  have e2 : (⟨(ln j c).val % 128, by omega⟩ : Fin 128) = c := Fin.ext (by simp only [ln]; omega)
  unfold outB
  rw [e1, e2]

/-- A stored piece of a result block is the outputs' part there. -/
theorem piece0_ok (rev : Bool) (j : ℕ) (hj : j < 3) (x : Six) (S : Fin 3 → M128)
    (inb : ∀ a, (![0, 0, j * 128] : Fin 3 → ℕ) a + S1x64x128.size a ≤ S1x64x384.size a) (y : S1x64x128.Idx) :
    shapeCast S1x64x128 (emb6 (fun (t : Fin 64) (c : Fin 128) => yR rev (x.pair ⟨j, hj⟩) (S ⟨j, hj⟩) ⟨t.val, by omega⟩ c + yR rev (x.pair ⟨j, hj⟩) (S ⟨j, hj⟩) ⟨64 + t.val, by omega⟩ c)) shapeCasts_S64x128_S1x64x128 y
      = embX (outB rev x S) ((Rect.unit (s := S1x64x384) ![0, 0, j * 128] S1x64x128.size inb).emb y) := by
  rw [eq_ix3 y]
  pointwise
  refine congrArg (fun a : ℝ => (a : EReal)) ?_
  refine Eq.trans (outB_at rev x S (y 1) ⟨j, hj⟩ (y 2)).symm ?_
  refine congrArg₂ (outB rev x S) (Fin.ext ?_) (Fin.ext ?_)
  · skip
    simp
  · simp [ln]

/-- The forward result block after its three stores. -/
theorem canon0 (x z : Six) (S : Fin 2 → Fin 3 → M128) : View.canon (pieces0 (F := Ideal) (embX x.r) (embX x.v) (embX x.kk) (embX x.lw) (embX x.kd) (embX x.a) (embX z.r) (embX z.v) (embX z.kk) (embX z.lw) (embX z.kd) (embX z.a) (embS S)) = embX (outB false x (S 0)) := by
  funext y
  refine View.canon_apply_of_pieces (Val := Elt Ideal) (e := .f32) (embX (outB false x (S 0))) _ (View.PiecesOf.mem ?_) y ?_
  · simp only [pieces0, cy00, cy01, cy02]
    exact ⟨fun q => piece0_ok false 2 (by omega) x (S 0) inb_S1x64x384_S1x64x128_0_0_256 q, fun q => piece0_ok false 1 (by omega) x (S 0) inb_S1x64x384_S1x64x128_0_0_128 q,
      fun q => piece0_ok false 0 (by omega) x (S 0) inb_S1x64x384_S1x64x128_0_0_0 q, trivial⟩
  · simp only [pieces0, List.mem_cons, List.not_mem_nil, or_false, exists_eq_or_imp, exists_eq_left, Rect.mem_set_unit]
    have h0 : (y 0).val < 1 := (y 0).isLt
    have h1 : (y 1).val < 64 := (y 1).isLt
    have h2 : (y 2).val < 384 := (y 2).isLt
    simp [Fin.forall_fin_succ]
    omega

/-- The backward result block after its three stores. -/
theorem canon1 (x z : Six) (S : Fin 2 → Fin 3 → M128) : View.canon (pieces1 (F := Ideal) (embX x.r) (embX x.v) (embX x.kk) (embX x.lw) (embX x.kd) (embX x.a) (embX z.r) (embX z.v) (embX z.kk) (embX z.lw) (embX z.kd) (embX z.a) (embS S)) = embX (outB true z (S 1)) := by
  funext y
  refine View.canon_apply_of_pieces (Val := Elt Ideal) (e := .f32) (embX (outB true z (S 1))) _ (View.PiecesOf.mem ?_) y ?_
  · simp only [pieces1, cy10, cy11, cy12]
    exact ⟨fun q => piece0_ok true 2 (by omega) z (S 1) inb_S1x64x384_S1x64x128_0_0_256 q, fun q => piece0_ok true 1 (by omega) z (S 1) inb_S1x64x384_S1x64x128_0_0_128 q,
      fun q => piece0_ok true 0 (by omega) z (S 1) inb_S1x64x384_S1x64x128_0_0_0 q, trivial⟩
  · simp only [pieces1, List.mem_cons, List.not_mem_nil, or_false, exists_eq_or_imp, exists_eq_left, Rect.mem_set_unit]
    have h0 : (y 0).val < 1 := (y 0).isLt
    have h1 : (y 1).val < 64 := (y 1).isLt
    have h2 : (y 2).val < 384 := (y 2).isLt
    simp [Fin.forall_fin_succ]
    omega

end Cert.ScanIdeal.Chunk
-- ==== Proof.ScanSpec.lean ====
module

public import proofs.«01_k».proof.Proof.ScanMath

@[expose] public section

noncomputable section

namespace Cert.ScanMath

/-- The nine arguments as reals: what a batch entry's token has in a lane. The arrays ending in `f` are the forward direction's, those in `b` the backward one's. -/
structure Args where
  r : Fin 4 → Fin 8192 → Fin 384 → ℝ
  v : Fin 4 → Fin 8192 → Fin 384 → ℝ
  kk : Fin 4 → Fin 8192 → Fin 384 → ℝ
  lwf : Fin 4 → Fin 8192 → Fin 384 → ℝ
  kdf : Fin 4 → Fin 8192 → Fin 384 → ℝ
  af : Fin 4 → Fin 8192 → Fin 384 → ℝ
  lwb : Fin 4 → Fin 8192 → Fin 384 → ℝ
  kdb : Fin 4 → Fin 8192 → Fin 384 → ℝ
  ab : Fin 4 → Fin 8192 → Fin 384 → ℝ

/-- The log decays of a direction. -/
def Args.lw (x : Args) (d : Fin 2) : Fin 4 → Fin 8192 → Fin 384 → ℝ := if d = 0 then x.lwf else x.lwb
/-- The keys of a direction. -/
def Args.kd (x : Args) (d : Fin 2) : Fin 4 → Fin 8192 → Fin 384 → ℝ := if d = 0 then x.kdf else x.kdb
/-- The rates of a direction. -/
def Args.a (x : Args) (d : Fin 2) : Fin 4 → Fin 8192 → Fin 384 → ℝ := if d = 0 then x.af else x.ab

/-- A head's lane among all. -/
def lane (h : Fin 6) (i : Fin 64) : Fin 384 := ⟨h.val * 64 + i.val, by omega⟩

/-- The token a direction reads as its `n`-th: the backward direction starts at the last. -/
def tm (d : Fin 2) (n : ℕ) : Fin 8192 := if d = 0 then ⟨n % 8192, by omega⟩ else ⟨8191 - n % 8192, by omega⟩

/-- One head's state after `n` tokens. -/
def RS (x : Args) (d : Fin 2) (b : Fin 4) (h : Fin 6) : ℕ → Mat
  | 0 => 0
  | n + 1 => fun i j => RS x d b h n i j * Real.exp (x.lw d b (tm d n) (lane h j))
      + (∑ l, RS x d b h n i l * (-x.kk b (tm d n) (lane h l))) * (x.kk b (tm d n) (lane h j) * x.a d b (tm d n) (lane h j))
      + x.v b (tm d n) (lane h i) * x.kd d b (tm d n) (lane h j)

/-- One token's change of a head's state. -/
theorem RS_succ (x : Args) (d : Fin 2) (b : Fin 4) (h : Fin 6) (n : ℕ) (i j : Fin 64) : RS x d b h (n + 1) i j
    = RS x d b h n i j * Real.exp (x.lw d b (tm d n) (lane h j))
      + (∑ l, RS x d b h n i l * (-x.kk b (tm d n) (lane h l))) * (x.kk b (tm d n) (lane h j) * x.a d b (tm d n) (lane h j))
      + x.v b (tm d n) (lane h i) * x.kd d b (tm d n) (lane h j) := rfl

/-- What the `n`-th token reads of the state it leaves. -/
def OUT (x : Args) (d : Fin 2) (b : Fin 4) (n : ℕ) (h : Fin 6) (i : Fin 64) : ℝ :=
  ∑ j, RS x d b h (n + 1) i j * x.r b (tm d n) (lane h j)

/-- The place of a token in a direction's order. -/
def pos (d : Fin 2) (n : Fin 8192) : ℕ := if d = 0 then n.val else 8191 - n.val

/-- The layer's result in a direction. -/
def Y (x : Args) (d : Fin 2) (b : Fin 4) (n : Fin 8192) (l : Fin 384) : ℝ :=
  OUT x d b (pos d n) ⟨l.val / 64, by omega⟩ ⟨l.val % 64, by omega⟩

end Cert.ScanMath
-- ==== Proof.ScanGlobal.lean ====
module

public import proofs.«01_k».proof.Proof.ScanGrid
public import proofs.«01_k».proof.Proof.ScanSpec

@[expose] public section

set_option maxRecDepth 16384

noncomputable section

open Idealize.ShloMosaic Idealize.ShloMosaic.TcCoe Idealize.SL.Sem
open Idealize.ShloMosaic.Pipeline (Dat)

namespace Cert.ScanIdeal.Chunk

open Cert.ScanIdeal Cert.ScanIdeal.Gen
open Cert.ScanMath (Args RS OUT Y tm pos lane)

/-- The token a row of a direction's `c`-th block holds. -/
def row (d : Fin 2) (c : Fin 128) (t : Fin 64) : Fin 8192 := if d = 0 then ⟨64 * c.val + t.val, by omega⟩ else ⟨64 * (127 - c.val) + t.val, by omega⟩

/-- The blocks a direction reads at its `c`-th point. -/
def six (x : Args) (d : Fin 2) (b : Fin 4) (c : Fin 128) : Six where
  r := fun t l => x.r b (row d c t) l
  v := fun t l => x.v b (row d c t) l
  kk := fun t l => x.kk b (row d c t) l
  lw := fun t l => x.lw d b (row d c t) l
  kd := fun t l => x.kd d b (row d c t) l
  a := fun t l => x.a d b (row d c t) l

/-- A head of a pair among all. -/
def head (j : Fin 3) (h : Fin 2) : Fin 6 := ⟨2 * j.val + h.val, by omega⟩

/-- The carried states after `n` tokens of each direction. -/
def St (x : Args) (b : Fin 4) (n : ℕ) : Fin 2 → Fin 3 → M128 := fun d j => bd (fun h => RS x d b (head j h) n)

/-- A lane of a pair of heads among all lanes. -/
theorem ln_hd (j : Fin 3) (h : Fin 2) (i : Fin 64) : ln j (hd h i) = lane (head j h) i := by
  apply Fin.ext
  simp only [ln, hd, lane, head]
  omega

/-- The row a grid point's block has at a token is the one the direction reads at that place. -/
theorem row_ord (d : Fin 2) (rev : Bool) (hr : rev = decide (d = 1)) (c : Fin 128) (t : Fin 64) : row d c t = tm d (64 * c.val + (ord rev t).val) := by
  have hc := c.isLt
  have ht := t.isLt
  subst hr
  rcases (by omega : d = 0 ∨ d = 1) with rfl | rfl
  · apply Fin.ext
    simp [row, tm, ord]
    omega
  · apply Fin.ext
    simp [row, tm, ord]
    omega

/-- A token of a chunk takes the recurrence's state one token further. -/
theorem RS_step (x : Args) (d : Fin 2) (rev : Bool) (hr : rev = decide (d = 1)) (b : Fin 4) (c : Fin 128) (j : Fin 3) (h : Fin 2) (n : ℕ) (hn : n < 64) :
    RS x d b (head j h) (64 * c.val + (n + 1)) = Cert.ScanMath.stepS (tok ((six x d b c).pair j) h) (ord rev ⟨n, hn⟩) (RS x d b (head j h) (64 * c.val + n)) := by
  have e : row d c (ord rev ⟨n, hn⟩) = tm d (64 * c.val + n) := by
    rw [row_ord d rev hr c, ord_ord]
  ext i k
  show RS x d b (head j h) ((64 * c.val + n) + 1) i k = _
  rw [Cert.ScanMath.RS_succ]
  unfold Cert.ScanMath.stepS
  simp only [tok, Six.pair, cols, six, e, ln_hd]

/-- A chunk takes a pair's state 64 tokens further. -/
theorem st_next (x : Args) (d : Fin 2) (rev : Bool) (hr : rev = decide (d = 1)) (b : Fin 4) (c : Fin 128) (j : Fin 3) :
    sR rev ((six x d b c).pair j) (St x b (64 * c.val) d j) = St x b (64 * (c.val + 1)) d j := by
  unfold St
  rw [s_bd]
  refine congrArg bd (funext fun h => ?_)
  exact (Cert.ScanMath.newS_eq (ord_ord rev) (fun n => RS x d b (head j h) (64 * c.val + n)) rfl (fun n hn => RS_step x d rev hr b c j h n hn) (lastT rev) (ord_last rev)).symm

/-- A grid point takes the whole scratch array 64 tokens further. -/
theorem nxt_St (x : Args) (b : Fin 4) (c : Fin 128) : nxt (six x 0 b c) (six x 1 b c) (St x b (64 * c.val)) = St x b (64 * (c.val + 1)) := by
  funext d j
  unfold nxt
  rcases (by omega : d = 0 ∨ d = 1) with rfl | rfl
  · rw [if_pos rfl]
    exact st_next x 0 false rfl b c j
  · rw [if_neg (by decide)]
    exact st_next x 1 true rfl b c j

/-- The rows a grid point stores are the recurrence's outputs. -/
theorem out_Y (x : Args) (d : Fin 2) (rev : Bool) (hr : rev = decide (d = 1)) (b : Fin 4) (c : Fin 128) (t : Fin 64) (l : Fin 384) :
    outB rev (six x d b c) (St x b (64 * c.val) d) t l = Y x d b (row d c t) l := by
  obtain ⟨j, h, i, rfl⟩ : ∃ j h i, l = ln j (hd h i) := by
    refine ⟨⟨l.val / 128, by omega⟩, ⟨l.val % 128 / 64, by omega⟩, ⟨l.val % 64, by omega⟩, Fin.ext ?_⟩
    simp only [ln, hd]
    omega
  rw [outB_at]
  unfold St
  rw [y_bd, fold_bd]
  have hp : pos d (row d c t) = 64 * c.val + (ord rev t).val := by
    rw [row_ord d rev hr c t]
    have hc := c.isLt
    have ht := (ord rev t).isLt
    rcases (by omega : d = 0 ∨ d = 1) with rfl | rfl <;> simp [pos, tm] <;> omega
  refine (Cert.ScanMath.readings (ord_ord rev) (fun n => RS x d b (head j h) (64 * c.val + n)) rfl (fun n hn => RS_step x d rev hr b c j h n hn) t i).symm.trans ?_
  have e1 : (⟨(ln j (hd h i)).val / 64, by omega⟩ : Fin 6) = head j h := Fin.ext (by simp only [ln, hd, head]; omega)
  have e2 : (⟨(ln j (hd h i)).val % 64, by omega⟩ : Fin 64) = i := Fin.ext (by simp only [ln, hd]; omega)
  unfold Y OUT
  rw [e1, e2, hp]
  refine Finset.sum_congr rfl fun k _ => ?_
  simp only [tok, Six.pair, cols, six, ln_hd, row_ord d rev hr c t]
  rfl

end Cert.ScanIdeal.Chunk
-- ==== Proof.ScanPoints.lean ====
module

public import proofs.«01_k».proof.Proof.ScanGlobal

@[expose] public section

set_option maxRecDepth 16384

noncomputable section

open Idealize.ShloMosaic Idealize.ShloMosaic.TcCoe Idealize.SL.Sem
open Idealize.ShloMosaic.Pipeline (Dat)

namespace Cert.ScanIdeal.Chunk

open Cert.ScanIdeal Cert.ScanIdeal.Gen
open Cert.ScanMath (Args RS OUT Y tm pos lane)

variable (m : (ℓ : Loc nD τ sig) → Buf (Elt Ideal) ℓ)

/-- A real array as an argument's contents. -/
def embA (X : Fin 4 → Fin 8192 → Fin 384 → ℝ) : FVec Ideal S4x8192x384 .f32 := fun i => ((X (i 0) (i 1) (i 2) : ℝ) : EReal)

/-- The memory's arguments on a core are the reals `x`. -/
structure Reads (c : Dev nD) (x : Args) : Prop where
  r : m ((c : Thread nD τ).loc main_arg0) = embA x.r
  v : m ((c : Thread nD τ).loc main_arg1) = embA x.v
  kk : m ((c : Thread nD τ).loc main_arg2) = embA x.kk
  lwf : m ((c : Thread nD τ).loc main_arg3) = embA x.lwf
  kdf : m ((c : Thread nD τ).loc main_arg4) = embA x.kdf
  af : m ((c : Thread nD τ).loc main_arg5) = embA x.af
  lwb : m ((c : Thread nD τ).loc main_arg6) = embA x.lwb
  kdb : m ((c : Thread nD τ).loc main_arg7) = embA x.kdb
  ab : m ((c : Thread nD τ).loc main_arg8) = embA x.ab

/-- A grid point's batch entry. -/
def bI (t : Fin cfg0.N) : Fin 4 := ⟨t.val / 128, by have : t.val < 512 := t.isLt; omega⟩
/-- A grid point's chunk. -/
def cI (t : Fin cfg0.N) : Fin 128 := ⟨t.val % 128, by omega⟩

/-- The block indices of the windows, at every grid point. -/
theorem idx : ∀ t : Fin cfg0.N, win0_0.index t = ![t.val / 128, t.val % 128, 0] ∧ win0_1.index t = ![t.val / 128, t.val % 128, 0] ∧ win0_2.index t = ![t.val / 128, t.val % 128, 0] ∧ win0_3.index t = ![t.val / 128, t.val % 128, 0] ∧ win0_4.index t = ![t.val / 128, t.val % 128, 0] ∧ win0_5.index t = ![t.val / 128, t.val % 128, 0] ∧ win0_12.index t = ![t.val / 128, t.val % 128, 0] ∧ win0_6.index t = ![t.val / 128, 127 - t.val % 128, 0] ∧ win0_7.index t = ![t.val / 128, 127 - t.val % 128, 0] ∧ win0_8.index t = ![t.val / 128, 127 - t.val % 128, 0] ∧ win0_9.index t = ![t.val / 128, 127 - t.val % 128, 0] ∧ win0_10.index t = ![t.val / 128, 127 - t.val % 128, 0] ∧ win0_11.index t = ![t.val / 128, 127 - t.val % 128, 0] ∧ win0_13.index t = ![t.val / 128, 127 - t.val % 128, 0] :=
  (by decide +kernel : ∀ t : Fin grid0.N, _)

/-- A forward row's token. -/
theorem row0 (t : Fin cfg0.N) (r : Fin 64) : (row 0 (cI t) r).val = 64 * (t.val % 128) + r.val := rfl
/-- A backward row's token. -/
theorem row1 (t : Fin cfg0.N) (r : Fin 64) : (row 1 (cI t) r).val = 64 * (127 - t.val % 128) + r.val := rfl

/-- A real array read at an index with the given coordinates. -/
theorem embA_at (X : Fin 4 → Fin 8192 → Fin 384 → ℝ) (i : S4x8192x384.Idx) (b : Fin 4) (n : Fin 8192) (l : Fin 384)
    (h0 : (i 0).val = b.val) (h1 : (i 1).val = n.val) (h2 : (i 2).val = l.val) : embA X i = ((X b n l : ℝ) : EReal) := by
  have e0 : i 0 = b := Fin.ext h0
  have e1 : i 1 = n := Fin.ext h1
  have e2 : i 2 = l := Fin.ext h2
  show ((X (i 0) (i 1) (i 2) : ℝ) : EReal) = _
  rw [e0, e1, e2]

/-- Block 0 of a grid point. -/
theorem blk0 (c : Dev nD) (x : Args) (hx : Reads m c x) (t : Fin cfg0.N) : iblk m c 0 t = embX (six x 0 (bI t) (cI t)).r := by
  funext y
  have e : V m c main_arg0 = embA x.r := hx.r
  show (V m c main_arg0) ((win0_0.blk t).view.emb y) = _
  rw [e]
  refine (embA_at _ _ (bI t) (row 0 (cI t) (y 1)) (y 2) ?_ ?_ ?_).trans rfl
  · blk_simp [idx t, bI] <;> omega
  · refine Eq.trans ?_ (row0 t (y 1)).symm
    blk_simp [idx t] <;> omega
  · blk_simp [idx t] <;> omega

/-- Block 1 of a grid point. -/
theorem blk1 (c : Dev nD) (x : Args) (hx : Reads m c x) (t : Fin cfg0.N) : iblk m c 1 t = embX (six x 0 (bI t) (cI t)).v := by
  funext y
  have e : V m c main_arg1 = embA x.v := hx.v
  show (V m c main_arg1) ((win0_1.blk t).view.emb y) = _
  rw [e]
  refine (embA_at _ _ (bI t) (row 0 (cI t) (y 1)) (y 2) ?_ ?_ ?_).trans rfl
  · blk_simp [idx t, bI] <;> omega
  · refine Eq.trans ?_ (row0 t (y 1)).symm
    blk_simp [idx t] <;> omega
  · blk_simp [idx t] <;> omega

/-- Block 2 of a grid point. -/
theorem blk2 (c : Dev nD) (x : Args) (hx : Reads m c x) (t : Fin cfg0.N) : iblk m c 2 t = embX (six x 0 (bI t) (cI t)).kk := by
  funext y
  have e : V m c main_arg2 = embA x.kk := hx.kk
  show (V m c main_arg2) ((win0_2.blk t).view.emb y) = _
  rw [e]
  refine (embA_at _ _ (bI t) (row 0 (cI t) (y 1)) (y 2) ?_ ?_ ?_).trans rfl
  · blk_simp [idx t, bI] <;> omega
  · refine Eq.trans ?_ (row0 t (y 1)).symm
    blk_simp [idx t] <;> omega
  · blk_simp [idx t] <;> omega

/-- Block 3 of a grid point. -/
theorem blk3 (c : Dev nD) (x : Args) (hx : Reads m c x) (t : Fin cfg0.N) : iblk m c 3 t = embX (six x 0 (bI t) (cI t)).lw := by
  funext y
  have e : V m c main_arg3 = embA x.lwf := hx.lwf
  show (V m c main_arg3) ((win0_3.blk t).view.emb y) = _
  rw [e]
  refine (embA_at _ _ (bI t) (row 0 (cI t) (y 1)) (y 2) ?_ ?_ ?_).trans rfl
  · blk_simp [idx t, bI] <;> omega
  · refine Eq.trans ?_ (row0 t (y 1)).symm
    blk_simp [idx t] <;> omega
  · blk_simp [idx t] <;> omega

/-- Block 4 of a grid point. -/
theorem blk4 (c : Dev nD) (x : Args) (hx : Reads m c x) (t : Fin cfg0.N) : iblk m c 4 t = embX (six x 0 (bI t) (cI t)).kd := by
  funext y
  have e : V m c main_arg4 = embA x.kdf := hx.kdf
  show (V m c main_arg4) ((win0_4.blk t).view.emb y) = _
  rw [e]
  refine (embA_at _ _ (bI t) (row 0 (cI t) (y 1)) (y 2) ?_ ?_ ?_).trans rfl
  · blk_simp [idx t, bI] <;> omega
  · refine Eq.trans ?_ (row0 t (y 1)).symm
    blk_simp [idx t] <;> omega
  · blk_simp [idx t] <;> omega

/-- Block 5 of a grid point. -/
theorem blk5 (c : Dev nD) (x : Args) (hx : Reads m c x) (t : Fin cfg0.N) : iblk m c 5 t = embX (six x 0 (bI t) (cI t)).a := by
  funext y
  have e : V m c main_arg5 = embA x.af := hx.af
  show (V m c main_arg5) ((win0_5.blk t).view.emb y) = _
  rw [e]
  refine (embA_at _ _ (bI t) (row 0 (cI t) (y 1)) (y 2) ?_ ?_ ?_).trans rfl
  · blk_simp [idx t, bI] <;> omega
  · refine Eq.trans ?_ (row0 t (y 1)).symm
    blk_simp [idx t] <;> omega
  · blk_simp [idx t] <;> omega

/-- Block 6 of a grid point. -/
theorem blk6 (c : Dev nD) (x : Args) (hx : Reads m c x) (t : Fin cfg0.N) : iblk m c 6 t = embX (six x 1 (bI t) (cI t)).r := by
  funext y
  have e : V m c main_arg0 = embA x.r := hx.r
  show (V m c main_arg0) ((win0_6.blk t).view.emb y) = _
  rw [e]
  refine (embA_at _ _ (bI t) (row 1 (cI t) (y 1)) (y 2) ?_ ?_ ?_).trans rfl
  · blk_simp [idx t, bI] <;> omega
  · refine Eq.trans ?_ (row1 t (y 1)).symm
    blk_simp [idx t] <;> omega
  · blk_simp [idx t] <;> omega

/-- Block 7 of a grid point. -/
theorem blk7 (c : Dev nD) (x : Args) (hx : Reads m c x) (t : Fin cfg0.N) : iblk m c 7 t = embX (six x 1 (bI t) (cI t)).v := by
  funext y
  have e : V m c main_arg1 = embA x.v := hx.v
  show (V m c main_arg1) ((win0_7.blk t).view.emb y) = _
  rw [e]
  refine (embA_at _ _ (bI t) (row 1 (cI t) (y 1)) (y 2) ?_ ?_ ?_).trans rfl
  · blk_simp [idx t, bI] <;> omega
  · refine Eq.trans ?_ (row1 t (y 1)).symm
    blk_simp [idx t] <;> omega
  · blk_simp [idx t] <;> omega

/-- Block 8 of a grid point. -/
theorem blk8 (c : Dev nD) (x : Args) (hx : Reads m c x) (t : Fin cfg0.N) : iblk m c 8 t = embX (six x 1 (bI t) (cI t)).kk := by
  funext y
  have e : V m c main_arg2 = embA x.kk := hx.kk
  show (V m c main_arg2) ((win0_8.blk t).view.emb y) = _
  rw [e]
  refine (embA_at _ _ (bI t) (row 1 (cI t) (y 1)) (y 2) ?_ ?_ ?_).trans rfl
  · blk_simp [idx t, bI] <;> omega
  · refine Eq.trans ?_ (row1 t (y 1)).symm
    blk_simp [idx t] <;> omega
  · blk_simp [idx t] <;> omega

/-- Block 9 of a grid point. -/
theorem blk9 (c : Dev nD) (x : Args) (hx : Reads m c x) (t : Fin cfg0.N) : iblk m c 9 t = embX (six x 1 (bI t) (cI t)).lw := by
  funext y
  have e : V m c main_arg6 = embA x.lwb := hx.lwb
  show (V m c main_arg6) ((win0_9.blk t).view.emb y) = _
  rw [e]
  refine (embA_at _ _ (bI t) (row 1 (cI t) (y 1)) (y 2) ?_ ?_ ?_).trans rfl
  · blk_simp [idx t, bI] <;> omega
  · refine Eq.trans ?_ (row1 t (y 1)).symm
    blk_simp [idx t] <;> omega
  · blk_simp [idx t] <;> omega

/-- Block 10 of a grid point. -/
theorem blk10 (c : Dev nD) (x : Args) (hx : Reads m c x) (t : Fin cfg0.N) : iblk m c 10 t = embX (six x 1 (bI t) (cI t)).kd := by
  funext y
  have e : V m c main_arg7 = embA x.kdb := hx.kdb
  show (V m c main_arg7) ((win0_10.blk t).view.emb y) = _
  rw [e]
  refine (embA_at _ _ (bI t) (row 1 (cI t) (y 1)) (y 2) ?_ ?_ ?_).trans rfl
  · blk_simp [idx t, bI] <;> omega
  · refine Eq.trans ?_ (row1 t (y 1)).symm
    blk_simp [idx t] <;> omega
  · blk_simp [idx t] <;> omega

/-- Block 11 of a grid point. -/
theorem blk11 (c : Dev nD) (x : Args) (hx : Reads m c x) (t : Fin cfg0.N) : iblk m c 11 t = embX (six x 1 (bI t) (cI t)).a := by
  funext y
  have e : V m c main_arg8 = embA x.ab := hx.ab
  show (V m c main_arg8) ((win0_11.blk t).view.emb y) = _
  rw [e]
  refine (embA_at _ _ (bI t) (row 1 (cI t) (y 1)) (y 2) ?_ ?_ ?_).trans rfl
  · blk_simp [idx t, bI] <;> omega
  · refine Eq.trans ?_ (row1 t (y 1)).symm
    blk_simp [idx t] <;> omega
  · blk_simp [idx t] <;> omega

/-- The zeros a batch entry begins with are the recurrence's first state. -/
theorem zero_St (x : Args) (b : Fin 4) : k0_pay3 (F := Ideal) = embS (St x b 0) := by
  funext y
  unfold k0_pay3
  pointwise
  simp [embS, St, RS, bd]

/-- Before the first point of a batch entry the point's chunk is the first. -/
theorem start_St (x : Args) (t : Fin cfg0.N) (h : t.val % 128 = 0) : k0_pay3 (F := Ideal) = embS (St x (bI t) (64 * (cI t).val)) := by
  have e : 64 * (cI t).val = 0 := by simp only [cI]; omega
  rw [e]
  exact zero_St x (bI t)

/-- The carried states after a grid point. -/
theorem carried (c : Dev nD) (x : Args) (hx : Reads m c x) : ∀ (n : ℕ) (hn : n < cfg0.N),
    (outsAt0 m c n hn).2.2 = embS (St x (bI ⟨n, hn⟩) (64 * ((cI ⟨n, hn⟩).val + 1))) := by
  intro n
  induction n with
  | zero =>
    intro hn
    refine (openAS m c ⟨0, hn⟩ rfl).trans ?_
    rw [blk0 m c x hx, blk1 m c x hx, blk2 m c x hx, blk3 m c x hx, blk4 m c x hx, blk5 m c x hx, blk6 m c x hx, blk7 m c x hx, blk8 m c x hx, blk9 m c x hx, blk10 m c x hx, blk11 m c x hx]
    rw [← nxt_St]
    rw [start_St x ⟨0, hn⟩ rfl]
    exact canonS _ _ _ _
  | succ n ih =>
    intro hn
    by_cases h : (n + 1) % 128 = 0
    · refine (openAS m c ⟨n + 1, hn⟩ h).trans ?_
      rw [blk0 m c x hx, blk1 m c x hx, blk2 m c x hx, blk3 m c x hx, blk4 m c x hx, blk5 m c x hx, blk6 m c x hx, blk7 m c x hx, blk8 m c x hx, blk9 m c x hx, blk10 m c x hx, blk11 m c x hx]
      rw [← nxt_St]
      rw [start_St x ⟨n + 1, hn⟩ h]
      exact canonS _ _ _ _
    · refine (openBS m c ⟨n + 1, hn⟩ h).trans ?_
      rw [blk0 m c x hx, blk1 m c x hx, blk2 m c x hx, blk3 m c x hx, blk4 m c x hx, blk5 m c x hx, blk6 m c x hx, blk7 m c x hx, blk8 m c x hx, blk9 m c x hx, blk10 m c x hx, blk11 m c x hx]
      rw [← nxt_St]
      have e : (outsAt0 m c ((⟨n + 1, hn⟩ : Fin cfg0.N).val - 1) (Nat.lt_of_le_of_lt (Nat.sub_le _ _) hn)).2.2 = embS (St x (bI ⟨n + 1, hn⟩) (64 * (cI ⟨n + 1, hn⟩).val)) := by
        refine (ih (by omega)).trans ?_
        have e1 : bI ⟨n, by omega⟩ = bI ⟨n + 1, hn⟩ := Fin.ext (by simp only [bI]; omega)
        have e2 : (cI ⟨n, by omega⟩).val + 1 = (cI ⟨n + 1, hn⟩).val := by simp only [cI]; omega
        rw [e1, e2]
      rw [e]
      exact (congrArg View.canon (List.append_nil _).symm).trans (canonS _ _ _ [])

/-- The carried states before a grid point that is not a batch entry's first. -/
theorem before (c : Dev nD) (x : Args) (hx : Reads m c x) (t : Fin cfg0.N) (h : ¬ t.val % 128 = 0) :
    (outsAt0 m c (t.val - 1) (Nat.lt_of_le_of_lt (Nat.sub_le _ _) t.isLt)).2.2 = embS (St x (bI t) (64 * (cI t).val)) := by
  refine (carried m c x hx _ _).trans ?_
  have ht := t.isLt
  have e1 : bI ⟨t.val - 1, Nat.lt_of_le_of_lt (Nat.sub_le _ _) t.isLt⟩ = bI t := Fin.ext (by simp only [bI]; omega)
  have e2 : (cI ⟨t.val - 1, Nat.lt_of_le_of_lt (Nat.sub_le _ _) t.isLt⟩).val + 1 = (cI t).val := by simp only [cI]; omega
  rw [e1, e2]

/-- A grid point's output block of direction 0. -/
theorem out_fw (c : Dev nD) (x : Args) (hx : Reads m c x) (t : Fin cfg0.N) (y : S1x64x384.Idx) :
    (outsAt0 m c t.val t.isLt).1 y = ((Y x 0 (bI t) (row 0 (cI t) (y 1)) (y 2) : ℝ) : EReal) := by
  have e : (outsAt0 m c t.val t.isLt).1 = embX (outB false (six x 0 (bI t) (cI t)) (St x (bI t) (64 * (cI t).val) 0)) := by
    by_cases h : t.val % 128 = 0
    · refine (openA0 m c t h).trans ?_
      rw [blk0 m c x hx, blk1 m c x hx, blk2 m c x hx, blk3 m c x hx, blk4 m c x hx, blk5 m c x hx, blk6 m c x hx, blk7 m c x hx, blk8 m c x hx, blk9 m c x hx, blk10 m c x hx, blk11 m c x hx]
      rw [start_St x t h]
      exact canon0 _ _ _
    · refine (openB0 m c t h).trans ?_
      rw [blk0 m c x hx, blk1 m c x hx, blk2 m c x hx, blk3 m c x hx, blk4 m c x hx, blk5 m c x hx, blk6 m c x hx, blk7 m c x hx, blk8 m c x hx, blk9 m c x hx, blk10 m c x hx, blk11 m c x hx]
      rw [before m c x hx t h]
      exact canon0 _ _ _
  rw [e]
  exact congrArg (fun a : ℝ => (a : EReal)) (out_Y x 0 false rfl (bI t) (cI t) (y 1) (y 2))

/-- A grid point's output block of direction 1. -/
theorem out_bw (c : Dev nD) (x : Args) (hx : Reads m c x) (t : Fin cfg0.N) (y : S1x64x384.Idx) :
    (outsAt0 m c t.val t.isLt).2.1 y = ((Y x 1 (bI t) (row 1 (cI t) (y 1)) (y 2) : ℝ) : EReal) := by
  have e : (outsAt0 m c t.val t.isLt).2.1 = embX (outB true (six x 1 (bI t) (cI t)) (St x (bI t) (64 * (cI t).val) 1)) := by
    by_cases h : t.val % 128 = 0
    · refine (openA1 m c t h).trans ?_
      rw [blk0 m c x hx, blk1 m c x hx, blk2 m c x hx, blk3 m c x hx, blk4 m c x hx, blk5 m c x hx, blk6 m c x hx, blk7 m c x hx, blk8 m c x hx, blk9 m c x hx, blk10 m c x hx, blk11 m c x hx]
      rw [start_St x t h]
      exact canon1 _ _ _
    · refine (openB1 m c t h).trans ?_
      rw [blk0 m c x hx, blk1 m c x hx, blk2 m c x hx, blk3 m c x hx, blk4 m c x hx, blk5 m c x hx, blk6 m c x hx, blk7 m c x hx, blk8 m c x hx, blk9 m c x hx, blk10 m c x hx, blk11 m c x hx]
      rw [before m c x hx t h]
      exact canon1 _ _ _
  rw [e]
  exact congrArg (fun a : ℝ => (a : EReal)) (out_Y x 1 true rfl (bI t) (cI t) (y 1) (y 2))

/-- The result of direction 0. -/
theorem final_fw (c : Dev nD) (x : Args) (hx : Reads m c x) : (dats m 0 c).arrAt 12 (cfgs 0).N = embA (Y x 0) := by
  refine (dats m 0 c).arrAt_eq_of_covers 12 _ (by decide +kernel) fun t _ y => ?_
  blk_simp
  rw [after0_12]
  refine (out_fw m c x hx t y).trans ?_
  refine (embA_at _ _ (bI t) (row 0 (cI t) (y 1)) (y 2) ?_ ?_ ?_).symm
  · blk_simp [idx t, bI] <;> omega
  · refine Eq.trans ?_ (row0 t (y 1)).symm
    blk_simp [idx t] <;> omega
  · blk_simp [idx t] <;> omega

/-- The result of direction 1. -/
theorem final_bw (c : Dev nD) (x : Args) (hx : Reads m c x) : (dats m 0 c).arrAt 13 (cfgs 0).N = embA (Y x 1) := by
  refine (dats m 0 c).arrAt_eq_of_covers 13 _ (by decide +kernel) fun t _ y => ?_
  blk_simp
  rw [after0_13]
  refine (out_bw m c x hx t y).trans ?_
  refine (embA_at _ _ (bI t) (row 1 (cI t) (y 1)) (y 2) ?_ ?_ ?_).symm
  · blk_simp [idx t, bI] <;> omega
  · refine Eq.trans ?_ (row1 t (y 1)).symm
    blk_simp [idx t] <;> omega
  · blk_simp [idx t] <;> omega

end Cert.ScanIdeal.Chunk
-- ==== Proof.ScanRefReal.lean ====
module

public import proofs.«01_k».proof.Proof.Gen.ScanRefIdeal.Step
public import proofs.«01_k».proof.Proof.ScanSpec
public import Idealize.ShloMosaic.Lib.Pipeline.ValueKit
public import Idealize.ShloMosaic.Lib.WordCmp
public import Idealize.ShloMosaic.Lib.DynamicIndex

@[expose] public section

set_option maxRecDepth 16384

noncomputable section

open Idealize.ShloMosaic Idealize.ShloMosaic.TcCoe Idealize.SL.Sem

namespace Cert.ScanRefIdeal.Step

open Cert.ScanRefIdeal Cert.ScanRefIdeal.Gen
open Cert.ScanMath (Args RS OUT Y tm pos lane)

/-- A real array as an argument's contents. -/
def embA (X : Fin 4 → Fin 8192 → Fin 384 → ℝ) : FVec Ideal S4x8192x384 .f32 := fun i => ((X (i 0) (i 1) (i 2) : ℝ) : EReal)
/-- A real array of one row per token. -/
def emb5 (X : Fin 8192 → Fin 2 → Fin 4 → Fin 6 → Fin 64 → ℝ) : FVec Ideal S8192x2x4x6x64 .f32 := fun y => ((X (y 0) (y 1) (y 2) (y 3) (y 4) : ℝ) : EReal)
/-- The states of both directions, every batch entry and every head. -/
def embT (S : Fin 2 → Fin 4 → Fin 6 → Cert.ScanMath.Mat) : FVec Ideal S2x4x6x64x64 .f32 := fun y => ((S (y 0) (y 1) (y 2) (y 3) (y 4) : ℝ) : EReal)

/-- An array is the real array it reads as at every index. -/
theorem eq_emb5 {f : FVec Ideal S8192x2x4x6x64 .f32} {X : Fin 8192 → Fin 2 → Fin 4 → Fin 6 → Fin 64 → ℝ}
    (hf : ∀ n d b h i, f (ix5 n d b h i) = ((X n d b h i : ℝ) : EReal)) : f = emb5 X := by
  funext y
  rw [eq_ix5 y]
  exact hf (y 0) (y 1) (y 2) (y 3) (y 4)

/-- A real array read at an index. -/
theorem embA_ix (X : Fin 4 → Fin 8192 → Fin 384 → ℝ) (b : Fin 4) (n : Fin 8192) (l : Fin 384) : embA X (ix3 b n l) = ((X b n l : ℝ) : EReal) := rfl
/-- A stack read at an index. -/
theorem emb5_ix (X : Fin 8192 → Fin 2 → Fin 4 → Fin 6 → Fin 64 → ℝ) (n : Fin 8192) (d : Fin 2) (b : Fin 4) (h : Fin 6) (i : Fin 64) : emb5 X (ix5 n d b h i) = ((X n d b h i : ℝ) : EReal) := rfl
/-- The forward direction reads the tokens in their order. -/
theorem tm0 (n : Fin 8192) : tm 0 n.val = n := Fin.ext (by have := n.isLt; simp [tm])
/-- The backward direction reads them from the last. -/
theorem tm1 (n : Fin 8192) : tm 1 n.val = n.rev := Fin.ext (by have := n.isLt; simp [tm, Fin.val_rev]; omega)
/-- The exponential of a real. -/
theorem exp_coe (a : ℝ) : Ideal.exp ((a : ℝ) : EReal) = ((Real.exp a : ℝ) : EReal) := rfl

/-- The index a trip's slices start at. -/
theorem start_at (j : ℕ) (hj : j < 8192) (a : Fin 5) : (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a (Shape.Idx.first h_S_)).toInt) = ((![j, 0, 0, 0, 0] : Fin 5 → ℕ) a : Int) := by
  have e : (BitVec.ofNat 32 j).toInt = (j : Int) := toInt_ofNat_of_lt (by omega)
  fin_cases a
  · exact e
  all_goals rfl

/-- One row of a stack. -/
theorem slice_at (j : ℕ) (hj : j < 8192) (X : (⟨S8192x2x4x6x64, .f32⟩ : BufTy).Contents (Elt Ideal)) (d : Fin 2) (b : Fin 4) (h : Fin 6) (i : Fin 64) :
    shapeCast S2x4x6x64 (Host.dynamicSlice S1x2x4x6x64 X (fun k => (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt) sliceFits_S8192x2x4x6x64_S1x2x4x6x64) shapeCasts_S1x2x4x6x64_S2x4x6x64 (ix4 d b h i)
      = X (ix5 (⟨j, hj⟩ : Fin 8192) d b h i) := by
  rw [Host.dynamicSlice_eq_extractStridedSlice S1x2x4x6x64 X _ ![j, 0, 0, 0, 0] _ ⟨rfl, fun a => by fin_cases a <;> simp <;> omega⟩ (start_at j hj)]
  pointwise

/-- A stack with one row replaced. -/
theorem update_at (j : ℕ) (hj : j < 8192) (X : (⟨S8192x2x4x6x64, .f32⟩ : BufTy).Contents (Elt Ideal)) (U : (⟨S1x2x4x6x64, .f32⟩ : BufTy).Contents (Elt Ideal)) (n : Fin 8192) (d : Fin 2) (b : Fin 4) (h : Fin 6) (i : Fin 64) :
    Host.dynamicUpdateSlice X U (fun k => (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt) updateFits_S8192x2x4x6x64_S1x2x4x6x64 (ix5 n d b h i)
      = if n.val = j then U (ix5 0 d b h i) else X (ix5 n d b h i) := by
  rw [Host.dynamicUpdateSlice_eq_updateSlice X U _ _ ![j, 0, 0, 0, 0] (fun a => by rw [start_at j hj a]; fin_cases a <;> simp <;> omega) ⟨rfl, fun a => by fin_cases a <;> simp <;> omega⟩]
  pointwise
  by_cases hn : n.val = j
  · rw [dif_pos (by omega), if_pos hn]
    refine congrArg U ?_
    congr 1
    exact Fin.ext (by simp [hn])
  · rw [dif_neg (by omega), if_neg hn]

/-- The stack of the loop's input 0. -/
theorem in0 (x : Args) : A_main_v8 (F := Ideal) (embA x.r) (embA x.v) (embA x.kk) (embA x.lwf) (embA x.kdf) (embA x.af) (embA x.lwb) (embA x.kdb) (embA x.ab)
    = emb5 (fun n d b h i => x.r b (tm d n) (lane h i)) := by
  refine eq_emb5 fun n d b h i => ?_
  unfold A_main_v8 A_main_v7 A_main_v5 A_main_v4 A_main_v3 A_main_v6 A_main_v2 A_main_v1
  pointwise
  rcases (by omega : d = 0 ∨ d = 1) with rfl | rfl
  · rw [dif_pos (by decide)]
    simp [embA_ix, tm0, tm1, exp_coe, lane, Args.lw, Args.kd, Args.a]
  · rw [dif_neg (by decide)]
    simp [embA_ix, tm0, tm1, exp_coe, lane, Args.lw, Args.kd, Args.a]

/-- The stack of the loop's input 1. -/
theorem in1 (x : Args) : A_main_v18 (F := Ideal) (embA x.r) (embA x.v) (embA x.kk) (embA x.lwf) (embA x.kdf) (embA x.af) (embA x.lwb) (embA x.kdb) (embA x.ab)
    = emb5 (fun n d b h i => Real.exp (x.lw d b (tm d n) (lane h i))) := by
  refine eq_emb5 fun n d b h i => ?_
  unfold A_main_v18 A_main_v17 A_main_v15 A_main_v14 A_main_v13 A_main_v10 A_main_v16 A_main_v12 A_main_v11 A_main_v9
  pointwise
  rcases (by omega : d = 0 ∨ d = 1) with rfl | rfl
  · rw [dif_pos (by decide)]
    simp [embA_ix, tm0, tm1, exp_coe, lane, Args.lw, Args.kd, Args.a]
  · rw [dif_neg (by decide)]
    simp [embA_ix, tm0, tm1, exp_coe, lane, Args.lw, Args.kd, Args.a]

/-- The stack of the loop's input 2. -/
theorem in2 (x : Args) : A_main_v26 (F := Ideal) (embA x.r) (embA x.v) (embA x.kk) (embA x.lwf) (embA x.kdf) (embA x.af) (embA x.lwb) (embA x.kdb) (embA x.ab)
    = emb5 (fun n d b h i => x.kd d b (tm d n) (lane h i)) := by
  refine eq_emb5 fun n d b h i => ?_
  unfold A_main_v26 A_main_v25 A_main_v23 A_main_v22 A_main_v21 A_main_v24 A_main_v20 A_main_v19
  pointwise
  rcases (by omega : d = 0 ∨ d = 1) with rfl | rfl
  · rw [dif_pos (by decide)]
    simp [embA_ix, tm0, tm1, exp_coe, lane, Args.lw, Args.kd, Args.a]
  · rw [dif_neg (by decide)]
    simp [embA_ix, tm0, tm1, exp_coe, lane, Args.lw, Args.kd, Args.a]

/-- The stack of the loop's input 3. -/
theorem in3 (x : Args) : A_main_v34 (F := Ideal) (embA x.r) (embA x.v) (embA x.kk) (embA x.lwf) (embA x.kdf) (embA x.af) (embA x.lwb) (embA x.kdb) (embA x.ab)
    = emb5 (fun n d b h i => x.v b (tm d n) (lane h i)) := by
  refine eq_emb5 fun n d b h i => ?_
  unfold A_main_v34 A_main_v33 A_main_v31 A_main_v30 A_main_v29 A_main_v32 A_main_v28 A_main_v27
  pointwise
  rcases (by omega : d = 0 ∨ d = 1) with rfl | rfl
  · rw [dif_pos (by decide)]
    simp [embA_ix, tm0, tm1, exp_coe, lane, Args.lw, Args.kd, Args.a]
  · rw [dif_neg (by decide)]
    simp [embA_ix, tm0, tm1, exp_coe, lane, Args.lw, Args.kd, Args.a]

/-- The stack of the loop's input 4. -/
theorem in4 (x : Args) : A_main_v44 (F := Ideal) (embA x.r) (embA x.v) (embA x.kk) (embA x.lwf) (embA x.kdf) (embA x.af) (embA x.lwb) (embA x.kdb) (embA x.ab)
    = emb5 (fun n d b h i => -x.kk b (tm d n) (lane h i)) := by
  refine eq_emb5 fun n d b h i => ?_
  unfold A_main_v44 A_main_v43 A_main_v41 A_main_v40 A_main_v39 A_main_v36 A_main_v42 A_main_v38 A_main_v37 A_main_v35
  pointwise
  rcases (by omega : d = 0 ∨ d = 1) with rfl | rfl
  · rw [dif_pos (by decide)]
    simp [embA_ix, tm0, tm1, exp_coe, lane, Args.lw, Args.kd, Args.a]
  · rw [dif_neg (by decide)]
    simp [embA_ix, tm0, tm1, exp_coe, lane, Args.lw, Args.kd, Args.a]

/-- The stack of the loop's input 5. -/
theorem in5 (x : Args) : A_main_v54 (F := Ideal) (embA x.r) (embA x.v) (embA x.kk) (embA x.lwf) (embA x.kdf) (embA x.af) (embA x.lwb) (embA x.kdb) (embA x.ab)
    = emb5 (fun n d b h i => x.kk b (tm d n) (lane h i) * x.a d b (tm d n) (lane h i)) := by
  refine eq_emb5 fun n d b h i => ?_
  unfold A_main_v54 A_main_v53 A_main_v51 A_main_v50 A_main_v49 A_main_v46 A_main_v52 A_main_v48 A_main_v47 A_main_v45
  pointwise
  rcases (by omega : d = 0 ∨ d = 1) with rfl | rfl
  · rw [dif_pos (by decide)]
    simp [embA_ix, tm0, tm1, exp_coe, lane, Args.lw, Args.kd, Args.a]
  · rw [dif_neg (by decide)]
    simp [embA_ix, tm0, tm1, exp_coe, lane, Args.lw, Args.kd, Args.a]

/-- An array of states is the real one it reads as at every index. -/
theorem eq_embT {f : FVec Ideal S2x4x6x64x64 .f32} {S : Fin 2 → Fin 4 → Fin 6 → Cert.ScanMath.Mat}
    (hf : ∀ d b h i j, f (ix5 d b h i j) = ((S d b h i j : ℝ) : EReal)) : f = embT S := by
  funext y
  rw [eq_ix5 y]
  exact hf (y 0) (y 1) (y 2) (y 3) (y 4)
/-- States read at an index. -/
theorem embT_ix (S : Fin 2 → Fin 4 → Fin 6 → Cert.ScanMath.Mat) (d : Fin 2) (b : Fin 4) (h : Fin 6) (i j : Fin 64) : embT S (ix5 d b h i j) = ((S d b h i j : ℝ) : EReal) := rfl
/-- A sum of reals. -/
theorem esum {ι : Type} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

/-- The loop's state before trip `n`: the states after `n` tokens, the readings of the tokens so far, and the stacked inputs. -/
structure Good (x : Args) (n : ℕ) (s : State Ideal) : Prop where
  st : s.main_v56_7 = embT (fun d b h => RS x d b h n)
  out : ∀ (k : Fin 8192) (d : Fin 2) (b : Fin 4) (h : Fin 6) (i : Fin 64), k.val < n → s.main_v56_8 (ix5 k d b h i) = ((OUT x d b k.val h i : ℝ) : EReal)
  i0 : s.main_v56_0 = emb5 (fun n d b h i => x.r b (tm d n) (lane h i))
  i1 : s.main_v56_1 = emb5 (fun n d b h i => Real.exp (x.lw d b (tm d n) (lane h i)))
  i2 : s.main_v56_2 = emb5 (fun n d b h i => x.kd d b (tm d n) (lane h i))
  i3 : s.main_v56_3 = emb5 (fun n d b h i => x.v b (tm d n) (lane h i))
  i4 : s.main_v56_4 = emb5 (fun n d b h i => -x.kk b (tm d n) (lane h i))
  i5 : s.main_v56_5 = emb5 (fun n d b h i => x.kk b (tm d n) (lane h i) * x.a d b (tm d n) (lane h i))

/-- A trip's row of input 0. -/
theorem row0 (x : Args) (j : ℕ) (hj : j < 8192) (s : State Ideal) (g : Good x j s) (d : Fin 2) (b : Fin 4) (h : Fin 6) (i : Fin 64) : b5 j s (ix4 d b h i) = ((x.r b (tm d j) (lane h i) : ℝ) : EReal) := by
  refine (slice_at j hj s.main_v56_0 d b h i).trans ?_
  rw [g.i0]
  rfl
/-- A trip's row of input 1. -/
theorem row1 (x : Args) (j : ℕ) (hj : j < 8192) (s : State Ideal) (g : Good x j s) (d : Fin 2) (b : Fin 4) (h : Fin 6) (i : Fin 64) : b11 j s (ix4 d b h i) = ((Real.exp (x.lw d b (tm d j) (lane h i)) : ℝ) : EReal) := by
  refine (slice_at j hj s.main_v56_1 d b h i).trans ?_
  rw [g.i1]
  rfl
/-- A trip's row of input 2. -/
theorem row2 (x : Args) (j : ℕ) (hj : j < 8192) (s : State Ideal) (g : Good x j s) (d : Fin 2) (b : Fin 4) (h : Fin 6) (i : Fin 64) : b17 j s (ix4 d b h i) = ((x.kd d b (tm d j) (lane h i) : ℝ) : EReal) := by
  refine (slice_at j hj s.main_v56_2 d b h i).trans ?_
  rw [g.i2]
  rfl
/-- A trip's row of input 3. -/
theorem row3 (x : Args) (j : ℕ) (hj : j < 8192) (s : State Ideal) (g : Good x j s) (d : Fin 2) (b : Fin 4) (h : Fin 6) (i : Fin 64) : b23 j s (ix4 d b h i) = ((x.v b (tm d j) (lane h i) : ℝ) : EReal) := by
  refine (slice_at j hj s.main_v56_3 d b h i).trans ?_
  rw [g.i3]
  rfl
/-- A trip's row of input 4. -/
theorem row4 (x : Args) (j : ℕ) (hj : j < 8192) (s : State Ideal) (g : Good x j s) (d : Fin 2) (b : Fin 4) (h : Fin 6) (i : Fin 64) : b29 j s (ix4 d b h i) = ((-x.kk b (tm d j) (lane h i) : ℝ) : EReal) := by
  refine (slice_at j hj s.main_v56_4 d b h i).trans ?_
  rw [g.i4]
  rfl
/-- A trip's row of input 5. -/
theorem row5 (x : Args) (j : ℕ) (hj : j < 8192) (s : State Ideal) (g : Good x j s) (d : Fin 2) (b : Fin 4) (h : Fin 6) (i : Fin 64) : b35 j s (ix4 d b h i) = ((x.kk b (tm d j) (lane h i) * x.a d b (tm d j) (lane h i) : ℝ) : EReal) := by
  refine (slice_at j hj s.main_v56_5 d b h i).trans ?_
  rw [g.i5]
  rfl

/-- What a trip feeds back. -/
theorem fed (x : Args) (j : ℕ) (hj : j < 8192) (s : State Ideal) (g : Good x j s) (d : Fin 2) (b : Fin 4) (h : Fin 6) (i : Fin 64) :
    b36 j s (ix4 d b h i) = ((∑ l, RS x d b h j i l * (-x.kk b (tm d j) (lane h l)) : ℝ) : EReal) := by
  unfold b36
  pointwise
  rw [g.st]
  simp only [row4 x j hj s g, embT_ix, ← EReal.coe_mul]
  exact esum _ _

/-- The states a trip leaves. -/
theorem state_next (x : Args) (j : ℕ) (hj : j < 8192) (s : State Ideal) (g : Good x j s) : b51 j s = embT (fun d b h => RS x d b h (j + 1)) := by
  refine eq_embT fun d b h i k => ?_
  unfold b51 b50 b49 b48 b47 b46 b45 b44 b43 b42 b41 b40 b39 b38 b37
  pointwise
  rw [g.st]
  simp only [row1 x j hj s g, row2 x j hj s g, row3 x j hj s g, row5 x j hj s g, fed x j hj s g, embT_ix, ← EReal.coe_mul, ← EReal.coe_add]
  rfl

/-- What a trip reads. -/
theorem read_next (x : Args) (j : ℕ) (hj : j < 8192) (s : State Ideal) (g : Good x j s) (d : Fin 2) (b : Fin 4) (h : Fin 6) (i : Fin 64) :
    b52 j s (ix4 d b h i) = ((OUT x d b j h i : ℝ) : EReal) := by
  unfold b52
  rw [state_next x j hj s g]
  pointwise
  simp only [row0 x j hj s g, embT_ix, ← EReal.coe_mul]
  exact esum _ _

/-- A trip keeps the description. -/
theorem good_step (x : Args) (j : ℕ) (hj : j < 8192) (s : State Ideal) (g : Good x j s) : Good x (j + 1) (step j s) where
  st := (step_main_v56_7 j s).trans (state_next x j hj s g)
  out := fun k d b h i hk => by
    rw [step_main_v56_8]
    refine (update_at j hj s.main_v56_8 (b53 j s) k d b h i).trans ?_
    by_cases e : k.val = j
    · rw [if_pos e, e]
      refine Eq.trans ?_ (read_next x j hj s g d b h i)
      unfold b53
      pointwise
    · rw [if_neg e]
      exact g.out k d b h i (by omega)
  i0 := g.i0
  i1 := g.i1
  i2 := g.i2
  i3 := g.i3
  i4 := g.i4
  i5 := g.i5

/-- The loop's first state. -/
theorem good_init (x : Args) : Good x 0 (init (embA x.r) (embA x.v) (embA x.kk) (embA x.lwf) (embA x.kdf) (embA x.af) (embA x.lwb) (embA x.kdb) (embA x.ab)) where
  st := by
    refine eq_embT fun d b h i k => ?_
    show K_main_v0 (F := Ideal) (ix5 d b h i k) = _
    unfold K_main_v0 K_main_cst
    pointwise
    simp [RS]
  out := fun k d b h i hk => absurd hk (Nat.not_lt_zero _)
  i0 := in0 x
  i1 := in1 x
  i2 := in2 x
  i3 := in3 x
  i4 := in4 x
  i5 := in5 x

/-- An array is the real one it reads as at every index. -/
theorem eq_embA {f : FVec Ideal S4x8192x384 .f32} {X : Fin 4 → Fin 8192 → Fin 384 → ℝ}
    (hf : ∀ b n l, f (ix3 b n l) = ((X b n l : ℝ) : EReal)) : f = embA X := by
  funext y
  rw [eq_ix3 y]
  exact hf (y 0) (y 1) (y 2)

/-- The forward result after the last trip. -/
theorem result_fw (x : Args) (s : State Ideal) (g : Good x 8192 s) : R_main_v60 s = embA (Y x 0) := by
  refine eq_embA fun b n l => ?_
  unfold R_main_v60
  pointwise
  exact g.out _ _ _ _ _ n.isLt

/-- The backward result after the last trip. -/
theorem result_bw (x : Args) (s : State Ideal) (g : Good x 8192 s) : R_main_v65 s = embA (Y x 1) := by
  refine eq_embA fun b n l => ?_
  unfold R_main_v65
  pointwise
  refine Eq.trans ?_ ((g.out n.rev 1 b ⟨l.val / 64, by omega⟩ ⟨l.val % 64, by omega⟩ n.rev.isLt).trans ?_)
  · refine congrArg s.main_v56_8 ?_
    simp
  · have e : n.rev.val = pos 1 n := by simp [pos, Fin.val_rev]
    rw [e]
    rfl

end Cert.ScanRefIdeal.Step
-- ==== Proof.ScanRefRun.lean ====
module

public import proofs.«01_k».proof.Proof.Gen.ScanRefIdeal.Run
public import proofs.«01_k».proof.Proof.Gen.ScanRefIdeal.Step

@[expose] public section

noncomputable section

namespace Cert.ScanRefIdeal.TripRun

open Idealize.ShloMosaic Idealize.ShloMosaic.TcCoe Idealize.SL.Sem Idealize.ShloMosaic.StableHlo
open Cert.ScanRefIdeal Cert.ScanRefIdeal.Gen Cert.ScanRefIdeal.Value
open Cert.ScanRefIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v56_7) = s.main_v56_7
  f_8 : V0 (Proc.devRef .tc main_v56_8) = s.main_v56_8
  f_0 : V0 (Proc.devRef .tc main_v56_0) = s.main_v56_0
  f_1 : V0 (Proc.devRef .tc main_v56_1) = s.main_v56_1
  f_2 : V0 (Proc.devRef .tc main_v56_2) = s.main_v56_2
  f_3 : V0 (Proc.devRef .tc main_v56_3) = s.main_v56_3
  f_4 : V0 (Proc.devRef .tc main_v56_4) = s.main_v56_4
  f_5 : V0 (Proc.devRef .tc main_v56_5) = s.main_v56_5
  n_6 : V0 (Proc.devRef .tc main_v56_6) = constantI S_ 32 (BitVec.ofNat 32 j)

variable {V0 s j}

set_option maxRecDepth 16384

/-- A trip takes the carried state to the next one's. -/
theorem step_7 (h : Holds V0 s j) : step_main_v56_7 V0 = (step j s).main_v56_7 := by
  unfold step_main_v56_7 step res_main_while0b_v87
  simp only [h.f_7, h.f_0, h.f_1, h.f_2, h.f_3, h.f_4, h.f_5, h.n_6]
  rfl

/-- A trip takes the gathered outputs to the next one's. -/
theorem step_8 (h : Holds V0 s j) : step_main_v56_8 V0 = (step j s).main_v56_8 := by
  have e := step_7 h
  unfold step_main_v56_7 at e
  unfold step_main_v56_8 step
  rw [show res_main_while0b_v87 V0 = _ from e, h.f_8, h.f_0, h.n_6]
  rfl

/-- A trip counts itself. -/
theorem step_6 (h : Holds V0 s j) : step_main_v56_6 V0 = constantI S_ 32 (BitVec.ofNat 32 (j + 1)) := by
  unfold step_main_v56_6
  rw [h.n_6]
  funext i
  show BitVec.ofNat 32 j + 1#32 = BitVec.ofNat 32 (j + 1)
  simp only [BitVec.ofNat_add]

/-- The forward result, of the gathered outputs. -/
theorem out_main_v60_holds (h : Holds V0 s j) : out_main_v60 V0 = Cert.ScanRefIdeal.Step.R_main_v60 s := by
  unfold out_main_v60 Cert.ScanRefIdeal.Step.R_main_v60
  rw [h.f_8]
  try rfl

/-- The backward result, of the gathered outputs. -/
theorem out_main_v65_holds (h : Holds V0 s j) : out_main_v65 V0 = Cert.ScanRefIdeal.Step.R_main_v65 s := by
  unfold out_main_v65 Cert.ScanRefIdeal.Step.R_main_v65
  rw [h.f_8]
  try rfl

/-- One trip keeps the valuation holding: `step` of the state, the same set-up values, the next number. -/
theorem holds_step (h : Holds V0 s j) : Holds (STEP V0) (step j s) (j + 1) where
  f_7 := (STEP_main_v56_7 V0).trans (step_7 h)
  f_8 := (STEP_main_v56_8 V0).trans (step_8 h)
  n_6 := (STEP_main_v56_6 V0).trans (step_6 h)
  f_0 := (STEP_main_v56_0 V0).trans h.f_0
  f_1 := (STEP_main_v56_1 V0).trans h.f_1
  f_2 := (STEP_main_v56_2 V0).trans h.f_2
  f_3 := (STEP_main_v56_3 V0).trans h.f_3
  f_4 := (STEP_main_v56_4 V0).trans h.f_4
  f_5 := (STEP_main_v56_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ScanRefIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v60) = Cert.ScanRefIdeal.Step.R_main_v60 (it c 8192)
      ∧ r.2.mem ((c.tc : Thread nD τ).loc main_v65) = Cert.ScanRefIdeal.Step.R_main_v65 (it c 8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 8192
    ⟨(h c).1.trans (out_main_v60_holds hk), (h c).2.1.trans (out_main_v65_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ScanRefIdeal.TripRun

end
-- ==== Proof.ScanResult.lean ====
module

public import proofs.«01_k».proof.Defs
public import proofs.«01_k».proof.Proof.ScanPoints
public import proofs.«01_k».proof.Proof.ScanRefReal
public import proofs.«01_k».proof.Proof.ScanRefRun
public import Idealize.ShloMosaic.Lib.Claim

@[expose] public section

set_option maxRecDepth 16384

noncomputable section

open Idealize.ShloMosaic Idealize.ShloMosaic.TcCoe Idealize.SL.Sem

namespace Cert.ScanIdeal.Result

open Cert.ScanIdeal Cert.ScanIdeal.Gen
open Cert.ScanMath (Args Y)
open Cert.ScanIdeal.Chunk (embA Reads)

/-- The precondition's only side condition: a number broadcasts to an argument's shape. -/
theorem preFacts : Cert.Pre_all_finite.Facts := ⟨by decide⟩

/-- The real an array has at an index, where it is finite. -/
def realOf (X : FVec Ideal S4x8192x384 .f32) : Fin 4 → Fin 8192 → Fin 384 → ℝ := fun b n l => (X (ix3 b n l) : EReal).toReal

/-- What the comparison of an absolute value with infinity says: the number is finite. -/
theorem fin_of_cmp (X : FVec Ideal S4x8192x384 .f32) (hb : (⟨0, ![]⟩ : Shape).BroadcastsInDim S4x8192x384 (![] : Fin 0 → Fin 3))
    (h : (cmpf .olt (Host.absf X) (broadcastInDim S4x8192x384 ![] hb (constant (F := Ideal) (⟨0, ![]⟩ : Shape) .f32 0x7F800000#32)) : IVec S4x8192x384 1) = fun _ => 1#1) :
    X = embA (realOf X) := by
  funext i
  have e := congrFun h i
  revert e
  pointwise
  intro e
  have e' : max (X i : EReal) (-(X i : EReal)) < ⊤ := by
    by_contra hn
    have hf : decide (FloatOps.absf (X i) < Ideal.ofBits FTy.f32 2139095040#32) = false :=
      decide_eq_false (by
        rw [show Ideal.ofBits FTy.f32 2139095040#32 = (⊤ : EReal) by simp [Ideal.ofBits, Ideal.ieee]]
        exact hn)
    rw [hf] at e
    exact absurd e (by decide)
  have hi : (X i : EReal) = ((X i : EReal).toReal : EReal) := by
    refine (EReal.coe_toReal ?_ ?_).symm
    · intro h1
      rw [h1] at e'
      simp at e'
    · intro h1
      rw [h1] at e'
      simp at e'
  exact hi.trans (congrArg (fun j => ((X j : EReal).toReal : EReal)) (eq_ix3 i))

variable (m : (ℓ : Loc nD τ sig) → Buf (Elt Ideal) ℓ)

/-- The reals a device's arguments are, where they are finite. -/
def argsOf (c : Dev nD) : Args where
  r := realOf (m ((c : Thread nD τ).loc main_arg0))
  v := realOf (m ((c : Thread nD τ).loc main_arg1))
  kk := realOf (m ((c : Thread nD τ).loc main_arg2))
  lwf := realOf (m ((c : Thread nD τ).loc main_arg3))
  kdf := realOf (m ((c : Thread nD τ).loc main_arg4))
  af := realOf (m ((c : Thread nD τ).loc main_arg5))
  lwb := realOf (m ((c : Thread nD τ).loc main_arg6))
  kdb := realOf (m ((c : Thread nD τ).loc main_arg7))
  ab := realOf (m ((c : Thread nD τ).loc main_arg8))

/-- Under the precondition the nine arguments are arrays of reals. -/
theorem reads_of_pre (h : Cert.Pre_ScanIdeal_all_finite (hPre_all_finite := preFacts) m) (c : Dev nD) : Reads m c (argsOf m c) := by
  obtain ⟨h0, h1, h2, h3, h4, h5, h6, h7, h8⟩ := h c
  exact ⟨fin_of_cmp _ _ h0, fin_of_cmp _ _ h1, fin_of_cmp _ _ h2, fin_of_cmp _ _ h3, fin_of_cmp _ _ h4, fin_of_cmp _ _ h5,
    fin_of_cmp _ _ h6, fin_of_cmp _ _ h7, fin_of_cmp _ _ h8⟩

end Cert.ScanIdeal.Result

namespace Cert.ScanRefIdeal.Result

open Cert.ScanRefIdeal Cert.ScanRefIdeal.Gen
open Cert.ScanMath (Args Y)
open Cert.ScanRefIdeal.Step (embA State init step Good good_init good_step result_fw result_bw)
open Cert.ScanRefIdeal.TripRun (initState run_iter)

variable (m : (ℓ : Loc nD τ sig) → Buf (Elt Ideal) ℓ)

/-- The reference's state after a number of tokens. -/
def iter (c : Dev nD) : ℕ → State Ideal
  | 0 => initState m c
  | n + 1 => step n (iter c n)

/-- Reading arrays of reals, the reference's state stands for the recurrence's state after every token. -/
theorem good (c : Dev nD) (x : Args)
    (h : initState m c = init (embA x.r) (embA x.v) (embA x.kk) (embA x.lwf) (embA x.kdf) (embA x.af) (embA x.lwb) (embA x.kdb) (embA x.ab)) :
    ∀ n, n ≤ 8192 → Good x n (iter m c n)
  | 0, _ => by
    show Good x 0 (initState m c)
    rw [h]
    exact good_init x
  | n + 1, hn => good_step x n (by omega) _ (good c x h n (by omega))

/-- The reference's run leaves the recurrence's two outputs, and its arguments as they were. -/
theorem run (g : Dev nD → PrngReg) (x : Dev nD → Args)
    (h : ∀ c, initState m c = init (embA (x c).r) (embA (x c).v) (embA (x c).kk) (embA (x c).lwf) (embA (x c).kdf) (embA (x c).af)
      (embA (x c).lwb) (embA (x c).kdb) (embA (x c).ab)) :
    θ_run (defs (F := Ideal)) (onTc (τ := τ) (main (F := Ideal))) ⟨m, fun _ => 0, g⟩ fun r => ∀ c : Dev nD,
      r.2.mem ((c.tc : Thread nD τ).loc main_v60) = embA (Y (x c) 0)
      ∧ r.2.mem ((c.tc : Thread nD τ).loc main_v65) = embA (Y (x c) 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r hr c =>
    have gd := good m c (x c) (h c) 8192 (le_refl _)
    ⟨(hr c).1.trans (result_fw (x c) _ gd), (hr c).2.1.trans (result_bw (x c) _ gd), (hr c).2.2⟩)
    (run_iter m g (iter m) (fun _ => rfl) (fun _ _ => rfl))

end Cert.ScanRefIdeal.Result

namespace Cert.ScanIdeal.Result

open Cert.ScanMath (Args Y)

/-- Where both programs start from the same arguments, the reference starts from the reals the kernel reads. -/
theorem ref_start (m : (ℓ : Loc Cert.ScanIdeal.nD Cert.ScanIdeal.τ Cert.ScanIdeal.sig) → Buf (Elt Ideal) ℓ)
    (m' : (ℓ : Loc Cert.ScanRefIdeal.nD Cert.ScanRefIdeal.τ Cert.ScanRefIdeal.sig) → Buf (Elt Ideal) ℓ) (c : Dev Cert.ScanIdeal.nD)
    (x : Args) (hx : Cert.ScanIdeal.Chunk.Reads m c x)
    (h : m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)) :
    Cert.ScanRefIdeal.TripRun.initState m' c
      = Cert.ScanRefIdeal.Step.init (Cert.ScanRefIdeal.Step.embA x.r) (Cert.ScanRefIdeal.Step.embA x.v) (Cert.ScanRefIdeal.Step.embA x.kk)
          (Cert.ScanRefIdeal.Step.embA x.lwf) (Cert.ScanRefIdeal.Step.embA x.kdf) (Cert.ScanRefIdeal.Step.embA x.af)
          (Cert.ScanRefIdeal.Step.embA x.lwb) (Cert.ScanRefIdeal.Step.embA x.kdb) (Cert.ScanRefIdeal.Step.embA x.ab) := by
  obtain ⟨h0, h1, h2, h3, h4, h5, h6, h7, h8⟩ := h
  unfold Cert.ScanRefIdeal.TripRun.initState
  rw [h0.trans hx.r, h1.trans hx.v, h2.trans hx.kk, h3.trans hx.lwf, h4.trans hx.kdf, h5.trans hx.af, h6.trans hx.lwb, h7.trans hx.kdb,
    h8.trans hx.ab]
  rfl

end Cert.ScanIdeal.Result

end
-- ==== Proof.FfnResult.lean ====
module

public import proofs.«01_k».proof.Proof.Gen.FfnIdeal.Value
public import proofs.«01_k».proof.Proof.Gen.FfnRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Result

open Cert.FfnIdeal Cert.FfnIdeal.Gen

variable (m : (ℓ : Loc nD τ sig) → Buf (Elt Ideal) ℓ)

/-- The reference's normalised rows. -/
def normed (a0 : FVec Ideal S32768x1024 .f32) (a1 : FVec Ideal S1024 .f32) : FVec Ideal S32768x1024 .f32 :=
  mulf (mulf a0 (broadcastInDim Cert.FfnRefIdeal.S32768x1024 ![0, 1] Cert.FfnRefIdeal.Gen.bcast_S32768x1_S32768x1024_0_1 (Host.rsqrt (addf (Host.divf (broadcastInDim Cert.FfnRefIdeal.S32768x1 ![0] Cert.FfnRefIdeal.Gen.bcast_S32768_S32768x1_0 (Host.reduceAdd (mulf a0 a0) (constant Cert.FfnRefIdeal.S_ .f32 0x00000000#32) Cert.FfnRefIdeal.Gen.reducesTo_S32768x1024_S32768_d1 Cert.FfnRefIdeal.Gen.h_S_)) (broadcastInDim Cert.FfnRefIdeal.S32768x1 ![] Cert.FfnRefIdeal.Gen.bcast_S_S32768x1 (constant Cert.FfnRefIdeal.S_ .f32 0x44800000#32))) (broadcastInDim Cert.FfnRefIdeal.S32768x1 ![] Cert.FfnRefIdeal.Gen.bcast_S_S32768x1 (constant Cert.FfnRefIdeal.S_ .f32 0x358637BD#32)))))) (broadcastInDim Cert.FfnRefIdeal.S32768x1024 ![0, 1] Cert.FfnRefIdeal.Gen.bcast_S1x1024_S32768x1024_0_1 (broadcastInDim Cert.FfnRefIdeal.S1x1024 ![1] Cert.FfnRefIdeal.Gen.bcast_S1024_S1x1024_1 a1))

/-- The reference's half-step feed-forward block: the rows plus half of the gated projection. -/
def REF (a0 : FVec Ideal S32768x1024 .f32) (a1 : FVec Ideal S1024 .f32) (a2 a3 : FVec Ideal S1024x2816 .f32) (a4 : FVec Ideal S2816x1024 .f32) : FVec Ideal S32768x1024 .f32 :=
  addf a0 (mulf (broadcastInDim Cert.FfnRefIdeal.S32768x1024 ![] Cert.FfnRefIdeal.Gen.bcast_S_S32768x1024 (constant Cert.FfnRefIdeal.S_ .f32 0x3F000000#32)) (Host.dotGeneral Cert.FfnRefIdeal.dot_S32768x2816_S2816x1024_S32768x1024_1_0_0_1_n_n none (mulf (mulf (Host.dotGeneral Cert.FfnRefIdeal.dot_S32768x1024_S1024x2816_S32768x2816_1_0_0_1_n_n none (normed a0 a1) a2) (Host.divf (broadcastInDim Cert.FfnRefIdeal.S32768x2816 ![] Cert.FfnRefIdeal.Gen.bcast_S_S32768x2816 (constant Cert.FfnRefIdeal.S_ .f32 0x3F800000#32)) (addf (broadcastInDim Cert.FfnRefIdeal.S32768x2816 ![] Cert.FfnRefIdeal.Gen.bcast_S_S32768x2816 (constant Cert.FfnRefIdeal.S_ .f32 0x3F800000#32)) (Host.exp (Host.negf (Host.dotGeneral Cert.FfnRefIdeal.dot_S32768x1024_S1024x2816_S32768x2816_1_0_0_1_n_n none (normed a0 a1) a2)))))) (Host.dotGeneral Cert.FfnRefIdeal.dot_S32768x1024_S1024x2816_S32768x2816_1_0_0_1_n_n none (normed a0 a1) a3)) a4))

/-- One hidden unit's share of one entry of the feed-forward sum: the gated activation of unit `f` at row `y 0`,
    times its weight into column `y 1`. -/
def unit (h : FVec Ideal S512x1024 .bf16) (w1 w3 : FVec Ideal S1024x2816 .bf16) (w2 : FVec Ideal S2816x1024 .bf16)
    (y : S512x1024.Idx) (f : Fin 2816) : EReal :=
  ((∑ x : Fin 1024, h (ix2 (y 0) x) * w1 (ix2 x f)) * Ideal.div 1 (1 + Ideal.exp (-∑ x : Fin 1024, h (ix2 (y 0) x) * w1 (ix2 x f)))
      * ∑ x : Fin 1024, h (ix2 (y 0) x) * w3 (ix2 x f)) * w2 (ix2 f (y 1))

/-- One chunk of 256 hidden units, read at column offset `o` of the weights, sums those units' shares. -/
theorem chunk (h w1 w3 w2) (o : ℕ) (h1 h2 h3) (y) (ho : o + 256 ≤ 2816) :
    k0_pay22 (F := Ideal) h (View.ld w1 (Rect.unit (s := S1024x2816) ![0, o] ![1024, 256] h1))
      (View.ld w3 (Rect.unit (s := S1024x2816) ![0, o] ![1024, 256] h2)) (View.ld w2 (Rect.unit (s := S2816x1024) ![o, 0] ![256, 1024] h3)) y
      = ∑ x : Fin 256, unit h w1 w3 w2 y ⟨o + x.val, by omega⟩ := by
  pointwise [k0_pay22]
  simp only [zero_sub]
  rfl

/-- The first chunk step stores the chunk's product. -/
theorem step_first (v0 v1 a b e y) : k0_pay2 (F := Ideal) v0 v1 a b e y = k0_pay22 (F := Ideal) (k0_pay1 v0 v1) a b e y := by
  pointwise [k0_pay2, k0_pay22]

/-- The chunk step `one` adds the chunk's product to what the accumulator held. -/
theorem step_one (h a b e acc y) : k0_pay3 (F := Ideal) h a b e acc y = acc y + k0_pay22 (F := Ideal) h a b e y := by
  pointwise [k0_pay3, k0_pay22]

/-- The chunk step `two` adds the chunk's product to what the accumulator held. -/
theorem step_two (h a b e acc y) : k0_pay8 (F := Ideal) (k0_pay4 h a) (k0_pay5 h b) (k0_pay6 h a) k0_pay7 e acc y = acc y + k0_pay22 (F := Ideal) h a b e y := by
  pointwise [k0_pay8, k0_pay4, k0_pay5, k0_pay6, k0_pay7, k0_pay22]

/-- The chunk step `three` adds the chunk's product to what the accumulator held. -/
theorem step_three (h a b e acc y) : k0_pay10 (F := Ideal) (k0_pay9 h a b e acc) y = acc y + k0_pay22 (F := Ideal) h a b e y := by
  pointwise [k0_pay9, k0_pay10, k0_pay22]

/-- The chunk step `four` adds the chunk's product to what the accumulator held. -/
theorem step_four (h a b e acc y) : k0_pay11 (F := Ideal) h a b e acc y = acc y + k0_pay22 (F := Ideal) h a b e y := by
  pointwise [k0_pay11, k0_pay22]

/-- The chunk step `five` adds the chunk's product to what the accumulator held. -/
theorem step_five (h a b e acc y) : k0_pay15 (F := Ideal) (k0_pay12 h a) (k0_pay13 h b) (k0_pay14 h a) e acc y = acc y + k0_pay22 (F := Ideal) h a b e y := by
  pointwise [k0_pay15, k0_pay12, k0_pay13, k0_pay14, k0_pay22]

/-- The chunk step `six` adds the chunk's product to what the accumulator held. -/
theorem step_six (h a b e acc y) : k0_pay17 (F := Ideal) (k0_pay16 h a b e) acc y = acc y + k0_pay22 (F := Ideal) h a b e y := by
  pointwise [k0_pay16, k0_pay17, k0_pay22]

/-- The chunk step `seven` adds the chunk's product to what the accumulator held. -/
theorem step_seven (h a b e acc y) : k0_pay18 (F := Ideal) h a b e acc y = acc y + k0_pay22 (F := Ideal) h a b e y := by
  pointwise [k0_pay18, k0_pay22]

/-- The chunk step `eight` adds the chunk's product to what the accumulator held. -/
theorem step_eight (h a b e acc y) : k0_pay21 (F := Ideal) (k0_pay19 h a) (k0_pay20 h b) e acc y = acc y + k0_pay22 (F := Ideal) h a b e y := by
  pointwise [k0_pay21, k0_pay19, k0_pay20, k0_pay22]

/-- The chunk step `nine` adds the chunk's product to what the accumulator held. -/
theorem step_nine (h a b e acc y) : k0_pay23 (F := Ideal) (k0_pay22 h a b e) acc y = acc y + k0_pay22 (F := Ideal) h a b e y := by
  pointwise [k0_pay23, k0_pay22]

/-- The chunk step `ten` adds the chunk's product to what the accumulator held. -/
theorem step_ten (h a b e acc y) : k0_pay24 (F := Ideal) h a b e acc y = acc y + k0_pay22 (F := Ideal) h a b e y := by
  pointwise [k0_pay24, k0_pay22]

/-- Eleven chunks of 256 units are the 2816 units. -/
theorem units_sum (g : Fin 2816 → EReal) :
    (∑ x : Fin 256, g ⟨0 + x.val, by omega⟩) + (∑ x : Fin 256, g ⟨256 + x.val, by omega⟩) + (∑ x : Fin 256, g ⟨512 + x.val, by omega⟩)
      + (∑ x : Fin 256, g ⟨768 + x.val, by omega⟩) + (∑ x : Fin 256, g ⟨1024 + x.val, by omega⟩) + (∑ x : Fin 256, g ⟨1280 + x.val, by omega⟩)
      + (∑ x : Fin 256, g ⟨1536 + x.val, by omega⟩) + (∑ x : Fin 256, g ⟨1792 + x.val, by omega⟩) + (∑ x : Fin 256, g ⟨2048 + x.val, by omega⟩)
      + (∑ x : Fin 256, g ⟨2304 + x.val, by omega⟩) + (∑ x : Fin 256, g ⟨2560 + x.val, by omega⟩) = ∑ f : Fin 2816, g f := by
  rw [Fin.sum_univ_tiles 11 256 rfl g]
  simp only [Fin.sum_univ_castSucc (n := 10), Fin.sum_univ_castSucc (n := 9), Fin.sum_univ_castSucc (n := 8), Fin.sum_univ_castSucc (n := 7),
    Fin.sum_univ_castSucc (n := 6), Fin.sum_univ_castSucc (n := 5), Fin.sum_univ_castSucc (n := 4), Fin.sum_univ_castSucc (n := 3),
    Fin.sum_univ_castSucc (n := 2), Fin.sum_univ_castSucc (n := 1), Fin.sum_univ_castSucc (n := 0), Fin.sum_univ_zero, zero_add]
  rfl

/-- The block indices of the windows, at every grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] :=
  (by decide +kernel : ∀ t : Fin grid0.N, _)

/-- The gated sum over all hidden units of one stored block, at row and column `y`. -/
def hidden (c : Dev nD) (t : Fin cfg0.N) (y : S512x1024.Idx) : EReal :=
  ∑ f : Fin 2816, unit (k0_pay1 (iblk m c 0 t) (iblk m c 1 t)) (iblk m c 2 t) (iblk m c 3 t) (iblk m c 4 t) y f

/-- The rows plus half the gated sum are the reference's block there. -/
theorem point (c : Dev nD) (t : Fin cfg0.N) (y : S512x1024.Idx) :
    k0_pay25 (F := Ideal) (iblk m c 0 t) (hidden m c t) y = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay25, hidden, unit, k0_pay1, REF, normed]
  blk_point [iblk, V, idx t]

/-- The accumulator after the eleven chunk steps holds the gated sum over all hidden units. -/
theorem hidden_eq (h w1 w3 w2) (v0 v1) (hh : h = k0_pay1 (F := Ideal) v0 v1) (y) :
    (k0_pay24 h (View.ld w1 (Rect.unit (s := S1024x2816) ![0, 2560] ![1024, 256] inb_S1024x2816_S1024x256_0_2560)) (View.ld w3 (Rect.unit (s := S1024x2816) ![0, 2560] ![1024, 256] inb_S1024x2816_S1024x256_0_2560)) (View.ld w2 (Rect.unit (s := S2816x1024) ![2560, 0] ![256, 1024] inb_S2816x1024_S256x1024_2560_0))
      (k0_pay23 (k0_pay22 h (View.ld w1 (Rect.unit (s := S1024x2816) ![0, 2304] ![1024, 256] inb_S1024x2816_S1024x256_0_2304)) (View.ld w3 (Rect.unit (s := S1024x2816) ![0, 2304] ![1024, 256] inb_S1024x2816_S1024x256_0_2304)) (View.ld w2 (Rect.unit (s := S2816x1024) ![2304, 0] ![256, 1024] inb_S2816x1024_S256x1024_2304_0)))
      (k0_pay21 (k0_pay19 h (View.ld w1 (Rect.unit (s := S1024x2816) ![0, 2048] ![1024, 256] inb_S1024x2816_S1024x256_0_2048))) (k0_pay20 h (View.ld w3 (Rect.unit (s := S1024x2816) ![0, 2048] ![1024, 256] inb_S1024x2816_S1024x256_0_2048))) (View.ld w2 (Rect.unit (s := S2816x1024) ![2048, 0] ![256, 1024] inb_S2816x1024_S256x1024_2048_0))
      (k0_pay18 h (View.ld w1 (Rect.unit (s := S1024x2816) ![0, 1792] ![1024, 256] inb_S1024x2816_S1024x256_0_1792)) (View.ld w3 (Rect.unit (s := S1024x2816) ![0, 1792] ![1024, 256] inb_S1024x2816_S1024x256_0_1792)) (View.ld w2 (Rect.unit (s := S2816x1024) ![1792, 0] ![256, 1024] inb_S2816x1024_S256x1024_1792_0))
      (k0_pay17 (k0_pay16 h (View.ld w1 (Rect.unit (s := S1024x2816) ![0, 1536] ![1024, 256] inb_S1024x2816_S1024x256_0_1536)) (View.ld w3 (Rect.unit (s := S1024x2816) ![0, 1536] ![1024, 256] inb_S1024x2816_S1024x256_0_1536)) (View.ld w2 (Rect.unit (s := S2816x1024) ![1536, 0] ![256, 1024] inb_S2816x1024_S256x1024_1536_0)))
      (k0_pay15 (k0_pay12 h (View.ld w1 (Rect.unit (s := S1024x2816) ![0, 1280] ![1024, 256] inb_S1024x2816_S1024x256_0_1280))) (k0_pay13 h (View.ld w3 (Rect.unit (s := S1024x2816) ![0, 1280] ![1024, 256] inb_S1024x2816_S1024x256_0_1280))) (k0_pay14 h (View.ld w1 (Rect.unit (s := S1024x2816) ![0, 1280] ![1024, 256] inb_S1024x2816_S1024x256_0_1280))) (View.ld w2 (Rect.unit (s := S2816x1024) ![1280, 0] ![256, 1024] inb_S2816x1024_S256x1024_1280_0))
      (k0_pay11 h (View.ld w1 (Rect.unit (s := S1024x2816) ![0, 1024] ![1024, 256] inb_S1024x2816_S1024x256_0_1024)) (View.ld w3 (Rect.unit (s := S1024x2816) ![0, 1024] ![1024, 256] inb_S1024x2816_S1024x256_0_1024)) (View.ld w2 (Rect.unit (s := S2816x1024) ![1024, 0] ![256, 1024] inb_S2816x1024_S256x1024_1024_0))
      (k0_pay10 (k0_pay9 h (View.ld w1 (Rect.unit (s := S1024x2816) ![0, 768] ![1024, 256] inb_S1024x2816_S1024x256_0_768)) (View.ld w3 (Rect.unit (s := S1024x2816) ![0, 768] ![1024, 256] inb_S1024x2816_S1024x256_0_768)) (View.ld w2 (Rect.unit (s := S2816x1024) ![768, 0] ![256, 1024] inb_S2816x1024_S256x1024_768_0))
      (k0_pay8 (k0_pay4 h (View.ld w1 (Rect.unit (s := S1024x2816) ![0, 512] ![1024, 256] inb_S1024x2816_S1024x256_0_512))) (k0_pay5 h (View.ld w3 (Rect.unit (s := S1024x2816) ![0, 512] ![1024, 256] inb_S1024x2816_S1024x256_0_512))) (k0_pay6 h (View.ld w1 (Rect.unit (s := S1024x2816) ![0, 512] ![1024, 256] inb_S1024x2816_S1024x256_0_512))) k0_pay7 (View.ld w2 (Rect.unit (s := S2816x1024) ![512, 0] ![256, 1024] inb_S2816x1024_S256x1024_512_0))
      (k0_pay3 h (View.ld w1 (Rect.unit (s := S1024x2816) ![0, 256] ![1024, 256] inb_S1024x2816_S1024x256_0_256)) (View.ld w3 (Rect.unit (s := S1024x2816) ![0, 256] ![1024, 256] inb_S1024x2816_S1024x256_0_256)) (View.ld w2 (Rect.unit (s := S2816x1024) ![256, 0] ![256, 1024] inb_S2816x1024_S256x1024_256_0)) (k0_pay2 (F := Ideal) v0 v1 (View.ld w1 (Rect.unit (s := S1024x2816) ![0, 0] ![1024, 256] inb_S1024x2816_S1024x256_0_0)) (View.ld w3 (Rect.unit (s := S1024x2816) ![0, 0] ![1024, 256] inb_S1024x2816_S1024x256_0_0)) (View.ld w2 (Rect.unit (s := S2816x1024) ![0, 0] ![256, 1024] inb_S2816x1024_S256x1024_0_0)))))))))))))) y
    = ∑ f : Fin 2816, unit h w1 w3 w2 y f := by
  rw [step_ten, step_nine, step_eight, step_seven, step_six, step_five, step_four, step_three, step_two, step_one, step_first, ← hh]
  rw [chunk h w1 w3 w2 0 _ _ _ y (by omega), chunk h w1 w3 w2 256 _ _ _ y (by omega), chunk h w1 w3 w2 512 _ _ _ y (by omega), chunk h w1 w3 w2 768 _ _ _ y (by omega), chunk h w1 w3 w2 1024 _ _ _ y (by omega), chunk h w1 w3 w2 1280 _ _ _ y (by omega), chunk h w1 w3 w2 1536 _ _ _ y (by omega), chunk h w1 w3 w2 1792 _ _ _ y (by omega), chunk h w1 w3 w2 2048 _ _ _ y (by omega), chunk h w1 w3 w2 2304 _ _ _ y (by omega), chunk h w1 w3 w2 2560 _ _ _ y (by omega)]
  exact units_sum _

/-- The result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; unfold outsAt0; frame_out
  rw [show _ = hidden m c t from funext fun y => hidden_eq _ (iblk m c 2 t) (iblk m c 3 t) (iblk m c 4 t) (iblk m c 0 t) (iblk m c 1 t) rfl y]
  exact point m c t y

end Cert.FfnIdeal.Result

end
-- ==== Proof.FfnFinalResult.lean ====
module

public import proofs.«01_k».proof.Proof.Gen.FfnFinalIdeal.Value
public import proofs.«01_k».proof.Proof.Gen.FfnFinalRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnFinalIdeal.Result

open Cert.FfnFinalIdeal Cert.FfnFinalIdeal.Gen

variable (m : (ℓ : Loc nD τ sig) → Buf (Elt Ideal) ℓ)

/-- The reference's normalised rows. -/
def normed (a0 : FVec Ideal S32768x1024 .f32) (a1 : FVec Ideal S1024 .f32) : FVec Ideal S32768x1024 .f32 :=
  mulf (mulf a0 (broadcastInDim Cert.FfnFinalRefIdeal.S32768x1024 ![0, 1] Cert.FfnFinalRefIdeal.Gen.bcast_S32768x1_S32768x1024_0_1 (Host.rsqrt (addf (Host.divf (broadcastInDim Cert.FfnFinalRefIdeal.S32768x1 ![0] Cert.FfnFinalRefIdeal.Gen.bcast_S32768_S32768x1_0 (Host.reduceAdd (mulf a0 a0) (constant Cert.FfnFinalRefIdeal.S_ .f32 0x00000000#32) Cert.FfnFinalRefIdeal.Gen.reducesTo_S32768x1024_S32768_d1 Cert.FfnFinalRefIdeal.Gen.h_S_)) (broadcastInDim Cert.FfnFinalRefIdeal.S32768x1 ![] Cert.FfnFinalRefIdeal.Gen.bcast_S_S32768x1 (constant Cert.FfnFinalRefIdeal.S_ .f32 0x44800000#32))) (broadcastInDim Cert.FfnFinalRefIdeal.S32768x1 ![] Cert.FfnFinalRefIdeal.Gen.bcast_S_S32768x1 (constant Cert.FfnFinalRefIdeal.S_ .f32 0x358637BD#32)))))) (broadcastInDim Cert.FfnFinalRefIdeal.S32768x1024 ![0, 1] Cert.FfnFinalRefIdeal.Gen.bcast_S1x1024_S32768x1024_0_1 (broadcastInDim Cert.FfnFinalRefIdeal.S1x1024 ![1] Cert.FfnFinalRefIdeal.Gen.bcast_S1024_S1x1024_1 a1))

/-- The reference's half-step feed-forward block: the rows plus half of the gated projection. -/
def block (a0 : FVec Ideal S32768x1024 .f32) (a1 : FVec Ideal S1024 .f32) (a2 a3 : FVec Ideal S1024x2816 .f32) (a4 : FVec Ideal S2816x1024 .f32) : FVec Ideal S32768x1024 .f32 :=
  addf a0 (mulf (broadcastInDim Cert.FfnFinalRefIdeal.S32768x1024 ![] Cert.FfnFinalRefIdeal.Gen.bcast_S_S32768x1024 (constant Cert.FfnFinalRefIdeal.S_ .f32 0x3F000000#32)) (Host.dotGeneral Cert.FfnFinalRefIdeal.dot_S32768x2816_S2816x1024_S32768x1024_1_0_0_1_n_n none (mulf (mulf (Host.dotGeneral Cert.FfnFinalRefIdeal.dot_S32768x1024_S1024x2816_S32768x2816_1_0_0_1_n_n none (normed a0 a1) a2) (Host.divf (broadcastInDim Cert.FfnFinalRefIdeal.S32768x2816 ![] Cert.FfnFinalRefIdeal.Gen.bcast_S_S32768x2816 (constant Cert.FfnFinalRefIdeal.S_ .f32 0x3F800000#32)) (addf (broadcastInDim Cert.FfnFinalRefIdeal.S32768x2816 ![] Cert.FfnFinalRefIdeal.Gen.bcast_S_S32768x2816 (constant Cert.FfnFinalRefIdeal.S_ .f32 0x3F800000#32)) (Host.exp (Host.negf (Host.dotGeneral Cert.FfnFinalRefIdeal.dot_S32768x1024_S1024x2816_S32768x2816_1_0_0_1_n_n none (normed a0 a1) a2)))))) (Host.dotGeneral Cert.FfnFinalRefIdeal.dot_S32768x1024_S1024x2816_S32768x2816_1_0_0_1_n_n none (normed a0 a1) a3)) a4))

/-- The reference's result: the block's rows, normalised with the last gain. -/
def REF (a0 : FVec Ideal S32768x1024 .f32) (a1 : FVec Ideal S1024 .f32) (a2 a3 : FVec Ideal S1024x2816 .f32) (a4 : FVec Ideal S2816x1024 .f32) (a5 : FVec Ideal S1024 .f32) : FVec Ideal S32768x1024 .f32 :=
  mulf (mulf (block a0 a1 a2 a3 a4) (broadcastInDim Cert.FfnFinalRefIdeal.S32768x1024 ![0, 1] Cert.FfnFinalRefIdeal.Gen.bcast_S32768x1_S32768x1024_0_1 (Host.rsqrt (addf (Host.divf (broadcastInDim Cert.FfnFinalRefIdeal.S32768x1 ![0] Cert.FfnFinalRefIdeal.Gen.bcast_S32768_S32768x1_0 (Host.reduceAdd (mulf (block a0 a1 a2 a3 a4) (block a0 a1 a2 a3 a4)) (constant Cert.FfnFinalRefIdeal.S_ .f32 0x00000000#32) Cert.FfnFinalRefIdeal.Gen.reducesTo_S32768x1024_S32768_d1 Cert.FfnFinalRefIdeal.Gen.h_S_)) (broadcastInDim Cert.FfnFinalRefIdeal.S32768x1 ![] Cert.FfnFinalRefIdeal.Gen.bcast_S_S32768x1 (constant Cert.FfnFinalRefIdeal.S_ .f32 0x44800000#32))) (broadcastInDim Cert.FfnFinalRefIdeal.S32768x1 ![] Cert.FfnFinalRefIdeal.Gen.bcast_S_S32768x1 (constant Cert.FfnFinalRefIdeal.S_ .f32 0x358637BD#32)))))) (broadcastInDim Cert.FfnFinalRefIdeal.S32768x1024 ![0, 1] Cert.FfnFinalRefIdeal.Gen.bcast_S1x1024_S32768x1024_0_1 (broadcastInDim Cert.FfnFinalRefIdeal.S1x1024 ![1] Cert.FfnFinalRefIdeal.Gen.bcast_S1024_S1x1024_1 a5))

/-- One hidden unit's share of one entry of the feed-forward sum: the gated activation of unit `f` at row `y 0`,
    times its weight into column `y 1`. -/
def unit (h : FVec Ideal S512x1024 .bf16) (w1 w3 : FVec Ideal S1024x2816 .bf16) (w2 : FVec Ideal S2816x1024 .bf16)
    (y : S512x1024.Idx) (f : Fin 2816) : EReal :=
  ((∑ x : Fin 1024, h (ix2 (y 0) x) * w1 (ix2 x f)) * Ideal.div 1 (1 + Ideal.exp (-∑ x : Fin 1024, h (ix2 (y 0) x) * w1 (ix2 x f)))
      * ∑ x : Fin 1024, h (ix2 (y 0) x) * w3 (ix2 x f)) * w2 (ix2 f (y 1))

/-- One chunk of 256 hidden units, read at column offset `o` of the weights, sums those units' shares. -/
theorem chunk (h w1 w3 w2) (o : ℕ) (h1 h2 h3) (y) (ho : o + 256 ≤ 2816) :
    k0_pay23 (F := Ideal) h (View.ld w1 (Rect.unit (s := S1024x2816) ![0, o] ![1024, 256] h1))
      (View.ld w3 (Rect.unit (s := S1024x2816) ![0, o] ![1024, 256] h2)) (View.ld w2 (Rect.unit (s := S2816x1024) ![o, 0] ![256, 1024] h3)) y
      = ∑ x : Fin 256, unit h w1 w3 w2 y ⟨o + x.val, by omega⟩ := by
  pointwise [k0_pay23]
  simp only [zero_sub]
  rfl

/-- The first chunk step stores the chunk's product. -/
theorem step_first (v0 v1 a b e y) : k0_pay3 (F := Ideal) v0 v1 a b e y = k0_pay23 (F := Ideal) (k0_pay2 v0 v1) a b e y := by
  pointwise [k0_pay3, k0_pay23]

/-- The chunk step `one` adds the chunk's product to what the accumulator held. -/
theorem step_one (h a b e acc y) : k0_pay4 (F := Ideal) h a b e acc y = acc y + k0_pay23 (F := Ideal) h a b e y := by
  pointwise [k0_pay4, k0_pay23]

/-- The chunk step `two` adds the chunk's product to what the accumulator held. -/
theorem step_two (h a b e acc y) : k0_pay9 (F := Ideal) (k0_pay5 h a) (k0_pay6 h b) (k0_pay7 h a) k0_pay8 e acc y = acc y + k0_pay23 (F := Ideal) h a b e y := by
  pointwise [k0_pay9, k0_pay5, k0_pay6, k0_pay7, k0_pay8, k0_pay23]

/-- The chunk step `three` adds the chunk's product to what the accumulator held. -/
theorem step_three (h a b e acc y) : k0_pay11 (F := Ideal) (k0_pay10 h a b e acc) y = acc y + k0_pay23 (F := Ideal) h a b e y := by
  pointwise [k0_pay10, k0_pay11, k0_pay23]

/-- The chunk step `four` adds the chunk's product to what the accumulator held. -/
theorem step_four (h a b e acc y) : k0_pay12 (F := Ideal) h a b e acc y = acc y + k0_pay23 (F := Ideal) h a b e y := by
  pointwise [k0_pay12, k0_pay23]

/-- The chunk step `five` adds the chunk's product to what the accumulator held. -/
theorem step_five (h a b e acc y) : k0_pay16 (F := Ideal) (k0_pay13 h a) (k0_pay14 h b) (k0_pay15 h a) e acc y = acc y + k0_pay23 (F := Ideal) h a b e y := by
  pointwise [k0_pay16, k0_pay13, k0_pay14, k0_pay15, k0_pay23]

/-- The chunk step `six` adds the chunk's product to what the accumulator held. -/
theorem step_six (h a b e acc y) : k0_pay18 (F := Ideal) (k0_pay17 h a b e) acc y = acc y + k0_pay23 (F := Ideal) h a b e y := by
  pointwise [k0_pay17, k0_pay18, k0_pay23]

/-- The chunk step `seven` adds the chunk's product to what the accumulator held. -/
theorem step_seven (h a b e acc y) : k0_pay19 (F := Ideal) h a b e acc y = acc y + k0_pay23 (F := Ideal) h a b e y := by
  pointwise [k0_pay19, k0_pay23]

/-- The chunk step `eight` adds the chunk's product to what the accumulator held. -/
theorem step_eight (h a b e acc y) : k0_pay22 (F := Ideal) (k0_pay20 h a) (k0_pay21 h b) e acc y = acc y + k0_pay23 (F := Ideal) h a b e y := by
  pointwise [k0_pay22, k0_pay20, k0_pay21, k0_pay23]

/-- The chunk step `nine` adds the chunk's product to what the accumulator held. -/
theorem step_nine (h a b e acc y) : k0_pay24 (F := Ideal) (k0_pay23 h a b e) acc y = acc y + k0_pay23 (F := Ideal) h a b e y := by
  pointwise [k0_pay24, k0_pay23]

/-- The chunk step `ten` adds the chunk's product to what the accumulator held. -/
theorem step_ten (h a b e acc y) : k0_pay25 (F := Ideal) h a b e acc y = acc y + k0_pay23 (F := Ideal) h a b e y := by
  pointwise [k0_pay25, k0_pay23]

/-- Eleven chunks of 256 units are the 2816 units. -/
theorem units_sum (g : Fin 2816 → EReal) :
    (∑ x : Fin 256, g ⟨0 + x.val, by omega⟩) + (∑ x : Fin 256, g ⟨256 + x.val, by omega⟩) + (∑ x : Fin 256, g ⟨512 + x.val, by omega⟩)
      + (∑ x : Fin 256, g ⟨768 + x.val, by omega⟩) + (∑ x : Fin 256, g ⟨1024 + x.val, by omega⟩) + (∑ x : Fin 256, g ⟨1280 + x.val, by omega⟩)
      + (∑ x : Fin 256, g ⟨1536 + x.val, by omega⟩) + (∑ x : Fin 256, g ⟨1792 + x.val, by omega⟩) + (∑ x : Fin 256, g ⟨2048 + x.val, by omega⟩)
      + (∑ x : Fin 256, g ⟨2304 + x.val, by omega⟩) + (∑ x : Fin 256, g ⟨2560 + x.val, by omega⟩) = ∑ f : Fin 2816, g f := by
  rw [Fin.sum_univ_tiles 11 256 rfl g]
  simp only [Fin.sum_univ_castSucc (n := 10), Fin.sum_univ_castSucc (n := 9), Fin.sum_univ_castSucc (n := 8), Fin.sum_univ_castSucc (n := 7),
    Fin.sum_univ_castSucc (n := 6), Fin.sum_univ_castSucc (n := 5), Fin.sum_univ_castSucc (n := 4), Fin.sum_univ_castSucc (n := 3),
    Fin.sum_univ_castSucc (n := 2), Fin.sum_univ_castSucc (n := 1), Fin.sum_univ_castSucc (n := 0), Fin.sum_univ_zero, zero_add]
  rfl

/-- The block indices of the windows, at every grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] :=
  (by decide +kernel : ∀ t : Fin grid0.N, _)

/-- The gated sum over all hidden units of one stored block, at row and column `y`. -/
def hidden (c : Dev nD) (t : Fin cfg0.N) (y : S512x1024.Idx) : EReal :=
  ∑ f : Fin 2816, unit (k0_pay2 (iblk m c 0 t) (iblk m c 1 t)) (iblk m c 2 t) (iblk m c 3 t) (iblk m c 4 t) y f

/-- The rows plus half the gated sum are the reference's block there. -/
theorem point_block (c : Dev nD) (t : Fin cfg0.N) (y : S512x1024.Idx) :
    k0_pay26 (F := Ideal) (iblk m c 0 t) (hidden m c t) y = block (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay26, hidden, unit, k0_pay2, block, normed]
  blk_point [iblk, V, idx t]

/-- The stored block is the reference's result there. -/
theorem point (c : Dev nD) (t : Fin cfg0.N) (y : S512x1024.Idx) :
    k0_pay1 (F := Ideal) (k0_pay26 (F := Ideal) (iblk m c 0 t) (hidden m c t)) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  have he : ∀ x : Fin 1024, ((cfg0.win 6).blk t).view.emb (ix2 (y 0) x) = ix2 (((cfg0.win 6).blk t).view.emb y 0) x := fun x => by
    blk_point [idx t]
  have key : ∀ x : Fin 1024, k0_pay26 (F := Ideal) (iblk m c 0 t) (hidden m c t) (ix2 (y 0) x)
      = block (m ((c : Thread nD τ).loc main_arg0)) (m ((c : Thread nD τ).loc main_arg1)) (m ((c : Thread nD τ).loc main_arg2)) (m ((c : Thread nD τ).loc main_arg3)) (m ((c : Thread nD τ).loc main_arg4)) (ix2 (((cfg0.win 6).blk t).view.emb y 0) x) := fun x =>
    (point_block m c t (ix2 (y 0) x)).trans (congrArg _ (he x))
  have hy : k0_pay26 (F := Ideal) (iblk m c 0 t) (hidden m c t) y = block (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := point_block m c t y
  pointwise [k0_pay1, REF]
  simp only [key, hy]
  blk_point [iblk, V, idx t]

/-- The accumulator after the eleven chunk steps holds the gated sum over all hidden units. -/
theorem hidden_eq (h w1 w3 w2) (v0 v1) (hh : h = k0_pay2 (F := Ideal) v0 v1) (y) :
    (k0_pay25 h (View.ld w1 (Rect.unit (s := S1024x2816) ![0, 2560] ![1024, 256] inb_S1024x2816_S1024x256_0_2560)) (View.ld w3 (Rect.unit (s := S1024x2816) ![0, 2560] ![1024, 256] inb_S1024x2816_S1024x256_0_2560)) (View.ld w2 (Rect.unit (s := S2816x1024) ![2560, 0] ![256, 1024] inb_S2816x1024_S256x1024_2560_0))
      (k0_pay24 (k0_pay23 h (View.ld w1 (Rect.unit (s := S1024x2816) ![0, 2304] ![1024, 256] inb_S1024x2816_S1024x256_0_2304)) (View.ld w3 (Rect.unit (s := S1024x2816) ![0, 2304] ![1024, 256] inb_S1024x2816_S1024x256_0_2304)) (View.ld w2 (Rect.unit (s := S2816x1024) ![2304, 0] ![256, 1024] inb_S2816x1024_S256x1024_2304_0)))
      (k0_pay22 (k0_pay20 h (View.ld w1 (Rect.unit (s := S1024x2816) ![0, 2048] ![1024, 256] inb_S1024x2816_S1024x256_0_2048))) (k0_pay21 h (View.ld w3 (Rect.unit (s := S1024x2816) ![0, 2048] ![1024, 256] inb_S1024x2816_S1024x256_0_2048))) (View.ld w2 (Rect.unit (s := S2816x1024) ![2048, 0] ![256, 1024] inb_S2816x1024_S256x1024_2048_0))
      (k0_pay19 h (View.ld w1 (Rect.unit (s := S1024x2816) ![0, 1792] ![1024, 256] inb_S1024x2816_S1024x256_0_1792)) (View.ld w3 (Rect.unit (s := S1024x2816) ![0, 1792] ![1024, 256] inb_S1024x2816_S1024x256_0_1792)) (View.ld w2 (Rect.unit (s := S2816x1024) ![1792, 0] ![256, 1024] inb_S2816x1024_S256x1024_1792_0))
      (k0_pay18 (k0_pay17 h (View.ld w1 (Rect.unit (s := S1024x2816) ![0, 1536] ![1024, 256] inb_S1024x2816_S1024x256_0_1536)) (View.ld w3 (Rect.unit (s := S1024x2816) ![0, 1536] ![1024, 256] inb_S1024x2816_S1024x256_0_1536)) (View.ld w2 (Rect.unit (s := S2816x1024) ![1536, 0] ![256, 1024] inb_S2816x1024_S256x1024_1536_0)))
      (k0_pay16 (k0_pay13 h (View.ld w1 (Rect.unit (s := S1024x2816) ![0, 1280] ![1024, 256] inb_S1024x2816_S1024x256_0_1280))) (k0_pay14 h (View.ld w3 (Rect.unit (s := S1024x2816) ![0, 1280] ![1024, 256] inb_S1024x2816_S1024x256_0_1280))) (k0_pay15 h (View.ld w1 (Rect.unit (s := S1024x2816) ![0, 1280] ![1024, 256] inb_S1024x2816_S1024x256_0_1280))) (View.ld w2 (Rect.unit (s := S2816x1024) ![1280, 0] ![256, 1024] inb_S2816x1024_S256x1024_1280_0))
      (k0_pay12 h (View.ld w1 (Rect.unit (s := S1024x2816) ![0, 1024] ![1024, 256] inb_S1024x2816_S1024x256_0_1024)) (View.ld w3 (Rect.unit (s := S1024x2816) ![0, 1024] ![1024, 256] inb_S1024x2816_S1024x256_0_1024)) (View.ld w2 (Rect.unit (s := S2816x1024) ![1024, 0] ![256, 1024] inb_S2816x1024_S256x1024_1024_0))
      (k0_pay11 (k0_pay10 h (View.ld w1 (Rect.unit (s := S1024x2816) ![0, 768] ![1024, 256] inb_S1024x2816_S1024x256_0_768)) (View.ld w3 (Rect.unit (s := S1024x2816) ![0, 768] ![1024, 256] inb_S1024x2816_S1024x256_0_768)) (View.ld w2 (Rect.unit (s := S2816x1024) ![768, 0] ![256, 1024] inb_S2816x1024_S256x1024_768_0))
      (k0_pay9 (k0_pay5 h (View.ld w1 (Rect.unit (s := S1024x2816) ![0, 512] ![1024, 256] inb_S1024x2816_S1024x256_0_512))) (k0_pay6 h (View.ld w3 (Rect.unit (s := S1024x2816) ![0, 512] ![1024, 256] inb_S1024x2816_S1024x256_0_512))) (k0_pay7 h (View.ld w1 (Rect.unit (s := S1024x2816) ![0, 512] ![1024, 256] inb_S1024x2816_S1024x256_0_512))) k0_pay8 (View.ld w2 (Rect.unit (s := S2816x1024) ![512, 0] ![256, 1024] inb_S2816x1024_S256x1024_512_0))
      (k0_pay4 h (View.ld w1 (Rect.unit (s := S1024x2816) ![0, 256] ![1024, 256] inb_S1024x2816_S1024x256_0_256)) (View.ld w3 (Rect.unit (s := S1024x2816) ![0, 256] ![1024, 256] inb_S1024x2816_S1024x256_0_256)) (View.ld w2 (Rect.unit (s := S2816x1024) ![256, 0] ![256, 1024] inb_S2816x1024_S256x1024_256_0)) (k0_pay3 (F := Ideal) v0 v1 (View.ld w1 (Rect.unit (s := S1024x2816) ![0, 0] ![1024, 256] inb_S1024x2816_S1024x256_0_0)) (View.ld w3 (Rect.unit (s := S1024x2816) ![0, 0] ![1024, 256] inb_S1024x2816_S1024x256_0_0)) (View.ld w2 (Rect.unit (s := S2816x1024) ![0, 0] ![256, 1024] inb_S2816x1024_S256x1024_0_0)))))))))))))) y
    = ∑ f : Fin 2816, unit h w1 w3 w2 y f := by
  rw [step_ten, step_nine, step_eight, step_seven, step_six, step_five, step_four, step_three, step_two, step_one, step_first, ← hh]
  rw [chunk h w1 w3 w2 0 _ _ _ y (by omega), chunk h w1 w3 w2 256 _ _ _ y (by omega), chunk h w1 w3 w2 512 _ _ _ y (by omega), chunk h w1 w3 w2 768 _ _ _ y (by omega), chunk h w1 w3 w2 1024 _ _ _ y (by omega), chunk h w1 w3 w2 1280 _ _ _ y (by omega), chunk h w1 w3 w2 1536 _ _ _ y (by omega), chunk h w1 w3 w2 1792 _ _ _ y (by omega), chunk h w1 w3 w2 2048 _ _ _ y (by omega), chunk h w1 w3 w2 2304 _ _ _ y (by omega), chunk h w1 w3 w2 2560 _ _ _ y (by omega)]
  exact units_sum _

/-- The result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; unfold outsAt0; frame_out
  rw [show _ = hidden m c t from funext fun y => hidden_eq _ (iblk m c 2 t) (iblk m c 3 t) (iblk m c 4 t) (iblk m c 0 t) (iblk m c 1 t) rfl y]
  exact point m c t y

end Cert.FfnFinalIdeal.Result

end
-- ==== Proof.InprojResult.lean ====
module

public import proofs.«01_k».proof.Proof.Gen.InprojIdeal.Value
public import proofs.«01_k».proof.Proof.Gen.InprojRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Result

open Cert.InprojIdeal Cert.InprojIdeal.Gen

variable (m : (ℓ : Loc nD τ sig) → Buf (Elt Ideal) ℓ)

/-- The reference's normalised rows. -/
def normed (a0 : FVec Ideal S32768x1024 .f32) (a1 : FVec Ideal S1024 .f32) : FVec Ideal S32768x1024 .f32 :=
  mulf (mulf a0 (broadcastInDim Cert.InprojRefIdeal.S32768x1024 ![0, 1] Cert.InprojRefIdeal.Gen.bcast_S32768x1_S32768x1024_0_1 (Host.rsqrt (addf (Host.divf (broadcastInDim Cert.InprojRefIdeal.S32768x1 ![0] Cert.InprojRefIdeal.Gen.bcast_S32768_S32768x1_0 (Host.reduceAdd (mulf a0 a0) (constant Cert.InprojRefIdeal.S_ .f32 0x00000000#32) Cert.InprojRefIdeal.Gen.reducesTo_S32768x1024_S32768_d1 Cert.InprojRefIdeal.Gen.h_S_)) (broadcastInDim Cert.InprojRefIdeal.S32768x1 ![] Cert.InprojRefIdeal.Gen.bcast_S_S32768x1 (constant Cert.InprojRefIdeal.S_ .f32 0x44800000#32))) (broadcastInDim Cert.InprojRefIdeal.S32768x1 ![] Cert.InprojRefIdeal.Gen.bcast_S_S32768x1 (constant Cert.InprojRefIdeal.S_ .f32 0x358637BD#32)))))) (broadcastInDim Cert.InprojRefIdeal.S32768x1024 ![0, 1] Cert.InprojRefIdeal.Gen.bcast_S1x1024_S32768x1024_0_1 (broadcastInDim Cert.InprojRefIdeal.S1x1024 ![1] Cert.InprojRefIdeal.Gen.bcast_S1024_S1x1024_1 a1))

/-- The reference's projection of the normalised rows, all 3864 columns. -/
def projected (a0 : FVec Ideal S32768x1024 .f32) (a1 : FVec Ideal S1024 .f32) (a2 : FVec Ideal S1024x3864 .f32) : FVec Ideal Cert.InprojRefIdeal.S32768x3864 .f32 :=
  Host.dotGeneral Cert.InprojRefIdeal.dot_S32768x1024_S1024x3864_S32768x3864_1_0_0_1_n_n none (normed a0 a1) a2

/-- The reference's result 1: the first 768 columns of the projection. -/
def REF0 (a0 : FVec Ideal S32768x1024 .f32) (a1 : FVec Ideal S1024 .f32) (a2 : FVec Ideal S1024x3864 .f32) : FVec Ideal S32768x768 .f32 :=
  extractStridedSlice Cert.InprojRefIdeal.S32768x768 ![0, 0] (projected a0 a1 a2) Cert.InprojRefIdeal.Gen.slices_S32768x3864_S32768x768_0_0

/-- The reference's result 2: the next 1536 columns of the projection. -/
def REF1 (a0 : FVec Ideal S32768x1024 .f32) (a1 : FVec Ideal S1024 .f32) (a2 : FVec Ideal S1024x3864 .f32) : FVec Ideal S32768x1536 .f32 :=
  extractStridedSlice Cert.InprojRefIdeal.S32768x1536 ![0, 768] (projected a0 a1 a2) Cert.InprojRefIdeal.Gen.slices_S32768x3864_S32768x1536_0_768

/-- The reference's result 3: the last 1560 columns, followed by 104 columns of zeros of the projection. -/
def REF2 (a0 : FVec Ideal S32768x1024 .f32) (a1 : FVec Ideal S1024 .f32) (a2 : FVec Ideal S1024x3864 .f32) : FVec Ideal S32768x1664 .f32 :=
  pad Cert.InprojRefIdeal.S32768x1664 ![0, 0] ![0, 104] ![0, 0] (extractStridedSlice Cert.InprojRefIdeal.S32768x1560 ![0, 2304] (projected a0 a1 a2) Cert.InprojRefIdeal.Gen.slices_S32768x3864_S32768x1560_0_2304) (sitofp .f32 (constantI Cert.InprojRefIdeal.S_ 32 0#32)) Cert.InprojRefIdeal.Gen.pads_S32768x1560_S32768x1664_000_01040 Cert.InprojRefIdeal.Gen.h_S_

/-- The block indices of the windows, at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The gain, as the region finds it: the argument reshaped to one row. -/
theorem V_gain (c : Dev nD) : V m c main_v2 = shapeCast S1x1024 (m ((c : Thread nD τ).loc main_arg1)) shapeCasts_S1024_S1x1024 := by
  simp only [V, hostOps0, hostOps0_1, hostOps0_2, List.flatten_cons, List.flatten_nil, List.append_nil, List.cons_append, List.nil_append]
  entry_read
  rfl

/-- The weights, as the region finds them: the argument followed by 104 columns of zeros. -/
theorem V_weight (c : Dev nD) : (V m c main_v1 : FVec Ideal S1024x3968 .bf16) = (truncf .bf16 (pad S1024x3968 ![0, 0] ![0, 104] ![0, 0]
    (m ((c : Thread nD τ).loc main_arg2) : FVec Ideal S1024x3864 .f32) ((sitofp .f32 (constantI S_ 32 0#32) : FVec Ideal S_ .f32))
    pads_S1024x3864_S1024x3968_000_01040 h_S_ : FVec Ideal S1024x3968 .f32) bitsLt_bf16_f32 : FVec Ideal S1024x3968 .bf16) := by
  simp only [V, hostOps0, hostOps0_1, hostOps0_2, List.flatten_cons, List.flatten_nil, List.append_nil, List.cons_append, List.nil_append]
  entry_read
  rfl

/-- A read of the gain's block is a read of the gain. -/
theorem read_gain (c : Dev nD) (t : Fin cfg0.N) (x : Fin 1024) : iblk m c 1 t (ix2 0 x) = m ((c : Thread nD τ).loc main_arg1) (ix1 x) := by
  have h := congrFun (V_gain m c) (((cfg0.win 1).blk t).view.emb (ix2 0 x))
  refine Eq.trans ?_ (h.trans ?_)
  · blk_simp [iblk]
  · pointwise
    blk_point [idx t]

/-- The weights followed by 104 columns of zeros, entry by entry. -/
theorem padded (X : FVec Ideal S1024x3864 .f32) (x : Fin 1024) (f : Fin 3968) :
    (truncf .bf16 (pad S1024x3968 ![0, 0] ![0, 104] ![0, 0] X ((sitofp .f32 (constantI S_ 32 0#32) : FVec Ideal S_ .f32))
      pads_S1024x3864_S1024x3968_000_01040 h_S_ : FVec Ideal S1024x3968 .f32) bitsLt_bf16_f32 : FVec Ideal S1024x3968 .bf16) (ix2 x f)
      = if h : f.val < 3864 then X (ix2 x ⟨f.val, h⟩) else (0 : EReal) := by
  pointwise
  congr 1
  simp [FloatOps.sitofp]

/-- The weights' one block is the whole array: the block's entry is the array's. -/
theorem emb_weight (t : Fin cfg0.N) (x : Fin 1024) (f : Fin 3968) : ((cfg0.win 2).blk t).view.emb (ix2 x f) = ix2 x f := by
  blk_point [idx t]

/-- A read of the weights' block left of column 3864 is a read of the weights. -/
theorem read_weight (c : Dev nD) (t : Fin cfg0.N) (x : Fin 1024) (f : Fin 3968) (hf : f.val < 3864) :
    iblk m c 2 t (ix2 x f) = m ((c : Thread nD τ).loc main_arg2) (ix2 x ⟨f.val, hf⟩) := by
  have h := congrFun (V_weight m c) (((cfg0.win 2).blk t).view.emb (ix2 x f))
  have h' := h.trans ((congrArg _ (emb_weight t x f)).trans (padded _ x f))
  rw [dif_pos hf] at h'
  exact h'

/-- A read of the weights' block from column 3864 on is zero. -/
theorem read_weight_zero (c : Dev nD) (t : Fin cfg0.N) (x : Fin 1024) (f : Fin 3968) (hf : ¬ f.val < 3864) :
    iblk m c 2 t (ix2 x f) = (0 : EReal) := by
  have h := congrFun (V_weight m c) (((cfg0.win 2).blk t).view.emb (ix2 x f))
  have h' := h.trans ((congrArg _ (emb_weight t x f)).trans (padded _ x f))
  rw [dif_neg hf] at h'
  exact h'

/-- What a grid point stores in the block of result 1 is the reference's result there. -/
theorem point0 (c : Dev nD) (t : Fin cfg0.N) (y) :
    k0_pay2 (F := Ideal) (iblk m c 0 t) (iblk m c 1 t)
      (View.ld (iblk m c 2 t) (Rect.unit (s := S1024x3968) ![0, 0] ![1024, 768] inb_S1024x3968_S1024x768_0_0)) y
      = REF0 (m ((c : Thread nD τ).loc main_arg0)) (m ((c : Thread nD τ).loc main_arg1)) (m ((c : Thread nD τ).loc main_arg2)) (((cfg0.win 3).blk t).view.emb y) := by
  pointwise [k0_pay2, k0_pay1, REF0, projected, normed]
  simp only [read_gain]
  blk_point [iblk, V_main_arg0, idx t]
  exact read_weight m c t x ⟨(y 1).val, by omega⟩ (by show (y 1).val < 3864; omega)

/-- Result 1 after the run is the reference's. -/
theorem final0 (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point0 m c t y

/-- What a grid point stores in the block of result 2 is the reference's result there. -/
theorem point1 (c : Dev nD) (t : Fin cfg0.N) (y) :
    k0_pay3 (F := Ideal) (iblk m c 0 t) (iblk m c 1 t)
      (View.ld (iblk m c 2 t) (Rect.unit (s := S1024x3968) ![0, 768] ![1024, 1536] inb_S1024x3968_S1024x1536_0_768)) y
      = REF1 (m ((c : Thread nD τ).loc main_arg0)) (m ((c : Thread nD τ).loc main_arg1)) (m ((c : Thread nD τ).loc main_arg2)) (((cfg0.win 4).blk t).view.emb y) := by
  pointwise [k0_pay3, k0_pay1, REF1, projected, normed]
  simp only [read_gain]
  blk_point [iblk, V_main_arg0, idx t]
  exact read_weight m c t x ⟨768 + (y 1).val, by omega⟩ (by show 768 + (y 1).val < 3864; omega)

/-- Result 2 after the run is the reference's. -/
theorem final1 (c : Dev nD) : (dats m 0 c).arrAt 4 (cfgs 0).N = REF1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point1 m c t y

/-- What a grid point stores in the block of result 3 is the reference's result there. -/
theorem point2 (c : Dev nD) (t : Fin cfg0.N) (y) :
    k0_pay4 (F := Ideal) (iblk m c 0 t) (iblk m c 1 t)
      (View.ld (iblk m c 2 t) (Rect.unit (s := S1024x3968) ![0, 2304] ![1024, 1664] inb_S1024x3968_S1024x1664_0_2304)) y
      = REF2 (m ((c : Thread nD τ).loc main_arg0)) (m ((c : Thread nD τ).loc main_arg1)) (m ((c : Thread nD τ).loc main_arg2)) (((cfg0.win 5).blk t).view.emb y) := by
  pointwise [k0_pay4, k0_pay1, REF2, projected, normed]
  simp only [read_gain]
  have hb : (y 1).val < 1664 := (y 1).isLt
  have e1 : (((View.whole main_v3_2).slice ((win0 5).rect t)).emb y 1).val = (y 1).val := by
    show (win0_5.index t 1 * 1664 + 1 * (y 1).val : ℕ) = _
    rw [(idx t).2.2.2.2.2]
    show 0 * 1664 + 1 * (y 1).val = _
    omega
  by_cases hy : (y 1).val < 1560
  · rw [dif_pos (e1.symm ▸ hy)]
    blk_point [iblk, V_main_arg0, idx t]
    exact read_weight m c t x ⟨2304 + (y 1).val, by omega⟩ (by show 2304 + (y 1).val < 3864; omega)
  · rw [dif_neg (e1.symm ▸ hy)]
    refine (Finset.sum_eq_zero fun x _ => ?_).trans (by simp [FloatOps.sitofp])
    rw [read_weight_zero m c t x ⟨2304 + (y 1).val, by omega⟩ (by show ¬ 2304 + (y 1).val < 3864; omega)]
    exact mul_zero _

/-- Result 3 after the run is the reference's. -/
theorem final2 (c : Dev nD) : (dats m 0 c).arrAt 5 (cfgs 0).N = REF2 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point2 m c t y

end Cert.InprojIdeal.Result

end
-- ==== Proof.MemKvResult.lean ====
module

public import proofs.«01_k».proof.Proof.Gen.MemKvIdeal.Value
public import proofs.«01_k».proof.Proof.Gen.MemKvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Result

open Cert.MemKvIdeal Cert.MemKvIdeal.Gen

variable (m : (ℓ : Loc nD τ sig) → Buf (Elt Ideal) ℓ)

/-- The reference's normalised memory tokens. -/
def normed (a0 : FVec Ideal S4x256x1024 .f32) (a1 : FVec Ideal S1024 .f32) : FVec Ideal S4x256x1024 .f32 :=
  mulf (mulf a0 (broadcastInDim Cert.MemKvRefIdeal.S4x256x1024 ![0, 1, 2] Cert.MemKvRefIdeal.Gen.bcast_S4x256x1_S4x256x1024_0_1_2 (Host.rsqrt (addf (Host.divf (broadcastInDim Cert.MemKvRefIdeal.S4x256x1 ![0, 1] Cert.MemKvRefIdeal.Gen.bcast_S4x256_S4x256x1_0_1 (Host.reduceAdd (mulf a0 a0) (constant Cert.MemKvRefIdeal.S_ .f32 0x00000000#32) Cert.MemKvRefIdeal.Gen.reducesTo_S4x256x1024_S4x256_d2 Cert.MemKvRefIdeal.Gen.h_S_)) (broadcastInDim Cert.MemKvRefIdeal.S4x256x1 ![] Cert.MemKvRefIdeal.Gen.bcast_S_S4x256x1 (constant Cert.MemKvRefIdeal.S_ .f32 0x44800000#32))) (broadcastInDim Cert.MemKvRefIdeal.S4x256x1 ![] Cert.MemKvRefIdeal.Gen.bcast_S_S4x256x1 (constant Cert.MemKvRefIdeal.S_ .f32 0x358637BD#32)))))) (broadcastInDim Cert.MemKvRefIdeal.S4x256x1024 ![0, 1, 2] Cert.MemKvRefIdeal.Gen.bcast_S1x1x1024_S4x256x1024_0_1_2 (broadcastInDim Cert.MemKvRefIdeal.S1x1x1024 ![2] Cert.MemKvRefIdeal.Gen.bcast_S1024_S1x1x1024_2 a1))

/-- The reference's projection of the normalised memory tokens by one weight matrix. -/
def REF (a0 : FVec Ideal S4x256x1024 .f32) (a1 : FVec Ideal S1024 .f32) (a2 : FVec Ideal S1024x1024 .f32) : FVec Ideal S4x256x1024 .bf16 :=
  truncf .bf16 (Host.dotGeneral Cert.MemKvRefIdeal.dot_S4x256x1024_S1024x1024_S4x256x1024_2_0_01_1_n_n none (normed a0 a1) a2) Cert.MemKvRefIdeal.Gen.bitsLt_bf16_f32

/-- The block indices of the six windows, at every grid point. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- What a grid point stores in the key block is the reference's key there. -/
theorem point_k (c : Dev nD) (t : Fin cfg0.N) (y) : k0_pay2 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 4).blk t).view.emb y) := by
  pointwise [k0_pay2, k0_pay1, REF, normed]
  blk_point [iblk, V, idx t]

/-- What a grid point stores in the value block is the reference's value there. -/
theorem point_v (c : Dev nD) (t : Fin cfg0.N) (y) : k0_pay3 (F := Ideal) (iblk m c 0 t) (iblk m c 1 t) (iblk m c 3 t) y
    = REF (m ((c : Thread nD τ).loc main_arg0)) (m ((c : Thread nD τ).loc main_arg1)) (m ((c : Thread nD τ).loc main_arg3)) (((cfg0.win 5).blk t).view.emb y) := by
  pointwise [k0_pay3, k0_pay1, REF, normed]
  blk_point [iblk, V, idx t]

/-- The key array after the run is the reference's. -/
theorem final_k (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_k m c t y

/-- The value array after the run is the reference's. -/
theorem final_v (c : Dev nD) : (dats m 0 c).arrAt 5 (cfgs 0).N
    = REF (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]; frame_out
  exact point_v m c t y

end Cert.MemKvIdeal.Result

end
-- ==== Proof.XattnResult.lean ====
module

public import proofs.«01_k».proof.Proof.Gen.XattnIdeal.Value
public import proofs.«01_k».proof.Proof.Gen.XattnRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.Result

open Cert.XattnIdeal Cert.XattnIdeal.Gen

variable (m : (ℓ : Loc nD τ sig) → Buf (Elt Ideal) ℓ)

/-- The reference's normalised rows. -/
def normed (a0 : FVec Ideal S4x8192x1024 .f32) (a1 : FVec Ideal S1024 .f32) : FVec Ideal S4x8192x1024 .f32 :=
  mulf (mulf a0 (broadcastInDim Cert.XattnRefIdeal.S4x8192x1024 ![0, 1, 2] Cert.XattnRefIdeal.Gen.bcast_S4x8192x1_S4x8192x1024_0_1_2 (Host.rsqrt (addf (Host.divf (broadcastInDim Cert.XattnRefIdeal.S4x8192x1 ![0, 1] Cert.XattnRefIdeal.Gen.bcast_S4x8192_S4x8192x1_0_1 (Host.reduceAdd (mulf a0 a0) (constant Cert.XattnRefIdeal.S_ .f32 0x00000000#32) Cert.XattnRefIdeal.Gen.reducesTo_S4x8192x1024_S4x8192_d2 Cert.XattnRefIdeal.Gen.h_S_)) (broadcastInDim Cert.XattnRefIdeal.S4x8192x1 ![] Cert.XattnRefIdeal.Gen.bcast_S_S4x8192x1 (constant Cert.XattnRefIdeal.S_ .f32 0x44800000#32))) (broadcastInDim Cert.XattnRefIdeal.S4x8192x1 ![] Cert.XattnRefIdeal.Gen.bcast_S_S4x8192x1 (constant Cert.XattnRefIdeal.S_ .f32 0x358637BD#32)))))) (broadcastInDim Cert.XattnRefIdeal.S4x8192x1024 ![0, 1, 2] Cert.XattnRefIdeal.Gen.bcast_S1x1x1024_S4x8192x1024_0_1_2 (broadcastInDim Cert.XattnRefIdeal.S1x1x1024 ![2] Cert.XattnRefIdeal.Gen.bcast_S1024_S1x1x1024_2 a1))

/-- The reference's scaled scores. -/
def scores (a0 : FVec Ideal S4x8192x1024 .f32) (a1 : FVec Ideal S1024 .f32) (a2 : FVec Ideal S1024x1024 .f32) (a3 : FVec Ideal S4x256x1024 .bf16) : FVec Ideal Cert.XattnRefIdeal.S4x4x8192x256 .f32 :=
  mulf (Host.dotGeneral Cert.XattnRefIdeal.dot_S4x8192x4x256_S4x256x4x256_S4x4x8192x256_3_3_1_1_02_02 none (shapeCast _ (Host.dotGeneral Cert.XattnRefIdeal.dot_S4x8192x1024_S1024x1024_S4x8192x1024_2_0_01_1_n_n none (normed a0 a1) a2) Cert.XattnRefIdeal.Gen.shapeCasts_S4x8192x1024_S4x8192x4x256) (shapeCast _ (extf .f32 a3 Cert.XattnRefIdeal.Gen.bitsLt_bf16_f32) Cert.XattnRefIdeal.Gen.shapeCasts_S4x256x1024_S4x256x4x256)) (broadcastInDim Cert.XattnRefIdeal.S4x4x8192x256 ![] Cert.XattnRefIdeal.Gen.bcast_S_S4x4x8192x256 (constant Cert.XattnRefIdeal.S_ .f32 0x3D800000#32))

/-- The largest entry of each row of scores. -/
def rowlargest (s : FVec Ideal Cert.XattnRefIdeal.S4x4x8192x256 .f32) : FVec Ideal Cert.XattnRefIdeal.S4x4x8192 .f32 :=
  Host.reduce FloatOps.maximumf s (constant Cert.XattnRefIdeal.S_ .f32 0xFF800000#32) Cert.XattnRefIdeal.Gen.reducesTo_S4x4x8192x256_S4x4x8192_d3 Cert.XattnRefIdeal.Gen.h_S_

/-- The row values, none below the least float. -/
def atleast (r : FVec Ideal Cert.XattnRefIdeal.S4x4x8192 .f32) : FVec Ideal Cert.XattnRefIdeal.S4x4x8192 .f32 :=
  maximumf (broadcastInDim Cert.XattnRefIdeal.S4x4x8192 ![] Cert.XattnRefIdeal.Gen.bcast_S_S4x4x8192 (constant Cert.XattnRefIdeal.S_ .f32 0xFF800000#32)) r

/-- The reference's row values: the rows' largest entries. -/
def rowmax (s : FVec Ideal Cert.XattnRefIdeal.S4x4x8192x256 .f32) : FVec Ideal Cert.XattnRefIdeal.S4x4x8192 .f32 := atleast (rowlargest s)

/-- The exponentials of the scores less the row's value `r`. -/
def shifted (s : FVec Ideal Cert.XattnRefIdeal.S4x4x8192x256 .f32) (r : FVec Ideal Cert.XattnRefIdeal.S4x4x8192 .f32) : FVec Ideal Cert.XattnRefIdeal.S4x4x8192x256 .f32 :=
  Host.exp (subf s (broadcastInDim Cert.XattnRefIdeal.S4x4x8192x256 ![0, 1, 2, 3] Cert.XattnRefIdeal.Gen.bcast_S4x4x8192x1_S4x4x8192x256_0_1_2_3 (broadcastInDim Cert.XattnRefIdeal.S4x4x8192x1 ![0, 1, 2] Cert.XattnRefIdeal.Gen.bcast_S4x4x8192_S4x4x8192x1_0_1_2 r)))

/-- The row sums. -/
def rowsum (e : FVec Ideal Cert.XattnRefIdeal.S4x4x8192x256 .f32) : FVec Ideal Cert.XattnRefIdeal.S4x4x8192 .f32 :=
  Host.reduceAdd e (constant Cert.XattnRefIdeal.S_ .f32 0x00000000#32) Cert.XattnRefIdeal.Gen.reducesTo_S4x4x8192x256_S4x4x8192_d3 Cert.XattnRefIdeal.Gen.h_S_

/-- The exponentials over the row's value `r`. -/
def scaled (e : FVec Ideal Cert.XattnRefIdeal.S4x4x8192x256 .f32) (r : FVec Ideal Cert.XattnRefIdeal.S4x4x8192 .f32) : FVec Ideal Cert.XattnRefIdeal.S4x4x8192x256 .f32 :=
  Host.divf e (broadcastInDim Cert.XattnRefIdeal.S4x4x8192x256 ![0, 1, 2, 3] Cert.XattnRefIdeal.Gen.bcast_S4x4x8192x1_S4x4x8192x256_0_1_2_3 (broadcastInDim Cert.XattnRefIdeal.S4x4x8192x1 ![0, 1, 2] Cert.XattnRefIdeal.Gen.bcast_S4x4x8192_S4x4x8192x1_0_1_2 r))

/-- The reference's attention weights: the shifted exponentials over their row sums. -/
def weights (s : FVec Ideal Cert.XattnRefIdeal.S4x4x8192x256 .f32) : FVec Ideal Cert.XattnRefIdeal.S4x4x8192x256 .f32 := scaled (shifted s (rowmax s)) (rowsum (shifted s (rowmax s)))

/-- The reference's mixed values, head by head. -/
def heads (w : FVec Ideal Cert.XattnRefIdeal.S4x4x8192x256 .f32) (a4 : FVec Ideal S4x256x1024 .bf16) : FVec Ideal Cert.XattnRefIdeal.S4x4x256x8192 .f32 :=
  Host.dotGeneral Cert.XattnRefIdeal.dot_S4x256x4x256_S4x4x8192x256_S4x4x256x8192_1_3_3_2_02_01 none (shapeCast _ (extf .f32 a4 Cert.XattnRefIdeal.Gen.bitsLt_bf16_f32) Cert.XattnRefIdeal.Gen.shapeCasts_S4x256x1024_S4x256x4x256) w

/-- The reference's heads side by side. -/
def joined (o : FVec Ideal Cert.XattnRefIdeal.S4x4x256x8192 .f32) : FVec Ideal S4x8192x1024 .f32 :=
  shapeCast Cert.XattnRefIdeal.S4x8192x1024 (transpose Cert.XattnRefIdeal.S4x8192x4x256 [0, 3, 1, 2] o Cert.XattnRefIdeal.Gen.transposes_S4x4x256x8192_S4x8192x4x256_0_3_1_2) Cert.XattnRefIdeal.Gen.shapeCasts_S4x8192x4x256_S4x8192x1024

/-- The reference's output projection, added to the input. -/
def added (a0 : FVec Ideal S4x8192x1024 .f32) (o : FVec Ideal S4x8192x1024 .f32) (a5 : FVec Ideal S1024x1024 .f32) : FVec Ideal S4x8192x1024 .f32 :=
  addf a0 (Host.dotGeneral Cert.XattnRefIdeal.dot_S4x8192x1024_S1024x1024_S4x8192x1024_2_0_01_1_n_n none o a5)

/-- The reference's result. -/
def REF (a0 : FVec Ideal S4x8192x1024 .f32) (a1 : FVec Ideal S1024 .f32) (a2 : FVec Ideal S1024x1024 .f32) (a3 : FVec Ideal S4x256x1024 .bf16) (a4 : FVec Ideal S4x256x1024 .bf16) (a5 : FVec Ideal S1024x1024 .f32) : FVec Ideal S4x8192x1024 .f32 :=
  added a0 (joined (heads (weights (scores a0 a1 a2 a3)) a4)) a5

/-- The softmax of one row of 256 scores, at position `x`. -/
def soft (S : Fin 256 → EReal) (x : Fin 256) : EReal :=
  Ideal.div (Ideal.exp (S x - Finset.fold max (Ideal.ofBits .f32 4286578688#32) S Finset.univ))
    (∑ z : Fin 256, Ideal.exp (S z - Finset.fold max (Ideal.ofBits .f32 4286578688#32) S Finset.univ))

/-- The rows' largest entries, entry by entry. -/
theorem rowlargest_at (s) (b h : Fin 4) (l : Fin 8192) :
    rowlargest s (ix3 b h l) = Finset.fold max (Ideal.ofBits .f32 4286578688#32) (fun x : Fin 256 => s (ix4 b h l x)) Finset.univ := by
  pointwise [rowlargest]

/-- The row values, entry by entry. -/
theorem atleast_at (r) (b h : Fin 4) (l : Fin 8192) : atleast r (ix3 b h l) = max (Ideal.ofBits .f32 4286578688#32) (r (ix3 b h l)) := by
  pointwise [atleast]

/-- The reference's row values, entry by entry. -/
theorem rowmax_at (s) (b h : Fin 4) (l : Fin 8192) :
    rowmax s (ix3 b h l) = Finset.fold max (Ideal.ofBits .f32 4286578688#32) (fun x : Fin 256 => s (ix4 b h l x)) Finset.univ := by
  unfold rowmax
  rw [atleast_at, rowlargest_at]
  exact max_eq_right ((Finset.le_fold_max _).2 (.inl le_rfl))

/-- The row sums, entry by entry. -/
theorem rowsum_at (e) (b h : Fin 4) (l : Fin 8192) : rowsum e (ix3 b h l) = ∑ x : Fin 256, e (ix4 b h l x) := by
  pointwise [rowsum]

/-- The shifted exponentials, entry by entry. -/
theorem shifted_at (s r) (b h : Fin 4) (l : Fin 8192) (x : Fin 256) :
    shifted s r (ix4 b h l x) = Ideal.exp (s (ix4 b h l x) - r (ix3 b h l)) := by
  pointwise [shifted]

/-- The scaled exponentials, entry by entry. -/
theorem scaled_at (e r) (b h : Fin 4) (l : Fin 8192) (x : Fin 256) :
    scaled e r (ix4 b h l x) = Ideal.div (e (ix4 b h l x)) (r (ix3 b h l)) := by
  pointwise [scaled]

/-- The attention weights are the softmax of the row of scores. -/
theorem weights_at (s) (b h : Fin 4) (l : Fin 8192) (x : Fin 256) :
    weights s (ix4 b h l x) = soft (fun x => s (ix4 b h l x)) x := by
  unfold weights soft
  rw [scaled_at, shifted_at, rowsum_at, rowmax_at]
  simp only [shifted_at, rowmax_at]

/-- The mixed values, entry by entry. -/
theorem heads_at (w a4) (b h : Fin 4) (d : Fin 256) (l : Fin 8192) :
    heads w a4 (ix4 b h d l) = ∑ x : Fin 256, a4 (ix3 b x ⟨h.val * 256 + d.val, by omega⟩) * w (ix4 b h l x) := by
  pointwise [heads]

/-- The heads side by side, entry by entry. -/
theorem joined_at (o) (b : Fin 4) (l : Fin 8192) (j : Fin 1024) :
    joined o (ix3 b l j) = o (ix4 b ⟨j.val / 256, by omega⟩ ⟨j.val % 256, by omega⟩ l) := by
  pointwise [joined]

/-- The scores, entry by entry. -/
theorem scores_at (a0 a1 a2 a3) (b h : Fin 4) (l : Fin 8192) (x : Fin 256) :
    scores a0 a1 a2 a3 (ix4 b h l x)
      = (∑ d : Fin 256, (∑ z : Fin 1024, normed a0 a1 (ix3 b l z) * a2 (ix2 z ⟨h.val * 256 + d.val, by omega⟩))
          * a3 (ix3 b x ⟨h.val * 256 + d.val, by omega⟩)) * Ideal.ofBits .f32 0x3D800000#32 := by
  pointwise [scores]

/-- The output projection, entry by entry. -/
theorem added_at (a0 o a5) (b : Fin 4) (l : Fin 8192) (j : Fin 1024) :
    added a0 o a5 (ix3 b l j) = a0 (ix3 b l j) + ∑ z : Fin 1024, o (ix3 b l z) * a5 (ix2 z j) := by
  pointwise [added]

/-- The scale is a non-negative real. -/
theorem scale_nonneg : (0 : EReal) ≤ Ideal.ofBits .f32 0x3D800000#32 ∧ Ideal.ofBits .f32 0x3D800000#32 ≠ ⊤ := by
  have h : Ideal.ofBits .f32 0x3D800000#32 = ((1 / 16 : ℝ) : EReal) := by
    simp [Ideal.ofBits, Ideal.ieee]
    rw [← EReal.coe_mul]
    congr 1
    norm_num
  rw [h]
  exact ⟨by exact_mod_cast (by norm_num : (0 : ℝ) ≤ 1 / 16), EReal.coe_ne_top _⟩

/-- The scale moves out of a sum of products. -/
theorem sum_scale {n : ℕ} (f g : Fin n → EReal) :
    ∑ i, (f i * Ideal.ofBits .f32 0x3D800000#32) * g i = (∑ i, f i * g i) * Ideal.ofBits .f32 0x3D800000#32 := by
  have h : ∀ s : Finset (Fin n), ∑ i ∈ s, (f i * Ideal.ofBits .f32 0x3D800000#32) * g i
      = (∑ i ∈ s, f i * g i) * Ideal.ofBits .f32 0x3D800000#32 := fun s => by
    classical
    induction s using Finset.induction_on with
    | empty => simp
    | insert a s ha ih =>
      rw [Finset.sum_insert ha, Finset.sum_insert ha, ih,
        EReal.right_distrib_of_nonneg_of_ne_top scale_nonneg.1 scale_nonneg.2, mul_right_comm]
  exact h Finset.univ

/-- The reference's result, entry by entry, the scale inside the scores. -/
theorem REF_at (a0 a1 a2 a3 a4 a5) (b : Fin 4) (l : Fin 8192) (j : Fin 1024) :
    REF a0 a1 a2 a3 a4 a5 (ix3 b l j) = a0 (ix3 b l j) + ∑ z : Fin 1024, (∑ x : Fin 256,
        soft (fun x => ∑ d : Fin 256, ((∑ w : Fin 1024, normed a0 a1 (ix3 b l w) * a2 (ix2 w ⟨z.val / 256 * 256 + d.val, by omega⟩))
            * Ideal.ofBits .f32 0x3D800000#32) * a3 (ix3 b x ⟨z.val / 256 * 256 + d.val, by omega⟩)) x * a4 (ix3 b x z)) * a5 (ix2 z j) := by
  unfold REF
  rw [added_at]
  congr 1
  refine Finset.sum_congr rfl fun z _ => ?_
  rw [joined_at, heads_at]
  congr 1
  refine Finset.sum_congr rfl fun x _ => ?_
  rw [weights_at, mul_comm]
  congr 1
  · congr 1
    funext x
    rw [scores_at, sum_scale]
  · congr 2
    exact Fin.ext (by show z.val / 256 * 256 + z.val % 256 = z.val; omega)

/-- The same at a whole index. -/
theorem REF_at_idx (a0 a1 a2 a3 a4 a5) (i : S4x8192x1024.Idx) :
    REF a0 a1 a2 a3 a4 a5 i = a0 (ix3 (i 0) (i 1) (i 2)) + ∑ z : Fin 1024, (∑ x : Fin 256,
        soft (fun x => ∑ d : Fin 256, ((∑ w : Fin 1024, normed a0 a1 (ix3 (i 0) (i 1) w) * a2 (ix2 w ⟨z.val / 256 * 256 + d.val, by omega⟩))
            * Ideal.ofBits .f32 0x3D800000#32) * a3 (ix3 (i 0) x ⟨z.val / 256 * 256 + d.val, by omega⟩)) x * a4 (ix3 (i 0) x z)) * a5 (ix2 z (i 2)) :=
  (congrArg _ (ix3_eta i).symm).trans (REF_at a0 a1 a2 a3 a4 a5 (i 0) (i 1) (i 2))

/-- One entry of the kernel's attention output, the head's columns starting at `o`. -/
def mixv (q : FVec Ideal S512x1024 .bf16) (K V : FVec Ideal S1x256x1024 .bf16) (r : Fin 512) (o : ℕ) (ho : o + 256 ≤ 1024) (j : Fin 1024) : EReal :=
  ∑ x : Fin 256, soft (fun x => ∑ d : Fin 256, q (ix2 r ⟨o + d.val, by omega⟩) * K (ix3 0 x ⟨o + d.val, by omega⟩)) x * V (ix3 0 x j)

/-- The attended values at equal offsets and columns are equal. -/
theorem mixv_congr {q K V r o o' ho ho' j j'} (h : o = o') (hj : j = j') : mixv q K V r o ho j = mixv q K V r o' ho' j' := by
  subst h hj; rfl

/-- The first head's output. -/
theorem head_first (v0 v2 v17) (K V) (r : Fin 512) (d : Fin 256) (h1 h2) :
    k0_pay5 (F := Ideal) (k0_pay4 v0 v2 v17 (View.ld K (Rect.unit (s := S1x256x1024) ![0, 0, 0] ![1, 256, 256] h1)))
      (View.ld V (Rect.unit (s := S1x256x1024) ![0, 0, 0] ![1, 256, 256] h2)) (ix2 r d)
      = mixv (k0_pay3 v0 v2 v17) K V r 0 (by omega) ⟨d.val, by omega⟩ := by
  pointwise [k0_pay5, k0_pay4]
  simp only [mixv, soft, zero_add]

/-- The second head's output. -/
theorem head_second (q) (K V) (r : Fin 512) (d : Fin 256) (h1 h2) :
    k0_pay6 (F := Ideal) q (View.ld K (Rect.unit (s := S1x256x1024) ![0, 0, 256] ![1, 256, 256] h1))
      (View.ld V (Rect.unit (s := S1x256x1024) ![0, 0, 256] ![1, 256, 256] h2)) (ix2 r d) = mixv q K V r 256 (by omega) ⟨256 + d.val, by omega⟩ := by
  pointwise [k0_pay6]
  rfl

/-- The third head's output. -/
theorem head_third (q) (K V) (r : Fin 512) (d : Fin 256) (h1 h2) :
    k0_pay7 (F := Ideal) q (View.ld K (Rect.unit (s := S1x256x1024) ![0, 0, 512] ![1, 256, 256] h1))
      (View.ld V (Rect.unit (s := S1x256x1024) ![0, 0, 512] ![1, 256, 256] h2)) (ix2 r d) = mixv q K V r 512 (by omega) ⟨512 + d.val, by omega⟩ := by
  pointwise [k0_pay7]
  rfl

/-- The stored block: the rows plus the projection of the four heads side by side. -/
theorem stored (v1 A B C q K V wo) (h1 h2)
    (hA : ∀ (r : Fin 512) (d : Fin 256), A (ix2 r d) = mixv q K V r 0 (by omega) ⟨d.val, by omega⟩)
    (hB : ∀ (r : Fin 512) (d : Fin 256), B (ix2 r d) = mixv q K V r 256 (by omega) ⟨256 + d.val, by omega⟩)
    (hC : ∀ (r : Fin 512) (d : Fin 256), C (ix2 r d) = mixv q K V r 512 (by omega) ⟨512 + d.val, by omega⟩) (y) :
    k0_pay1 (F := Ideal) v1 A B C (k0_pay8 q) (View.ld K (Rect.unit (s := S1x256x1024) ![0, 0, 768] ![1, 256, 256] h1))
      (View.ld V (Rect.unit (s := S1x256x1024) ![0, 0, 768] ![1, 256, 256] h2)) wo y
      = v1 (ix2 (y 1) (y 2)) + ∑ z : Fin 1024, mixv q K V (y 1) (z.val / 256 * 256) (by omega) z * wo (ix2 z (y 2)) := by
  pointwise [k0_pay1, k0_pay8]
  congr 1
  refine Finset.sum_congr rfl fun z _ => ?_
  congr 1
  have hz := z.isLt
  by_cases c0 : z.val < 256
  · rw [dif_pos c0]; exact (hA (y 1) _).trans (mixv_congr (by omega) rfl)
  rw [dif_neg c0]
  by_cases c1 : z.val - 256 < 256
  · rw [dif_pos c1]; exact (hB (y 1) _).trans (mixv_congr (by omega) (Fin.ext (by show 256 + (z.val - 256) = z.val; omega)))
  rw [dif_neg c1]
  by_cases c2 : z.val - 256 - 256 < 256
  · rw [dif_pos c2]; exact (hC (y 1) _).trans (mixv_congr (by omega) (Fin.ext (by show 512 + (z.val - 256 - 256) = z.val; omega)))
  rw [dif_neg c2]
  exact Eq.trans (b := mixv q K V (y 1) 768 (by omega) ⟨768 + (z.val - 256 - 256 - 256), by omega⟩) rfl
    (mixv_congr (by omega) (Fin.ext (by show 768 + (z.val - 256 - 256 - 256) = z.val; omega)))

/-- The scaled rows a grid point projects for its scores. -/
theorem pay9_eq (x0 x1 x2 x3 x4 x5) : k0_pay9 (F := Ideal) x0 x1 x2 x3 x4 x5 = k0_pay3 x0 x1 x2 := by
  unfold k0_pay9
  rw [View.ld_unit_lit _ x0 (by decide), View.ld_unit_lit _ x1 (by decide), View.ld_unit_lit _ x2 (by decide)]

/-- The block a grid point stores, from its input blocks. -/
theorem block_eq (x0 x1 x2 x3 x4 x5) (y : S1x512x1024.Idx) :
    k0_pay1 (F := Ideal) (k0_pay2 x0) (k0_pay5 (k0_pay4 x0 x1 x2 (View.ld x3 r0_3)) (View.ld x4 r0_3))
      (k0_pay6 (k0_pay9 x0 x1 x2 x3 x4 x5) (View.ld x3 r0_4) (View.ld x4 r0_4))
      (k0_pay7 (k0_pay9 x0 x1 x2 x3 x4 x5) (View.ld x3 r0_5) (View.ld x4 r0_5)) (k0_pay8 (k0_pay9 x0 x1 x2 x3 x4 x5))
      (View.ld x3 r0_6) (View.ld x4 r0_6) x5 y
      = k0_pay2 (F := Ideal) x0 (ix2 (y 1) (y 2)) + ∑ z : Fin 1024, mixv (k0_pay3 x0 x1 x2) x3 x4 (y 1) (z.val / 256 * 256) (by omega) z
          * x5 (ix2 z (y 2)) := by
  rw [pay9_eq]
  exact stored (k0_pay2 x0) _ _ _ (k0_pay3 x0 x1 x2) x3 x4 x5 _ _ (fun r d => head_first x0 x1 x2 x3 x4 r d _ _)
    (fun r d => head_second (k0_pay3 x0 x1 x2) x3 x4 r d _ _) (fun r d => head_third (k0_pay3 x0 x1 x2) x3 x4 r d _ _) y

/-- The block indices of the windows, at every grid point. -/
theorem idx : ∀ t : Fin cfg0.N, win0_0.index t = ![t.val / 16, t.val % 16, 0] ∧ win0_1.index t = ![0, 0] ∧ win0_2.index t = ![0, 0]
    ∧ win0_3.index t = ![t.val / 16, 0, 0] ∧ win0_4.index t = ![t.val / 16, 0, 0] ∧ win0_5.index t = ![0, 0]
    ∧ win0_6.index t = ![t.val / 16, t.val % 16, 0] :=
  (by decide +kernel : ∀ t : Fin grid0.N, _)

/-- The rows plus the projected heads of a grid point are the reference's result there. -/
theorem point (c : Dev nD) (t : Fin cfg0.N) (y : S1x512x1024.Idx) :
    (k0_pay2 (F := Ideal) (iblk m c 0 t) (ix2 (y 1) (y 2)) : EReal) + ∑ z : Fin 1024,
        mixv (k0_pay3 (iblk m c 0 t) (iblk m c 1 t) (iblk m c 2 t)) (iblk m c 3 t) (iblk m c 4 t) (y 1) (z.val / 256 * 256) (by omega) z
          * (iblk m c 5 t : FVec Ideal S1024x1024 .bf16) (ix2 z (y 2))
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  refine Eq.trans ?_ (REF_at_idx _ _ _ _ _ _ (((cfg0.win 6).blk t).view.emb y)).symm
  unfold mixv
  pointwise [k0_pay2, k0_pay3, normed]
  blk_point [iblk, V, idx t]

/-- The result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact (block_eq _ _ _ _ _ _ y).trans (point m c t y)

end Cert.XattnIdeal.Result

end
-- ==== Proof.MixOutRefResult.lean ====
module

public import proofs.«01_k».proof.Proof.Gen.MixOutRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MixOutRefIdeal.Result

open Cert.MixOutRefIdeal Cert.MixOutRefIdeal.Gen

variable (m : (ℓ : Loc nD τ sig) → Buf (Elt Ideal) ℓ)

/-- The 384 lanes of every row as six heads of 64. -/
def heads (X : FVec Ideal S32768x384 .f32) : FVec Ideal S32768x6x64 .f32 := shapeCast _ X shapeCasts_S32768x384_S32768x6x64

/-- The mean of every head. -/
def means (X : FVec Ideal S32768x6x64 .f32) : FVec Ideal S32768x6x1 .f32 :=
  Host.divf (broadcastInDim S32768x6x1 ![0, 1] bcast_S32768x6_S32768x6x1_0_1 (Host.reduceAdd X (constant S_ .f32 0x00000000#32) reducesTo_S32768x6x64_S32768x6_d2 h_S_)) (broadcastInDim S32768x6x1 ![] bcast_S_S32768x6x1 (constant S_ .f32 0x42800000#32))

/-- Every lane less its head's mean. -/
def centred (X : FVec Ideal S32768x384 .f32) : FVec Ideal S32768x6x64 .f32 :=
  subf (heads X) (broadcastInDim S32768x6x64 ![0, 1, 2] bcast_S32768x6x1_S32768x6x64_0_1_2 (means (heads X)))

/-- The first mixer's rows: the head-wise group normalisation with its gain and offset, plus the bonus, gated. -/
def rw1 (X a4 a5 : FVec Ideal S32768x384 .f32) (a9 a10 : FVec Ideal S384 .f32) : FVec Ideal S32768x384 .f32 :=
  mulf (addf (addf (mulf (shapeCast _ (mulf (centred X) (broadcastInDim S32768x6x64 ![0, 1, 2] bcast_S32768x6x1_S32768x6x64_0_1_2
      (Host.rsqrt (addf (means (mulf (centred X) (centred X))) (broadcastInDim S32768x6x1 ![] bcast_S_S32768x6x1 (constant S_ .f32 0x3A27C5AC#32)))))) shapeCasts_S32768x6x64_S32768x384)
      (broadcastInDim S32768x384 ![0, 1] bcast_S1x384_S32768x384_0_1 (broadcastInDim S1x384 ![1] bcast_S384_S1x384_1 a9)))
      (broadcastInDim S32768x384 ![0, 1] bcast_S1x384_S32768x384_0_1 (broadcastInDim S1x384 ![1] bcast_S384_S1x384_1 a10))) a5) a4

/-- The second mixer's rows: the head-wise root-mean-square normalisation times its gain and the gate's activation. -/
def gdn (X : FVec Ideal S32768x384 .f32) (a8 : FVec Ideal S32768x1664 .f32) (a11 : FVec Ideal S64 .f32) : FVec Ideal S32768x384 .f32 :=
  shapeCast _ (mulf (mulf (mulf (heads X) (broadcastInDim S32768x6x64 ![0, 1, 2] bcast_S32768x6x1_S32768x6x64_0_1_2
      (Host.rsqrt (addf (means (mulf (heads X) (heads X))) (broadcastInDim S32768x6x1 ![] bcast_S_S32768x6x1 (constant S_ .f32 0x358637BD#32))))))
      (broadcastInDim S32768x6x64 ![0, 1, 2] bcast_S1x1x64_S32768x6x64_0_1_2 (broadcastInDim S1x1x64 ![2] bcast_S64_S1x1x64_2 a11)))
      (mulf (heads (extractStridedSlice S32768x384 ![0, 1152] a8 slices_S32768x1664_S32768x384_0_1152)) (Host.divf (broadcastInDim S32768x6x64 ![] bcast_S_S32768x6x64 (constant S_ .f32 0x3F800000#32))
        (addf (broadcastInDim S32768x6x64 ![] bcast_S_S32768x6x64 (constant S_ .f32 0x3F800000#32)) (Host.exp (Host.negf (heads (extractStridedSlice S32768x384 ![0, 1152] a8 slices_S32768x1664_S32768x384_0_1152)))))))) shapeCasts_S32768x6x64_S32768x384

/-- The reference's result: the rows plus the projection of the three mixers' rows side by side. -/
def REF (a0 : FVec Ideal S32768x1024 .f32) (a1 : FVec Ideal S32768x256 .f32) (Y a4 a5 O : FVec Ideal S32768x384 .f32)
    (a8 : FVec Ideal S32768x1664 .f32) (a9 a10 : FVec Ideal S384 .f32) (a11 : FVec Ideal S64 .f32) (a12 : FVec Ideal S1024x1024 .f32) : FVec Ideal S32768x1024 .f32 :=
  addf a0 (Host.dotGeneral dot_S32768x1024_S1024x1024_S32768x1024_1_0_0_1_n_n none (concatenate S32768x1024 1 [⟨S32768x256, a1⟩, ⟨S32768x384, rw1 Y a4 a5 a9 a10⟩, ⟨S32768x384, gdn O a8 a11⟩] concatenates_S32768x256_S32768x384_S32768x384_S32768x1024_d1 : FVec Ideal S32768x1024 .f32) a12)

/-- The printed result is that function of the arguments. -/
theorem final (c : Dev nD) : Value.res_main_v51 m c = REF (m ((c.tc : Thread nD τ).loc main_arg0)) (m ((c.tc : Thread nD τ).loc main_arg1))
    (addf (m ((c.tc : Thread nD τ).loc main_arg2)) (m ((c.tc : Thread nD τ).loc main_arg3))) (m ((c.tc : Thread nD τ).loc main_arg4)) (m ((c.tc : Thread nD τ).loc main_arg5))
    (addf (m ((c.tc : Thread nD τ).loc main_arg6)) (m ((c.tc : Thread nD τ).loc main_arg7))) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) := rfl

/-- The mean of the head a lane lies in. -/
def hmean (f : Fin 384 → EReal) (c : Fin 384) : EReal :=
  Ideal.div (∑ j : Fin 64, f ⟨c.val / 64 * 64 + j.val, by omega⟩) (Ideal.ofBits .f32 0x42800000#32)

/-- Lanes of one head have one mean. -/
theorem hmean_congr (f : Fin 384 → EReal) {c c' : Fin 384} (h : c.val / 64 = c'.val / 64) : hmean f c = hmean f c' := by
  simp only [hmean, h]

/-- A product of two arrays, entry by entry. -/
theorem mulf_at (X Y : FVec Ideal S32768x6x64 .f32) (i) : mulf X Y i = (X i * Y i : EReal) := rfl

/-- A sum over 1024 positions in the three parts of 256, 384 and 384. -/
theorem sum_three (f : Fin 1024 → EReal) : ∑ x, f x = (∑ x : Fin 256, f ⟨x.val, by omega⟩ + ∑ x : Fin 384, f ⟨256 + x.val, by omega⟩)
    + ∑ x : Fin 384, f ⟨640 + x.val, by omega⟩ := by
  have h1 := Fin.sum_univ_add (a := 640) (b := 384) (f : Fin (640 + 384) → EReal)
  have h2 := Fin.sum_univ_add (a := 256) (b := 384) (fun i : Fin (256 + 384) => f ⟨i.val, by omega⟩)
  exact h1.trans (congrArg (· + _) h2)

/-- Entry by entry, the mean of a head. -/
theorem means_at (X : FVec Ideal S32768x6x64 .f32) (r : Fin 32768) (h : Fin 6) :
    means X (ix3 r h 0) = Ideal.div (∑ j : Fin 64, X (ix3 r h j)) (Ideal.ofBits .f32 0x42800000#32) := by
  pointwise [means]

/-- Entry by entry, the heads. -/
theorem heads_at (X : FVec Ideal S32768x384 .f32) (r : Fin 32768) (h : Fin 6) (d : Fin 64) :
    heads X (ix3 r h d) = X (ix2 r ⟨h.val * 64 + d.val, by omega⟩) := by
  pointwise [heads]

/-- Entry by entry, a centred lane. -/
theorem centred_at (X : FVec Ideal S32768x384 .f32) (r : Fin 32768) (h : Fin 6) (d : Fin 64) :
    centred X (ix3 r h d) = X (ix2 r ⟨h.val * 64 + d.val, by omega⟩) - hmean (fun k => X (ix2 r k)) ⟨h.val * 64 + d.val, by omega⟩ := by
  have e : centred X (ix3 r h d) = heads X (ix3 r h d) - means (heads X) (ix3 r h 0) := by
    unfold centred
    pointwise
  rw [e, heads_at, means_at]
  simp only [heads_at, hmean]
  have ed : (h.val * 64 + d.val) / 64 = h.val := by omega
  simp only [ed]

/-- Entry by entry, the first mixer's rows. -/
theorem rw1_at (X a4 a5 : FVec Ideal S32768x384 .f32) (a9 a10 : FVec Ideal S384 .f32) (r : Fin 32768) (c : Fin 384) :
    rw1 X a4 a5 a9 a10 (ix2 r c) = (((X (ix2 r c) - hmean (fun k => X (ix2 r k)) c)
      * Ideal.rsqrt (hmean (fun k => (X (ix2 r k) - hmean (fun k => X (ix2 r k)) k) * (X (ix2 r k) - hmean (fun k => X (ix2 r k)) k)) c + Ideal.ofBits .f32 0x3A27C5AC#32))
      * a9 (ix1 c) + a10 (ix1 c) + a5 (ix2 r c)) * a4 (ix2 r c) := by
  have e : rw1 X a4 a5 a9 a10 (ix2 r c) = (((centred X (ix3 r ⟨c.val / 64, by omega⟩ ⟨c.val % 64, by omega⟩))
      * Ideal.rsqrt (means (mulf (centred X) (centred X)) (ix3 r ⟨c.val / 64, by omega⟩ 0) + Ideal.ofBits .f32 0x3A27C5AC#32))
      * a9 (ix1 c) + a10 (ix1 c) + a5 (ix2 r c)) * a4 (ix2 r c) := by
    unfold rw1
    pointwise
  have ec : ∀ h, (⟨c.val / 64 * 64 + c.val % 64, h⟩ : Fin 384) = c := fun h => Fin.ext (by show c.val / 64 * 64 + c.val % 64 = c.val; omega)
  rw [e, means_at, centred_at]
  simp only [ec]
  have em : Ideal.div (∑ j : Fin 64, mulf (centred X) (centred X) (ix3 r ⟨c.val / 64, by omega⟩ j)) (Ideal.ofBits .f32 0x42800000#32)
      = hmean (fun k => (X (ix2 r k) - hmean (fun k => X (ix2 r k)) k) * (X (ix2 r k) - hmean (fun k => X (ix2 r k)) k)) c := by
    unfold hmean
    refine congrArg (Ideal.div · _) (Finset.sum_congr rfl fun j _ => ?_)
    rw [mulf_at, centred_at]
    rfl
  rw [em]

/-- Entry by entry, the second mixer's rows. -/
theorem gdn_at (X : FVec Ideal S32768x384 .f32) (a8 : FVec Ideal S32768x1664 .f32) (a11 : FVec Ideal S64 .f32) (r : Fin 32768) (c : Fin 384) :
    gdn X a8 a11 (ix2 r c) = ((X (ix2 r c) * Ideal.rsqrt (hmean (fun k => X (ix2 r k) * X (ix2 r k)) c + Ideal.ofBits .f32 0x358637BD#32))
      * a11 (ix1 ⟨c.val % 64, by omega⟩)) * (a8 (ix2 r ⟨1152 + c.val, by omega⟩) * Ideal.div 1 (1 + Ideal.exp (-a8 (ix2 r ⟨1152 + c.val, by omega⟩)))) := by
  have ec : ∀ h, (⟨c.val / 64 * 64 + c.val % 64, h⟩ : Fin 384) = c := fun h => Fin.ext (by show c.val / 64 * 64 + c.val % 64 = c.val; omega)
  have e : gdn X a8 a11 (ix2 r c) = ((heads X (ix3 r ⟨c.val / 64, by omega⟩ ⟨c.val % 64, by omega⟩) * Ideal.rsqrt (means (mulf (heads X) (heads X)) (ix3 r ⟨c.val / 64, by omega⟩ 0) + Ideal.ofBits .f32 0x358637BD#32))
      * a11 (ix1 ⟨c.val % 64, by omega⟩)) * (a8 (ix2 r ⟨1152 + c.val, by omega⟩) * Ideal.div 1 (1 + Ideal.exp (-a8 (ix2 r ⟨1152 + c.val, by omega⟩)))) := by
    unfold gdn
    pointwise
    simp only [heads_at]
    pointwise
    have ed : c.val / 64 * 64 + c.val % 64 = c.val := by omega
    simp only [ed]
  rw [e, means_at, heads_at]
  simp only [ec]
  have em : Ideal.div (∑ j : Fin 64, mulf (heads X) (heads X) (ix3 r ⟨c.val / 64, by omega⟩ j)) (Ideal.ofBits .f32 0x42800000#32)
      = hmean (fun k => X (ix2 r k) * X (ix2 r k)) c := by
    unfold hmean
    refine congrArg (Ideal.div · _) (Finset.sum_congr rfl fun j _ => ?_)
    rw [mulf_at, heads_at]
  rw [em]

/-- Entry by entry, the reference's result. -/
theorem REF_at (a0 a1 Y a4 a5 O a8 a9 a10 a11 a12) (r : Fin 32768) (n : Fin 1024) :
    REF a0 a1 Y a4 a5 O a8 a9 a10 a11 a12 (ix2 r n) = a0 (ix2 r n) + ((∑ x : Fin 256, a1 (ix2 r x) * a12 (ix2 ⟨x.val, by omega⟩ n)
      + ∑ x : Fin 384, rw1 Y a4 a5 a9 a10 (ix2 r x) * a12 (ix2 ⟨256 + x.val, by omega⟩ n))
      + ∑ x : Fin 384, gdn O a8 a11 (ix2 r x) * a12 (ix2 ⟨640 + x.val, by omega⟩ n)) := by
  unfold REF
  pointwise
  congr 1
  refine (sum_three _).trans ?_
  congr 1

end Cert.MixOutRefIdeal.Result

end
-- ==== Proof.MixOutResult.lean ====
module

public import proofs.«01_k».proof.Defs
public import proofs.«01_k».proof.Proof.Gen.MixOutIdeal.Value
public import proofs.«01_k».proof.Proof.MixOutRefResult
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Result

open Cert.MixOutIdeal Cert.MixOutIdeal.Gen
open Cert.MixOutRefIdeal.Result (REF REF_at rw1 rw1_at gdn gdn_at hmean hmean_congr)

variable (m : (ℓ : Loc nD τ sig) → Buf (Elt Ideal) ℓ)

/-- The extended number is a real one. -/
def Fin' (x : EReal) : Prop := ∃ r : ℝ, x = r

/-- The side conditions of the precondition's operations. -/
theorem preFacts : Cert.Pre_mix_finite.Facts := ⟨by decide⟩

/-- What the comparison of an absolute value with infinity says: the number is finite. -/
theorem fin_of_lt (X : FVec Ideal S32768x384 .f32) (hb : (⟨0, ![]⟩ : Shape).BroadcastsInDim S32768x384 (![] : Fin 0 → Fin 2))
    (h : (cmpf .olt (Host.absf X) (broadcastInDim S32768x384 ![] hb (constant (F := Ideal) (⟨0, ![]⟩ : Shape) .f32 0x7F800000#32)) : IVec S32768x384 1) = fun _ => 1#1)
    (i : S32768x384.Idx) : Fin' (X i) := by
  have e := congrFun h i
  revert e
  pointwise
  intro e
  have e' : max (X i : EReal) (-(X i : EReal)) < ⊤ := by
    by_contra hn
    have hf : decide (FloatOps.absf (X i) < Ideal.ofBits FTy.f32 2139095040#32) = false :=
      decide_eq_false (by
        rw [show Ideal.ofBits FTy.f32 2139095040#32 = (⊤ : EReal) by simp [Ideal.ofBits, Ideal.ieee]]
        exact hn)
    rw [hf] at e
    exact absurd e (by decide)
  refine ⟨(X i : EReal).toReal, (EReal.coe_toReal ?_ ?_).symm⟩
  · intro h1
    rw [h1] at e'
    simp at e'
  · intro h1
    rw [h1] at e'
    simp at e'

/-- A difference of reals is real. -/
theorem Fin'.sub {x y : EReal} : Fin' x → Fin' y → Fin' (x - y) := by
  rintro ⟨a, rfl⟩ ⟨b, rfl⟩
  exact ⟨a - b, (EReal.coe_sub a b).symm⟩

/-- A product of reals is real. -/
theorem Fin'.mul {x y : EReal} : Fin' x → Fin' y → Fin' (x * y) := by
  rintro ⟨a, rfl⟩ ⟨b, rfl⟩
  exact ⟨a * b, (EReal.coe_mul a b).symm⟩

/-- The constant dividing a head's sum is 64. -/
theorem ofBits_64 : Ideal.ofBits .f32 0x42800000#32 = ((64 : ℝ) : EReal) := by
  simp [Ideal.ofBits, Ideal.ieee]
  rw [← EReal.coe_mul]
  norm_num

/-- The constant in the head-averaging matrix is one sixty-fourth. -/
theorem ofBits_inv64 : Ideal.ofBits .f32 0x3C800000#32 = ((1 / 64 : ℝ) : EReal) := by
  simp [Ideal.ofBits, Ideal.ieee]
  rw [← EReal.coe_mul]
  norm_num

/-- A sum of reals is the same sum taken among the extended reals. -/
theorem coe_total {n : ℕ} (g : Fin n → ℝ) : ∑ i, (g i : EReal) = ((∑ i, g i : ℝ) : EReal) := by
  have h : ∀ s : Finset (Fin n), ∑ i ∈ s, (g i : EReal) = ((∑ i ∈ s, g i : ℝ) : EReal) := fun s => by
    classical
    induction s using Finset.induction_on with
    | empty => simp
    | insert a s ha ih => rw [Finset.sum_insert ha, Finset.sum_insert ha, ih, EReal.coe_add]
  exact h Finset.univ

/-- A head's mean of reals, as a real. -/
theorem hmean_real (g : Fin 384 → ℝ) (c : Fin 384) :
    hmean (fun k => (g k : EReal)) c = (((∑ j : Fin 64, g ⟨c.val / 64 * 64 + j.val, by omega⟩) / 64 : ℝ) : EReal) := by
  unfold hmean
  rw [coe_total, ofBits_64, Ideal.div, if_neg (by norm_num), ← EReal.coe_inv, ← EReal.coe_mul, div_eq_mul_inv]

/-- A head's mean of reals is real. -/
theorem Fin'.hmean {f : Fin 384 → EReal} (h : ∀ k, Fin' (f k)) (c : Fin 384) : Fin' (hmean f c) := by
  choose g hg using h
  obtain rfl : f = fun k => (g k : EReal) := funext hg
  exact ⟨_, hmean_real g c⟩

/-- What the kernel computes in place of a head's mean: three products with the averaging matrix, the second and
    third of what rounding left over. -/
def kmean (A : FVec Ideal S384x384 .f32) (f : Fin 384 → EReal) (c : Fin 384) : EReal :=
  (∑ k : Fin 384, f k * A (ix2 k c)) + ((∑ k : Fin 384, (f k - f k) * A (ix2 k c)) + ∑ k : Fin 384, ((f k - f k) - (f k - f k)) * A (ix2 k c))

/-- The matrix averages over heads. -/
def Averages (A : FVec Ideal S384x384 .f32) : Prop :=
  ∀ k c : Fin 384, A (ix2 k c) = (if k.val / 64 = c.val / 64 then ((1 / 64 : ℝ) : EReal) else 0)

/-- On reals, the three products with an averaging matrix give the head's mean. -/
theorem kmean_eq {A : FVec Ideal S384x384 .f32} (hA : Averages A) {f : Fin 384 → EReal} (h : ∀ k, Fin' (f k)) (c : Fin 384) :
    kmean A f c = hmean f c := by
  choose g hg using h
  obtain rfl : f = fun k => (g k : EReal) := funext hg
  have e0 : ∀ k, ((g k : EReal) - (g k : EReal)) = 0 := fun k => by
    rw [← EReal.coe_sub, sub_self, EReal.coe_zero]
  have e1 : ∀ k : Fin 384, (g k : EReal) * A (ix2 k c) = ((g k * (if k.val / 64 = c.val / 64 then 1 / 64 else 0) : ℝ) : EReal) := fun k => by
    rw [hA k c, EReal.coe_mul]
    split_ifs <;> simp
  have e2 : (∑ k : Fin 384, g k * (if k.val / 64 = c.val / 64 then 1 / 64 else 0) : ℝ) = (∑ j : Fin 64, g ⟨c.val / 64 * 64 + j.val, by omega⟩) / 64 := by
    rw [Idealize.ShloMosaic.Fin.sum_univ_tiles 6 64 rfl]
    rw [Finset.sum_eq_single (⟨c.val / 64, by omega⟩ : Fin 6)]
    · rw [Finset.sum_div]
      refine Finset.sum_congr rfl fun j _ => ?_
      have hj := j.isLt
      rw [if_pos (by show (c.val / 64 * 64 + j.val) / 64 = c.val / 64; omega)]
      ring
    · intro b _ hb
      refine Finset.sum_eq_zero fun j _ => ?_
      have hj := j.isLt
      rw [if_neg, mul_zero]
      intro hc
      exact hb (Fin.ext (by have : (b.val * 64 + j.val) / 64 = c.val / 64 := hc; show b.val = c.val / 64; omega))
    · intro hn; exact absurd (Finset.mem_univ _) hn
  unfold kmean
  simp only [e0, e1, sub_zero, zero_mul, Finset.sum_const_zero, add_zero]
  rw [hmean_real, ← e2]
  exact coe_total _

/-- Entry by entry, the first mixer's rows as the kernel computes them. -/
theorem pay4_at (A : FVec Ideal S384x384 .f32) (a b : FVec Ideal S512x384 .f32) (w n : FVec Ideal S1x384 .f32) (u v : FVec Ideal S512x384 .f32) (r : Fin 512) (c : Fin 384) :
    k0_pay4 (F := Ideal) (k0_pay3 A a b w) n u v (ix2 r c)
      = ((((a (ix2 r c) + b (ix2 r c)) - kmean A (fun k => a (ix2 r k) + b (ix2 r k)) c)
          * Ideal.rsqrt (kmean A (fun k => ((a (ix2 r k) + b (ix2 r k)) - kmean A (fun k => a (ix2 r k) + b (ix2 r k)) k)
              * ((a (ix2 r k) + b (ix2 r k)) - kmean A (fun k => a (ix2 r k) + b (ix2 r k)) k)) c + Ideal.ofBits .f32 0x3A27C5AC#32))
          * w (ix2 0 c) + n (ix2 0 c) + u (ix2 r c)) * v (ix2 r c) := by
  pointwise [k0_pay4, k0_pay3, k0_pay2]
  rfl

/-- Entry by entry, the second mixer's rows as the kernel computes them. -/
theorem pay5_at (A : FVec Ideal S384x384 .f32) (a b : FVec Ideal S512x384 .f32) (w : FVec Ideal S1x384 .f32) (r : Fin 512) (c : Fin 384) :
    k0_pay5 (F := Ideal) (k0_pay2 A) a b w (ix2 r c)
      = ((a (ix2 r c) + b (ix2 r c)) * Ideal.rsqrt (kmean A (fun k => (a (ix2 r k) + b (ix2 r k)) * (a (ix2 r k) + b (ix2 r k))) c + Ideal.ofBits .f32 0x358637BD#32))
          * w (ix2 0 c) := by
  pointwise [k0_pay5, k0_pay2]
  rfl

/-- Entry by entry, the gate's activation as the kernel computes it. -/
theorem pay6_at (z : FVec Ideal S512x384 .f32) (r : Fin 512) (c : Fin 384) :
    k0_pay6 (F := Ideal) z (ix2 r c) = z (ix2 r c) * Ideal.div 1 (1 + Ideal.exp (-z (ix2 r c))) := by
  pointwise [k0_pay6]
  simp only [zero_sub]

/-- Entry by entry, the block a grid point stores. -/
theorem pay1_at (p q s : FVec Ideal S512x384 .f32) (h : FVec Ideal S512x256 .f32) (w : FVec Ideal S1024x1024 .bf16) (x : FVec Ideal S512x1024 .f32)
    (h1 h2 h3) (y : S512x1024.Idx) :
    k0_pay1 (F := Ideal) p q s h (View.ld w (Rect.unit (s := S1024x1024) ![0, 0] ![256, 1024] h1)) (View.ld w (Rect.unit (s := S1024x1024) ![256, 0] ![384, 1024] h2))
      (View.ld w (Rect.unit (s := S1024x1024) ![640, 0] ![384, 1024] h3)) x y
      = x (ix2 (y 0) (y 1)) + ((∑ k : Fin 256, h (ix2 (y 0) k) * w (ix2 ⟨k.val, by omega⟩ (y 1))
        + ∑ k : Fin 384, p (ix2 (y 0) k) * w (ix2 ⟨256 + k.val, by omega⟩ (y 1)))
        + ∑ k : Fin 384, (q (ix2 (y 0) k) * s (ix2 (y 0) k)) * w (ix2 ⟨640 + k.val, by omega⟩ (y 1))) := by
  pointwise [k0_pay1]

/-- On real rows, the kernel's first normalised rows are the reference's. -/
theorem first_rows {A : FVec Ideal S384x384 .f32} (hA : Averages A) {a b u v : FVec Ideal S512x384 .f32} {w n : FVec Ideal S1x384 .f32}
    {X a4 a5 : FVec Ideal S32768x384 .f32} {a9 a10 : FVec Ideal S384 .f32} (r : Fin 512) (R : Fin 32768)
    (hX : ∀ i, Fin' (X i)) (hab : ∀ k, (a (ix2 r k) + b (ix2 r k) : EReal) = X (ix2 R k)) (hw : ∀ k, w (ix2 0 k) = a9 (ix1 k))
    (hn : ∀ k, n (ix2 0 k) = a10 (ix1 k)) (hu : ∀ k, u (ix2 r k) = a5 (ix2 R k)) (hv : ∀ k, v (ix2 r k) = a4 (ix2 R k)) (x : Fin 384) :
    k0_pay4 (F := Ideal) (k0_pay3 A a b w) n u v (ix2 r x) = rw1 X a4 a5 a9 a10 (ix2 R x) := by
  have f1 : ∀ k, Fin' (X (ix2 R k)) := fun k => hX _
  have f2 : ∀ k, Fin' ((X (ix2 R k) - hmean (fun k => X (ix2 R k)) k) * (X (ix2 R k) - hmean (fun k => X (ix2 R k)) k)) := fun k =>
    ((f1 k).sub (Fin'.hmean f1 k)).mul ((f1 k).sub (Fin'.hmean f1 k))
  rw [rw1_at, pay4_at]
  simp only [hab, kmean_eq hA f1, kmean_eq hA f2, hw, hn, hu, hv]

/-- On real rows, the kernel's second normalised rows, times the gate's activation, are the reference's. -/
theorem second_rows {A : FVec Ideal S384x384 .f32} (hA : Averages A) {a b z : FVec Ideal S512x384 .f32} {w : FVec Ideal S1x384 .f32}
    {X : FVec Ideal S32768x384 .f32} {a8 : FVec Ideal S32768x1664 .f32} {a11 : FVec Ideal S64 .f32} (r : Fin 512) (R : Fin 32768)
    (hX : ∀ i, Fin' (X i)) (hab : ∀ k, (a (ix2 r k) + b (ix2 r k) : EReal) = X (ix2 R k))
    (hw : ∀ k : Fin 384, w (ix2 0 k) = a11 (ix1 ⟨k.val % 64, by omega⟩)) (hz : ∀ k : Fin 384, z (ix2 r k) = a8 (ix2 R ⟨1152 + k.val, by omega⟩)) (x : Fin 384) :
    (k0_pay5 (F := Ideal) (k0_pay2 A) a b w (ix2 r x) * k0_pay6 (F := Ideal) z (ix2 r x) : EReal) = gdn X a8 a11 (ix2 R x) := by
  have f1 : ∀ k, Fin' (X (ix2 R k) * X (ix2 R k)) := fun k => (hX _).mul (hX _)
  rw [gdn_at, pay5_at, pay6_at]
  simp only [hab, kmean_eq hA f1, hw, hz]

/-- On real rows, what a grid point stores is the reference's result in the rows its block holds. -/
theorem stored {A : FVec Ideal S384x384 .f32} (hA : Averages A) {x0 : FVec Ideal S512x1024 .f32} {x1 : FVec Ideal S512x256 .f32} {x2 x3 x4 x5 x6 x7 x8 : FVec Ideal S512x384 .f32}
    {x9 x10 x11 : FVec Ideal S1x384 .f32} {x13 : FVec Ideal S1024x1024 .bf16} {a0 : FVec Ideal S32768x1024 .f32} {a1 : FVec Ideal S32768x256 .f32}
    {Y O a4 a5 : FVec Ideal S32768x384 .f32} {a8 : FVec Ideal S32768x1664 .f32} {a9 a10 : FVec Ideal S384 .f32} {a11 : FVec Ideal S64 .f32} {a12 : FVec Ideal S1024x1024 .f32}
    (R : Fin 512 → Fin 32768) (hY : ∀ i, Fin' (Y i)) (hO : ∀ i, Fin' (O i))
    (h0 : ∀ r k, x0 (ix2 r k) = a0 (ix2 (R r) k)) (h1 : ∀ r k, x1 (ix2 r k) = a1 (ix2 (R r) k))
    (h2 : ∀ r k, (x2 (ix2 r k) + x3 (ix2 r k) : EReal) = Y (ix2 (R r) k)) (h4 : ∀ r k, x4 (ix2 r k) = a4 (ix2 (R r) k)) (h5 : ∀ r k, x5 (ix2 r k) = a5 (ix2 (R r) k))
    (h6 : ∀ r k, (x6 (ix2 r k) + x7 (ix2 r k) : EReal) = O (ix2 (R r) k)) (h8 : ∀ (r) (k : Fin 384), x8 (ix2 r k) = a8 (ix2 (R r) ⟨1152 + k.val, by omega⟩))
    (h9 : ∀ k, x9 (ix2 0 k) = a9 (ix1 k)) (h10 : ∀ k, x10 (ix2 0 k) = a10 (ix1 k)) (h11 : ∀ k : Fin 384, x11 (ix2 0 k) = a11 (ix1 ⟨k.val % 64, by omega⟩))
    (h13 : ∀ a b : Fin 1024, x13 (ix2 a b) = a12 (ix2 a b)) (g1 g2 g3) (y : S512x1024.Idx) :
    k0_pay1 (F := Ideal) (k0_pay4 (k0_pay3 A x2 x3 x9) x10 x5 x4) (k0_pay5 (k0_pay2 A) x6 x7 x11) (k0_pay6 x8) x1
      (View.ld x13 (Rect.unit (s := S1024x1024) ![0, 0] ![256, 1024] g1)) (View.ld x13 (Rect.unit (s := S1024x1024) ![256, 0] ![384, 1024] g2))
      (View.ld x13 (Rect.unit (s := S1024x1024) ![640, 0] ![384, 1024] g3)) x0 y
      = REF a0 a1 Y a4 a5 O a8 a9 a10 a11 a12 (ix2 (R (y 0)) (y 1)) := by
  refine (pay1_at _ _ _ _ _ _ g1 g2 g3 y).trans (Eq.trans ?_ (REF_at a0 a1 Y a4 a5 O a8 a9 a10 a11 a12 (R (y 0)) (y 1)).symm)
  have e1 := first_rows hA (y 0) (R (y 0)) hY (h2 (y 0)) h9 h10 (h5 (y 0)) (h4 (y 0))
  have e2 := second_rows hA (y 0) (R (y 0)) hO (h6 (y 0)) h11 (h8 (y 0))
  refine congrArg₂ (fun a b : EReal => a + b) (h0 _ _) (congrArg₂ (fun a b : EReal => a + b) (congrArg₂ (fun a b : EReal => a + b) ?_ ?_) ?_)
  · exact Finset.sum_congr rfl fun k _ => congrArg₂ (fun a b : EReal => a * b) (h1 _ _) (h13 _ _)
  · exact Finset.sum_congr rfl fun k _ => congrArg₂ (fun a b : EReal => a * b) (e1 k) (h13 _ _)
  · exact Finset.sum_congr rfl fun k _ => congrArg₂ (fun a b : EReal => a * b) (e2 k) (h13 _ _)

/-- The block indices of the windows, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 3] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

/-- The averaging matrix, as the region finds it. -/
theorem V_avg (c : Dev nD) : (V m c main_v10 : FVec Ideal S384x384 .f32) = (mulf (uitofp .f32 (cmpi .eq
      (Host.divsi (iotaInDim S384x384 32 0) (broadcastInDim S384x384 ![] bcast_S_S384x384 (constantI S_ 32 64#32)))
      (Host.divsi (iotaInDim S384x384 32 1) (broadcastInDim S384x384 ![] bcast_S_S384x384 (constantI S_ 32 64#32)))))
    (broadcastInDim S384x384 ![] bcast_S_S384x384 (constant (F := Ideal) S_ .f32 0x3C800000#32)) : FVec Ideal S384x384 .f32) := by
  simp only [V, hostOps0, List.flatten_cons, List.flatten_nil, List.append_nil, List.cons_append, List.nil_append]
  entry_read
  rfl

/-- The first gain, as the region finds it: one row. -/
theorem V_gain (c : Dev nD) : V m c main_v11 = shapeCast S1x384 (m ((c : Thread nD τ).loc main_arg9)) shapeCasts_S384_S1x384 := by
  simp only [V, hostOps0, List.flatten_cons, List.flatten_nil, List.append_nil, List.cons_append, List.nil_append]
  entry_read
  rfl

/-- The offset, as the region finds it: one row. -/
theorem V_offset (c : Dev nD) : V m c main_v12 = shapeCast S1x384 (m ((c : Thread nD τ).loc main_arg10)) shapeCasts_S384_S1x384 := by
  simp only [V, hostOps0, List.flatten_cons, List.flatten_nil, List.append_nil, List.cons_append, List.nil_append]
  entry_read
  rfl

/-- The second gain, as the region finds it: the 64 lanes repeated for the six heads, in one row. -/
theorem V_tiled (c : Dev nD) : V m c main_v16 = shapeCast S1x384 (shapeCast S384 (broadcastInDim S6x64 ![0, 1] bcast_S1x64_S6x64_0_1
    (shapeCast S1x64 (m ((c : Thread nD τ).loc main_arg11) : FVec Ideal S64 .f32) shapeCasts_S64_S1x64)) shapeCasts_S6x64_S384) shapeCasts_S384_S1x384 := by
  simp only [V, hostOps0, List.flatten_cons, List.flatten_nil, List.append_nil, List.cons_append, List.nil_append]
  entry_read
  rfl

/-- A read of the first gain's block is a read of the gain. -/
theorem read_gain (c : Dev nD) (t : Fin cfg0.N) (x : Fin 384) : iblk m c 9 t (ix2 0 x) = m ((c : Thread nD τ).loc main_arg9) (ix1 x) := by
  have h := congrFun (V_gain m c) (((cfg0.win 9).blk t).view.emb (ix2 0 x))
  refine Eq.trans ?_ (h.trans ?_)
  · blk_simp [iblk]
  · pointwise
    blk_point [idx t]

/-- A read of the offset's block is a read of the offset. -/
theorem read_offset (c : Dev nD) (t : Fin cfg0.N) (x : Fin 384) : iblk m c 10 t (ix2 0 x) = m ((c : Thread nD τ).loc main_arg10) (ix1 x) := by
  have h := congrFun (V_offset m c) (((cfg0.win 10).blk t).view.emb (ix2 0 x))
  refine Eq.trans ?_ (h.trans ?_)
  · blk_simp [iblk]
  · pointwise
    blk_point [idx t]

/-- A read of the second gain's block is a read of the gain at the lane's place in its head. -/
theorem read_tiled (c : Dev nD) (t : Fin cfg0.N) (x : Fin 384) : iblk m c 11 t (ix2 0 x) = m ((c : Thread nD τ).loc main_arg11) (ix1 ⟨x.val % 64, by omega⟩) := by
  have h := congrFun (V_tiled m c) (((cfg0.win 11).blk t).view.emb (ix2 0 x))
  refine Eq.trans ?_ (h.trans ?_)
  · blk_simp [iblk]
  · pointwise
    blk_point [idx t]

/-- Dividing a lane's number by 64 as a machine integer numbers its head. -/
theorem lane_head : ∀ k : Fin 384, IntOp.divsi ArithUnit.host (BitVec.ofNat 32 k.val) 64#32 = BitVec.ofNat 32 (k.val / 64) := by decide +kernel

/-- The averaging matrix's block averages over heads. -/
theorem averages (c : Dev nD) (t : Fin cfg0.N) : Averages (iblk m c 12 t) := by
  intro k x
  have h := congrFun (V_avg m c) (((cfg0.win 12).blk t).view.emb (ix2 k x))
  have e : ((cfg0.win 12).blk t).view.emb (ix2 k x) = ix2 k x := by blk_point [idx t]
  refine Eq.trans ?_ ((h.trans (congrArg _ e)).trans ?_)
  · blk_simp [iblk]
  · pointwise
    rw [lane_head, lane_head, ofBits_inv64]
    by_cases hk : k.val / 64 = x.val / 64
    · rw [if_pos hk, hk]
      simp [IntOp.cmpi, FloatOps.uitofp]
    · have hn : ¬ BitVec.ofNat 32 (k.val / 64) = BitVec.ofNat 32 (x.val / 64) := fun he => hk (by
        have := congrArg BitVec.toNat he
        simp only [BitVec.toNat_ofNat] at this
        omega)
      rw [if_neg hk]
      simp [IntOp.cmpi, FloatOps.uitofp, beq_eq_false_iff_ne.mpr hn]

/-- A read of the second gate's block is a read of the argument, 1152 columns to the right. -/
theorem read_gate (c : Dev nD) (t : Fin cfg0.N) (r : Fin 512) (x : Fin 384) :
    X0_8 m c t (ix2 r x) = m ((c : Thread nD τ).loc main_arg8) (ix2 ⟨t.val * 512 + r.val, by have := t.isLt; have : cfg0.N = 64 := rfl; omega⟩ ⟨1152 + x.val, by omega⟩) := by
  unfold X0_8 Pipeline.Window.fill
  rw [dif_pos (moved0_8 t _)]
  blk_point [iblk, V, idx t]

/-- The row of the whole array that row `r` of a grid point's block is. -/
def row (t : Fin cfg0.N) (r : Fin 512) : Fin 32768 := ⟨t.val * 512 + r.val, by have := t.isLt; have : cfg0.N = 64 := rfl; omega⟩

/-- A read of a block of the input rows is a read of the argument. -/
theorem rows_0 (c : Dev nD) (t : Fin cfg0.N) (r : Fin 512) (x : Fin 1024) : iblk m c 0 t (ix2 r x) = m ((c : Thread nD τ).loc main_arg0) (ix2 (row t r) x) := by
  blk_point [iblk, V, idx t, row]

/-- A read of a block of the first mixer's finished rows is a read of the argument. -/
theorem rows_1 (c : Dev nD) (t : Fin cfg0.N) (r : Fin 512) (x : Fin 256) : iblk m c 1 t (ix2 r x) = m ((c : Thread nD τ).loc main_arg1) (ix2 (row t r) x) := by
  blk_point [iblk, V, idx t, row]

/-- A read of a block of the second mixer's forward rows is a read of the argument. -/
theorem rows_2 (c : Dev nD) (t : Fin cfg0.N) (r : Fin 512) (x : Fin 384) : iblk m c 2 t (ix2 r x) = m ((c : Thread nD τ).loc main_arg2) (ix2 (row t r) x) := by
  blk_point [iblk, V, idx t, row]

/-- A read of a block of the second mixer's backward rows is a read of the argument. -/
theorem rows_3 (c : Dev nD) (t : Fin cfg0.N) (r : Fin 512) (x : Fin 384) : iblk m c 3 t (ix2 r x) = m ((c : Thread nD τ).loc main_arg3) (ix2 (row t r) x) := by
  blk_point [iblk, V, idx t, row]

/-- A read of a block of the second mixer's gate is a read of the argument. -/
theorem rows_4 (c : Dev nD) (t : Fin cfg0.N) (r : Fin 512) (x : Fin 384) : iblk m c 4 t (ix2 r x) = m ((c : Thread nD τ).loc main_arg4) (ix2 (row t r) x) := by
  blk_point [iblk, V, idx t, row]

/-- A read of a block of the second mixer's bonus is a read of the argument. -/
theorem rows_5 (c : Dev nD) (t : Fin cfg0.N) (r : Fin 512) (x : Fin 384) : iblk m c 5 t (ix2 r x) = m ((c : Thread nD τ).loc main_arg5) (ix2 (row t r) x) := by
  blk_point [iblk, V, idx t, row]

/-- A read of a block of the third mixer's forward rows is a read of the argument. -/
theorem rows_6 (c : Dev nD) (t : Fin cfg0.N) (r : Fin 512) (x : Fin 384) : iblk m c 6 t (ix2 r x) = m ((c : Thread nD τ).loc main_arg6) (ix2 (row t r) x) := by
  blk_point [iblk, V, idx t, row]

/-- A read of a block of the third mixer's backward rows is a read of the argument. -/
theorem rows_7 (c : Dev nD) (t : Fin cfg0.N) (r : Fin 512) (x : Fin 384) : iblk m c 7 t (ix2 r x) = m ((c : Thread nD τ).loc main_arg7) (ix2 (row t r) x) := by
  blk_point [iblk, V, idx t, row]

/-- A read of the weights' block is a read of the weights. -/
theorem read_weight (c : Dev nD) (t : Fin cfg0.N) (a b : Fin 1024) : iblk m c 13 t (ix2 a b) = m ((c : Thread nD τ).loc main_arg12) (ix2 a b) := by
  blk_point [iblk, V, idx t]

/-- The second mixer's output before normalisation. -/
abbrev Y (c : Dev nD) : FVec Ideal S32768x384 .f32 := addf (m ((c : Thread nD τ).loc main_arg2)) (m ((c : Thread nD τ).loc main_arg3))

/-- The third mixer's output before normalisation. -/
abbrev O (c : Dev nD) : FVec Ideal S32768x384 .f32 := addf (m ((c : Thread nD τ).loc main_arg6)) (m ((c : Thread nD τ).loc main_arg7))

/-- The index of the result a grid point's entry lands on. -/
theorem out_index (t : Fin cfg0.N) (y : S512x1024.Idx) : ((cfg0.win 14).blk t).view.emb y = ix2 (row t (y 0)) (y 1) := by
  blk_point [idx t, row]

/-- What a grid point stores is the reference's result there. -/
theorem point (c : Dev nD) (t : Fin cfg0.N) (hY : ∀ i, Fin' (Y m c i)) (hO : ∀ i, Fin' (O m c i)) (g1 g2 g3) (y : S512x1024.Idx) :
    k0_pay1 (F := Ideal) (k0_pay4 (k0_pay3 (iblk m c 12 t) (iblk m c 2 t) (iblk m c 3 t) (iblk m c 9 t)) (iblk m c 10 t) (iblk m c 5 t) (iblk m c 4 t))
      (k0_pay5 (k0_pay2 (iblk m c 12 t)) (iblk m c 6 t) (iblk m c 7 t) (iblk m c 11 t)) (k0_pay6 (X0_8 m c t)) (iblk m c 1 t)
      (View.ld (iblk m c 13 t) (Rect.unit (s := S1024x1024) ![0, 0] ![256, 1024] g1)) (View.ld (iblk m c 13 t) (Rect.unit (s := S1024x1024) ![256, 0] ![384, 1024] g2))
      (View.ld (iblk m c 13 t) (Rect.unit (s := S1024x1024) ![640, 0] ![384, 1024] g3)) (iblk m c 0 t) y
      = REF (m ((c : Thread nD τ).loc main_arg0)) (m ((c : Thread nD τ).loc main_arg1)) (Y m c) (m ((c : Thread nD τ).loc main_arg4)) (m ((c : Thread nD τ).loc main_arg5)) (O m c)
          (m ((c : Thread nD τ).loc main_arg8)) (m ((c : Thread nD τ).loc main_arg9)) (m ((c : Thread nD τ).loc main_arg10)) (m ((c : Thread nD τ).loc main_arg11)) (m ((c : Thread nD τ).loc main_arg12))
          (((cfg0.win 14).blk t).view.emb y) :=
  (stored (averages m c t) (row t) hY hO (rows_0 m c t) (rows_1 m c t)
    (fun r k => congrArg₂ (fun a b : EReal => a + b) (rows_2 m c t r k) (rows_3 m c t r k)) (rows_4 m c t) (rows_5 m c t)
    (fun r k => congrArg₂ (fun a b : EReal => a + b) (rows_6 m c t r k) (rows_7 m c t r k)) (read_gate m c t) (read_gain m c t) (read_offset m c t)
    (read_tiled m c t) (read_weight m c t) g1 g2 g3 y).trans (congrArg _ (out_index t y).symm)

/-- The result array after the run is the reference's, when both mixers' rows are real. -/
theorem final (c : Dev nD) (hY : ∀ i, Fin' (Y m c i)) (hO : ∀ i, Fin' (O m c i)) : (dats m 0 c).arrAt 14 (cfgs 0).N
    = REF (m ((c : Thread nD τ).loc main_arg0)) (m ((c : Thread nD τ).loc main_arg1)) (Y m c) (m ((c : Thread nD τ).loc main_arg4)) (m ((c : Thread nD τ).loc main_arg5)) (O m c)
          (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t _ y => ?_
  blk_simp
  rw [after0_14, outsAt0]; frame_out
  exact point m c t hY hO _ _ _ y

/-- Under the precondition the result array after the run is the reference's. -/
theorem final_of_pre (h : Cert.Pre_MixOutIdeal_mix_finite (hPre_mix_finite := preFacts) m) (c : Dev nD) : (dats m 0 c).arrAt 14 (cfgs 0).N
    = REF (m ((c : Thread nD τ).loc main_arg0)) (m ((c : Thread nD τ).loc main_arg1)) (Y m c) (m ((c : Thread nD τ).loc main_arg4)) (m ((c : Thread nD τ).loc main_arg5)) (O m c)
          (m ((c : Thread nD τ).loc main_arg8)) (m ((c : Thread nD τ).loc main_arg9)) (m ((c : Thread nD τ).loc main_arg10)) (m ((c : Thread nD τ).loc main_arg11)) (m ((c : Thread nD τ).loc main_arg12)) :=
  final m c (fin_of_lt _ _ (h c).1) (fin_of_lt _ _ (h c).2)

end Cert.MixOutIdeal.Result

end
-- ==== Proof.lean ====
/- The certificate: the side conditions of every program, the frame of every program, and for each call
   of the layer the equality of the array the kernel leaves with the array the plain mathematics gives.
   Each equality is the last theorem of the call's own module; here they are put together. -/
module

public import proofs.«01_k».proof.Defs
public import proofs.«01_k».proof.Proof.Gen.Scan
public import proofs.«01_k».proof.Proof.Gen.Scan.Frame
public import proofs.«01_k».proof.Proof.Gen.ScanIdeal.Value
public import proofs.«01_k».proof.Proof.Gen.ScanRefIdeal.Run
public import proofs.«01_k».proof.Proof.Gen.Ffn
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnFinal
public import proofs.«01_k».proof.Proof.Gen.FfnFinal.Frame
public import proofs.«01_k».proof.Proof.Gen.FfnFinalIdeal.Value
public import proofs.«01_k».proof.Proof.Gen.FfnFinalRefIdeal.Run
public import proofs.«01_k».proof.Proof.Gen.Inproj
public import proofs.«01_k».proof.Proof.Gen.Inproj.Frame
public import proofs.«01_k».proof.Proof.Gen.InprojIdeal.Value
public import proofs.«01_k».proof.Proof.Gen.InprojRefIdeal.Run
public import proofs.«01_k».proof.Proof.Gen.MemKv
public import proofs.«01_k».proof.Proof.Gen.MemKv.Frame
public import proofs.«01_k».proof.Proof.Gen.MemKvIdeal.Value
public import proofs.«01_k».proof.Proof.Gen.MemKvRefIdeal.Run
public import proofs.«01_k».proof.Proof.Gen.Xattn
public import proofs.«01_k».proof.Proof.Gen.Xattn.Frame
public import proofs.«01_k».proof.Proof.Gen.XattnIdeal.Value
public import proofs.«01_k».proof.Proof.Gen.XattnRefIdeal.Run
public import proofs.«01_k».proof.Proof.Gen.MixOut
public import proofs.«01_k».proof.Proof.Gen.MixOut.Frame
public import proofs.«01_k».proof.Proof.Gen.MixOutIdeal.Value
public import proofs.«01_k».proof.Proof.Gen.MixOutRefIdeal.Run
public import proofs.«01_k».proof.Proof.ScanResult
public import proofs.«01_k».proof.Proof.FfnResult
public import proofs.«01_k».proof.Proof.FfnFinalResult
public import proofs.«01_k».proof.Proof.InprojResult
public import proofs.«01_k».proof.Proof.MemKvResult
public import proofs.«01_k».proof.Proof.XattnResult
public import proofs.«01_k».proof.Proof.MixOutResult
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The scan kernel, on finite arguments, leaves the two directions' outputs of the recurrence. -/
theorem algebraicScan : Cert.algebraic_ScanIdeal_ScanRefIdeal_pre_all_finite (hScanIdeal := Cert.ScanIdeal.Gen.facts)
    (hScanRefIdeal := Cert.ScanRefIdeal.Gen.facts) (hPre_all_finite := Cert.ScanIdeal.Result.preFacts) := by
  intro m g m' g' hpre hag
  have hx := Cert.ScanIdeal.Result.reads_of_pre m hpre
  refine ⟨fun c => Cert.ScanIdeal.Chunk.embA (Cert.ScanMath.Y (Cert.ScanIdeal.Result.argsOf m c) 0),
    fun c => Cert.ScanIdeal.Chunk.embA (Cert.ScanMath.Y (Cert.ScanIdeal.Result.argsOf m c) 1), ?_, ?_⟩
  · exact (θ_run Cert.ScanIdeal.defs _ _).mono (fun r h c => ⟨(h c).1.trans (Cert.ScanIdeal.Chunk.final_fw m c _ (hx c)),
      (h c).2.1.trans (Cert.ScanIdeal.Chunk.final_bw m c _ (hx c)), (h c).2.2⟩) (Cert.ScanIdeal.Value.run_blocks m g)
  · exact Cert.ScanRefIdeal.Result.run m' g' (Cert.ScanIdeal.Result.argsOf m)
      fun c => Cert.ScanIdeal.Result.ref_start m m' c _ (hx c) (hag c)

/-- The gated feed-forward kernel leaves the feed-forward of its token rows. -/
theorem algebraicFfn : Cert.algebraic_FfnIdeal_FfnRefIdeal (hFfnIdeal := Cert.FfnIdeal.Gen.facts)
    (hFfnRefIdeal := Cert.FfnRefIdeal.Gen.facts) := by
  pair_intro
  · run_from Cert.FfnIdeal.Value.run_blocks m g
  · hlo_run
    exact (Cert.FfnIdeal.Result.final m c).symm

/-- The last feed-forward kernel leaves the normalised feed-forward, the result of the whole layer. -/
theorem algebraicFfnFinal : Cert.algebraic_FfnFinalIdeal_FfnFinalRefIdeal (hFfnFinalIdeal := Cert.FfnFinalIdeal.Gen.facts)
    (hFfnFinalRefIdeal := Cert.FfnFinalRefIdeal.Gen.facts) := by
  pair_intro
  · run_from Cert.FfnFinalIdeal.Value.run_blocks m g
  · hlo_run
    exact (Cert.FfnFinalIdeal.Result.final m c).symm

/-- The input-projection kernel leaves the three branches' columns of the projected token rows. -/
theorem algebraicInproj : Cert.algebraic_InprojIdeal_InprojRefIdeal (hInprojIdeal := Cert.InprojIdeal.Gen.facts)
    (hInprojRefIdeal := Cert.InprojRefIdeal.Gen.facts) := by
  pair_intro
  · run_from Cert.InprojIdeal.Value.run_blocks m g
  · hlo_run
    · exact (Cert.InprojIdeal.Result.final0 m c).symm
    · exact (Cert.InprojIdeal.Result.final1 m c).symm
    · exact (Cert.InprojIdeal.Result.final2 m c).symm

/-- The memory kernel leaves the keys and the values of the memory tokens. -/
theorem algebraicMemKv : Cert.algebraic_MemKvIdeal_MemKvRefIdeal (hMemKvIdeal := Cert.MemKvIdeal.Gen.facts)
    (hMemKvRefIdeal := Cert.MemKvRefIdeal.Gen.facts) := by
  pair_intro
  · run_from Cert.MemKvIdeal.Value.run_blocks m g
  · hlo_run
    · exact (Cert.MemKvIdeal.Result.final_k m c).symm
    · exact (Cert.MemKvIdeal.Result.final_v m c).symm

/-- The cross-attention kernel leaves the token rows with the attended memory added. -/
theorem algebraicXattn : Cert.algebraic_XattnIdeal_XattnRefIdeal (hXattnIdeal := Cert.XattnIdeal.Gen.facts)
    (hXattnRefIdeal := Cert.XattnRefIdeal.Gen.facts) := by
  pair_intro
  · run_from Cert.XattnIdeal.Value.run_blocks m g
  · hlo_run
    exact (Cert.XattnIdeal.Result.final m c).symm

/-- The output-mixing kernel, on mixer rows whose two directions' sums are finite, leaves the token rows with the
    projected mixers added. -/
theorem algebraicMixOut : Cert.algebraic_MixOutIdeal_MixOutRefIdeal_pre_mix_finite (hMixOutIdeal := Cert.MixOutIdeal.Gen.facts)
    (hMixOutRefIdeal := Cert.MixOutRefIdeal.Gen.facts) (hPre_mix_finite := Cert.MixOutIdeal.Result.preFacts) := by
  intro m g m' g' hpre hag
  refine ⟨fun c => (Cert.MixOutIdeal.Gen.dats m 0 c).arrAt 14 Cert.MixOutIdeal.cfg0.N, Cert.MixOutIdeal.Value.run_blocks m g, ?_⟩
  refine (θ_run Cert.MixOutRefIdeal.defs _ _).mono (fun r h c => ⟨(h c).1.trans ?_, (h c).2⟩) (Cert.MixOutRefIdeal.Value.run m' g')
  obtain ⟨e0, e1, e2, e3, e4, e5, e6, e7, e8, e9, e10, e11, e12⟩ := hag c
  rw [Cert.MixOutRefIdeal.Result.final, e0, e1, e2, e3, e4, e5, e6, e7, e8, e9, e10, e11, e12]
  exact (Cert.MixOutIdeal.Result.final_of_pre m hpre c).symm

/-- The mathematics of Scan as a program: its run keeps its arguments, and it has no counters. -/
theorem frameScanRef : Cert.quiescent_ScanRefIdeal (hScanRefIdeal := Cert.ScanRefIdeal.Gen.facts) := fun m ρ _ =>
  (θ_run Cert.ScanRefIdeal.defs _ _).mono (fun r h => ⟨fun c => (h c).2.2, sem_eq_zero_of_no_sems (by decide) r.2⟩)
    (Cert.ScanRefIdeal.Value.run (F := Ideal) m ρ)

/-- The mathematics of Ffn as a program: its run keeps its arguments, and it has no counters. -/
theorem frameFfnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The mathematics of FfnFinal as a program: its run keeps its arguments, and it has no counters. -/
theorem frameFfnFinalRef : Cert.quiescent_FfnFinalRefIdeal (hFfnFinalRefIdeal := Cert.FfnFinalRefIdeal.Gen.facts) := fun m ρ _ =>
  (θ_run Cert.FfnFinalRefIdeal.defs _ _).mono (fun r h => ⟨fun c => (h c).2, sem_eq_zero_of_no_sems (by decide) r.2⟩)
    (Cert.FfnFinalRefIdeal.Value.run (F := Ideal) m ρ)

/-- The mathematics of Inproj as a program: its run keeps its arguments, and it has no counters. -/
theorem frameInprojRef : Cert.quiescent_InprojRefIdeal (hInprojRefIdeal := Cert.InprojRefIdeal.Gen.facts) := fun m ρ _ =>
  (θ_run Cert.InprojRefIdeal.defs _ _).mono (fun r h => ⟨fun c => (h c).2.2.2, sem_eq_zero_of_no_sems (by decide) r.2⟩)
    (Cert.InprojRefIdeal.Value.run (F := Ideal) m ρ)

/-- The mathematics of MemKv as a program: its run keeps its arguments, and it has no counters. -/
theorem frameMemKvRef : Cert.quiescent_MemKvRefIdeal (hMemKvRefIdeal := Cert.MemKvRefIdeal.Gen.facts) := fun m ρ _ =>
  (θ_run Cert.MemKvRefIdeal.defs _ _).mono (fun r h => ⟨fun c => (h c).2.2, sem_eq_zero_of_no_sems (by decide) r.2⟩)
    (Cert.MemKvRefIdeal.Value.run (F := Ideal) m ρ)

/-- The mathematics of Xattn as a program: its run keeps its arguments, and it has no counters. -/
theorem frameXattnRef : Cert.quiescent_XattnRefIdeal (hXattnRefIdeal := Cert.XattnRefIdeal.Gen.facts) := fun m ρ _ =>
  (θ_run Cert.XattnRefIdeal.defs _ _).mono (fun r h => ⟨fun c => (h c).2, sem_eq_zero_of_no_sems (by decide) r.2⟩)
    (Cert.XattnRefIdeal.Value.run (F := Ideal) m ρ)

/-- The mathematics of MixOut as a program: its run keeps its arguments, and it has no counters. -/
theorem frameMixOutRef : Cert.quiescent_MixOutRefIdeal (hMixOutRefIdeal := Cert.MixOutRefIdeal.Gen.facts) := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The whole claim. -/
theorem claim : Cert.Claim :=
  ⟨Cert.Scan.Gen.facts, Cert.ScanIdeal.Gen.facts, Cert.ScanRefIdeal.Gen.facts,
   Cert.Ffn.Gen.facts, Cert.FfnIdeal.Gen.facts, Cert.FfnRefIdeal.Gen.facts,
   Cert.FfnFinal.Gen.facts, Cert.FfnFinalIdeal.Gen.facts, Cert.FfnFinalRefIdeal.Gen.facts,
   Cert.Inproj.Gen.facts, Cert.InprojIdeal.Gen.facts, Cert.InprojRefIdeal.Gen.facts,
   Cert.MemKv.Gen.facts, Cert.MemKvIdeal.Gen.facts, Cert.MemKvRefIdeal.Gen.facts,
   Cert.Xattn.Gen.facts, Cert.XattnIdeal.Gen.facts, Cert.XattnRefIdeal.Gen.facts,
   Cert.MixOut.Gen.facts, Cert.MixOutIdeal.Gen.facts, Cert.MixOutRefIdeal.Gen.facts,
   Cert.ScanIdeal.Result.preFacts, Cert.MixOutIdeal.Result.preFacts,
   fun m ρ _ => Cert.Scan.Gen.frame m ρ,
   fun m ρ _ => Cert.ScanIdeal.Gen.frame m ρ,
   fun m ρ _ => Cert.ScanIdeal.Gen.frame m ρ,
   frameScanRef,
   fun m ρ _ => frameScanRef m ρ True.intro,
   fun m ρ _ => Cert.Ffn.Gen.frame m ρ,
   fun m ρ _ => Cert.FfnIdeal.Gen.frame m ρ,
   frameFfnRef,
   fun m ρ _ => Cert.FfnFinal.Gen.frame m ρ,
   fun m ρ _ => Cert.FfnFinalIdeal.Gen.frame m ρ,
   frameFfnFinalRef,
   fun m ρ _ => Cert.Inproj.Gen.frame m ρ,
   fun m ρ _ => Cert.InprojIdeal.Gen.frame m ρ,
   frameInprojRef,
   fun m ρ _ => Cert.MemKv.Gen.frame m ρ,
   fun m ρ _ => Cert.MemKvIdeal.Gen.frame m ρ,
   frameMemKvRef,
   fun m ρ _ => Cert.Xattn.Gen.frame m ρ,
   fun m ρ _ => Cert.XattnIdeal.Gen.frame m ρ,
   frameXattnRef,
   fun m ρ _ => Cert.MixOut.Gen.frame m ρ,
   fun m ρ _ => Cert.MixOutIdeal.Gen.frame m ρ,
   fun m ρ _ => Cert.MixOutIdeal.Gen.frame m ρ,
   frameMixOutRef,
   fun m ρ _ => frameMixOutRef m ρ True.intro,
   trivial, algebraicScan,
   trivial, algebraicFfn,
   trivial, algebraicFfnFinal,
   trivial, algebraicInproj,
   trivial, algebraicMemKv,
   trivial, algebraicXattn,
   trivial, algebraicMixOut⟩

end Cert.Proof

end
